-- ==== Defs.lean ====
def Pre_DilSample (m : (ℓ : Loc Cert.DilSample.nD Cert.DilSample.τ Cert.DilSample.sig) → Buf (Elt Bits) ℓ) : Prop :=
  True

def Pre_DilSampleIdeal (m : (ℓ : Loc Cert.DilSampleIdeal.nD Cert.DilSampleIdeal.τ Cert.DilSampleIdeal.sig) → Buf (Elt Ideal) ℓ) : Prop :=
  True

def Pre_DilSampleIdeal_ds_finite [hPre_ds_finite : Cert.Pre_ds_finite.Facts] (m : (ℓ : Loc Cert.DilSampleIdeal.nD Cert.DilSampleIdeal.τ Cert.DilSampleIdeal.sig) → Buf (Elt Ideal) ℓ) : Prop :=
  ∀ c : Dev Cert.DilSampleIdeal.nD,
    (Cert.Pre_ds_finite.fn (F := Ideal) (m ((c.tc : Thread Cert.DilSampleIdeal.nD Cert.DilSampleIdeal.τ).loc Cert.DilSampleIdeal.main_arg0)) (m ((c.tc : Thread Cert.DilSampleIdeal.nD Cert.DilSampleIdeal.τ).loc Cert.DilSampleIdeal.main_arg1)) (m ((c.tc : Thread Cert.DilSampleIdeal.nD Cert.DilSampleIdeal.τ).loc Cert.DilSampleIdeal.main_arg2)) (m ((c.tc : Thread Cert.DilSampleIdeal.nD Cert.DilSampleIdeal.τ).loc Cert.DilSampleIdeal.main_arg3)) (m ((c.tc : Thread Cert.DilSampleIdeal.nD Cert.DilSampleIdeal.τ).loc Cert.DilSampleIdeal.main_arg4))) = (fun _ => 1#1)

def Pre_DilSampleRefIdeal (m : (ℓ : Loc Cert.DilSampleRefIdeal.nD Cert.DilSampleRefIdeal.τ Cert.DilSampleRefIdeal.sig) → Buf (Elt Ideal) ℓ) : Prop :=
  True

def Pre_DilSampleRefIdeal_ds_finite [hPre_ds_finite : Cert.Pre_ds_finite.Facts] (m : (ℓ : Loc Cert.DilSampleRefIdeal.nD Cert.DilSampleRefIdeal.τ Cert.DilSampleRefIdeal.sig) → Buf (Elt Ideal) ℓ) : Prop :=
  ∀ c : Dev Cert.DilSampleRefIdeal.nD,
    (Cert.Pre_ds_finite.fn (F := Ideal) (m ((c.tc : Thread Cert.DilSampleRefIdeal.nD Cert.DilSampleRefIdeal.τ).loc Cert.DilSampleRefIdeal.main_arg0)) (m ((c.tc : Thread Cert.DilSampleRefIdeal.nD Cert.DilSampleRefIdeal.τ).loc Cert.DilSampleRefIdeal.main_arg1)) (m ((c.tc : Thread Cert.DilSampleRefIdeal.nD Cert.DilSampleRefIdeal.τ).loc Cert.DilSampleRefIdeal.main_arg2)) (m ((c.tc : Thread Cert.DilSampleRefIdeal.nD Cert.DilSampleRefIdeal.τ).loc Cert.DilSampleRefIdeal.main_arg3)) (m ((c.tc : Thread Cert.DilSampleRefIdeal.nD Cert.DilSampleRefIdeal.τ).loc Cert.DilSampleRefIdeal.main_arg4))) = (fun _ => 1#1)

def Pre_DenseFfn (m : (ℓ : Loc Cert.DenseFfn.nD Cert.DenseFfn.τ Cert.DenseFfn.sig) → Buf (Elt Bits) ℓ) : Prop :=
  True

def Pre_DenseFfnIdeal (m : (ℓ : Loc Cert.DenseFfnIdeal.nD Cert.DenseFfnIdeal.τ Cert.DenseFfnIdeal.sig) → Buf (Elt Ideal) ℓ) : Prop :=
  True

def Pre_DenseFfnRefIdeal (m : (ℓ : Loc Cert.DenseFfnRefIdeal.nD Cert.DenseFfnRefIdeal.τ Cert.DenseFfnRefIdeal.sig) → Buf (Elt Ideal) ℓ) : Prop :=
  True

def Pre_MoeGu [hPre_moe_gu_tiles : Cert.Pre_moe_gu_tiles.Facts] (m : (ℓ : Loc Cert.MoeGu.nD Cert.MoeGu.τ Cert.MoeGu.sig) → Buf (Elt Bits) ℓ) : Prop :=
  ∀ c : Dev Cert.MoeGu.nD,
    (Cert.Pre_moe_gu_tiles.fn (F := Bits) (m ((c.tc : Thread Cert.MoeGu.nD Cert.MoeGu.τ).loc Cert.MoeGu.main_arg0)) (m ((c.tc : Thread Cert.MoeGu.nD Cert.MoeGu.τ).loc Cert.MoeGu.main_arg1)) (m ((c.tc : Thread Cert.MoeGu.nD Cert.MoeGu.τ).loc Cert.MoeGu.main_arg2)) (m ((c.tc : Thread Cert.MoeGu.nD Cert.MoeGu.τ).loc Cert.MoeGu.main_arg3))) = (fun _ => 1#1)

def Pre_MoeGuIdeal [hPre_moe_gu_tiles : Cert.Pre_moe_gu_tiles.Facts] (m : (ℓ : Loc Cert.MoeGuIdeal.nD Cert.MoeGuIdeal.τ Cert.MoeGuIdeal.sig) → Buf (Elt Ideal) ℓ) : Prop :=
  ∀ c : Dev Cert.MoeGuIdeal.nD,
    (Cert.Pre_moe_gu_tiles.fn (F := Ideal) (m ((c.tc : Thread Cert.MoeGuIdeal.nD Cert.MoeGuIdeal.τ).loc Cert.MoeGuIdeal.main_arg0)) (m ((c.tc : Thread Cert.MoeGuIdeal.nD Cert.MoeGuIdeal.τ).loc Cert.MoeGuIdeal.main_arg1)) (m ((c.tc : Thread Cert.MoeGuIdeal.nD Cert.MoeGuIdeal.τ).loc Cert.MoeGuIdeal.main_arg2)) (m ((c.tc : Thread Cert.MoeGuIdeal.nD Cert.MoeGuIdeal.τ).loc Cert.MoeGuIdeal.main_arg3))) = (fun _ => 1#1)

def Pre_MoeGuRefIdeal (m : (ℓ : Loc Cert.MoeGuRefIdeal.nD Cert.MoeGuRefIdeal.τ Cert.MoeGuRefIdeal.sig) → Buf (Elt Ideal) ℓ) : Prop :=
  True

def Pre_MoeGuRefIdeal_moe_gu_tiles [hPre_moe_gu_tiles : Cert.Pre_moe_gu_tiles.Facts] (m : (ℓ : Loc Cert.MoeGuRefIdeal.nD Cert.MoeGuRefIdeal.τ Cert.MoeGuRefIdeal.sig) → Buf (Elt Ideal) ℓ) : Prop :=
  ∀ c : Dev Cert.MoeGuRefIdeal.nD,
    (Cert.Pre_moe_gu_tiles.fn (F := Ideal) (m ((c.tc : Thread Cert.MoeGuRefIdeal.nD Cert.MoeGuRefIdeal.τ).loc Cert.MoeGuRefIdeal.main_arg0)) (m ((c.tc : Thread Cert.MoeGuRefIdeal.nD Cert.MoeGuRefIdeal.τ).loc Cert.MoeGuRefIdeal.main_arg1)) (m ((c.tc : Thread Cert.MoeGuRefIdeal.nD Cert.MoeGuRefIdeal.τ).loc Cert.MoeGuRefIdeal.main_arg2)) (m ((c.tc : Thread Cert.MoeGuRefIdeal.nD Cert.MoeGuRefIdeal.τ).loc Cert.MoeGuRefIdeal.main_arg3))) = (fun _ => 1#1)

def Pre_MoeDown [hPre_moe_down_tiles : Cert.Pre_moe_down_tiles.Facts] (m : (ℓ : Loc Cert.MoeDown.nD Cert.MoeDown.τ Cert.MoeDown.sig) → Buf (Elt Bits) ℓ) : Prop :=
  ∀ c : Dev Cert.MoeDown.nD,
    (Cert.Pre_moe_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_moe_down_tiles : Cert.Pre_moe_down_tiles.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_moe_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_moe_down_tiles [hPre_moe_down_tiles : Cert.Pre_moe_down_tiles.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_moe_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_QkvSample (m : (ℓ : Loc Cert.QkvSample.nD Cert.QkvSample.τ Cert.QkvSample.sig) → Buf (Elt Bits) ℓ) : Prop :=
  True

def Pre_QkvSampleIdeal (m : (ℓ : Loc Cert.QkvSampleIdeal.nD Cert.QkvSampleIdeal.τ Cert.QkvSampleIdeal.sig) → Buf (Elt Ideal) ℓ) : Prop :=
  True

def Pre_QkvSampleRefIdeal (m : (ℓ : Loc Cert.QkvSampleRefIdeal.nD Cert.QkvSampleRefIdeal.τ Cert.QkvSampleRefIdeal.sig) → Buf (Elt Ideal) ℓ) : Prop :=
  True

def quiescent_DilSample [hDilSample : Cert.DilSample.Facts] : Prop :=
  ∀ (m : (ℓ : Loc Cert.DilSample.nD Cert.DilSample.τ Cert.DilSample.sig) → Buf (Elt Bits) ℓ) (g : Dev Cert.DilSample.nD → PrngReg), Pre_DilSample m →
    θ_run (Cert.DilSample.defs (F := Bits)) (onTc (τ := Cert.DilSample.τ) (Cert.DilSample.main (F := Bits))) ⟨m, fun _ => 0, g⟩ (fun r => (∀ c : Dev Cert.DilSample.nD,
      r.2.mem ((c.tc : Thread Cert.DilSample.nD Cert.DilSample.τ).loc Cert.DilSample.main_arg0) = m ((c.tc : Thread Cert.DilSample.nD Cert.DilSample.τ).loc Cert.DilSample.main_arg0)
      ∧ r.2.mem ((c.tc : Thread Cert.DilSample.nD Cert.DilSample.τ).loc Cert.DilSample.main_arg1) = m ((c.tc : Thread Cert.DilSample.nD Cert.DilSample.τ).loc Cert.DilSample.main_arg1)
      ∧ r.2.mem ((c.tc : Thread Cert.DilSample.nD Cert.DilSample.τ).loc Cert.DilSample.main_arg2) = m ((c.tc : Thread Cert.DilSample.nD Cert.DilSample.τ).loc Cert.DilSample.main_arg2)
      ∧ r.2.mem ((c.tc : Thread Cert.DilSample.nD Cert.DilSample.τ).loc Cert.DilSample.main_arg3) = m ((c.tc : Thread Cert.DilSample.nD Cert.DilSample.τ).loc Cert.DilSample.main_arg3)
      ∧ r.2.mem ((c.tc : Thread Cert.DilSample.nD Cert.DilSample.τ).loc Cert.DilSample.main_arg4) = m ((c.tc : Thread Cert.DilSample.nD Cert.DilSample.τ).loc Cert.DilSample.main_arg4))
      ∧ r.2.sem = fun _ => 0)

def quiescent_DilSampleIdeal [hDilSampleIdeal : Cert.DilSampleIdeal.Facts] : Prop :=
  ∀ (m : (ℓ : Loc Cert.DilSampleIdeal.nD Cert.DilSampleIdeal.τ Cert.DilSampleIdeal.sig) → Buf (Elt Ideal) ℓ) (g : Dev Cert.DilSampleIdeal.nD → PrngReg), Pre_DilSampleIdeal m →
    θ_run (Cert.DilSampleIdeal.defs (F := Ideal)) (onTc (τ := Cert.DilSampleIdeal.τ) (Cert.DilSampleIdeal.main (F := Ideal))) ⟨m, fun _ => 0, g⟩ (fun r => (∀ c : Dev Cert.DilSampleIdeal.nD,
      r.2.mem ((c.tc : Thread Cert.DilSampleIdeal.nD Cert.DilSampleIdeal.τ).loc Cert.DilSampleIdeal.main_arg0) = m ((c.tc : Thread Cert.DilSampleIdeal.nD Cert.DilSampleIdeal.τ).loc Cert.DilSampleIdeal.main_arg0)
      ∧ r.2.mem ((c.tc : Thread Cert.DilSampleIdeal.nD Cert.DilSampleIdeal.τ).loc Cert.DilSampleIdeal.main_arg1) = m ((c.tc : Thread Cert.DilSampleIdeal.nD Cert.DilSampleIdeal.τ).loc Cert.DilSampleIdeal.main_arg1)
      ∧ r.2.mem ((c.tc : Thread Cert.DilSampleIdeal.nD Cert.DilSampleIdeal.τ).loc Cert.DilSampleIdeal.main_arg2) = m ((c.tc : Thread Cert.DilSampleIdeal.nD Cert.DilSampleIdeal.τ).loc Cert.DilSampleIdeal.main_arg2)
      ∧ r.2.mem ((c.tc : Thread Cert.DilSampleIdeal.nD Cert.DilSampleIdeal.τ).loc Cert.DilSampleIdeal.main_arg3) = m ((c.tc : Thread Cert.DilSampleIdeal.nD Cert.DilSampleIdeal.τ).loc Cert.DilSampleIdeal.main_arg3)
      ∧ r.2.mem ((c.tc : Thread Cert.DilSampleIdeal.nD Cert.DilSampleIdeal.τ).loc Cert.DilSampleIdeal.main_arg4) = m ((c.tc : Thread Cert.DilSampleIdeal.nD Cert.DilSampleIdeal.τ).loc Cert.DilSampleIdeal.main_arg4))
      ∧ r.2.sem = fun _ => 0)

def quiescent_DilSampleIdeal_pre_ds_finite [hDilSampleIdeal : Cert.DilSampleIdeal.Facts] [hPre_ds_finite : Cert.Pre_ds_finite.Facts] : Prop :=
  ∀ (m : (ℓ : Loc Cert.DilSampleIdeal.nD Cert.DilSampleIdeal.τ Cert.DilSampleIdeal.sig) → Buf (Elt Ideal) ℓ) (g : Dev Cert.DilSampleIdeal.nD → PrngReg), Pre_DilSampleIdeal_ds_finite m →
    θ_run (Cert.DilSampleIdeal.defs (F := Ideal)) (onTc (τ := Cert.DilSampleIdeal.τ) (Cert.DilSampleIdeal.main (F := Ideal))) ⟨m, fun _ => 0, g⟩ (fun r => (∀ c : Dev Cert.DilSampleIdeal.nD,
      r.2.mem ((c.tc : Thread Cert.DilSampleIdeal.nD Cert.DilSampleIdeal.τ).loc Cert.DilSampleIdeal.main_arg0) = m ((c.tc : Thread Cert.DilSampleIdeal.nD Cert.DilSampleIdeal.τ).loc Cert.DilSampleIdeal.main_arg0)
      ∧ r.2.mem ((c.tc : Thread Cert.DilSampleIdeal.nD Cert.DilSampleIdeal.τ).loc Cert.DilSampleIdeal.main_arg1) = m ((c.tc : Thread Cert.DilSampleIdeal.nD Cert.DilSampleIdeal.τ).loc Cert.DilSampleIdeal.main_arg1)
      ∧ r.2.mem ((c.tc : Thread Cert.DilSampleIdeal.nD Cert.DilSampleIdeal.τ).loc Cert.DilSampleIdeal.main_arg2) = m ((c.tc : Thread Cert.DilSampleIdeal.nD Cert.DilSampleIdeal.τ).loc Cert.DilSampleIdeal.main_arg2)
      ∧ r.2.mem ((c.tc : Thread Cert.DilSampleIdeal.nD Cert.DilSampleIdeal.τ).loc Cert.DilSampleIdeal.main_arg3) = m ((c.tc : Thread Cert.DilSampleIdeal.nD Cert.DilSampleIdeal.τ).loc Cert.DilSampleIdeal.main_arg3)
      ∧ r.2.mem ((c.tc : Thread Cert.DilSampleIdeal.nD Cert.DilSampleIdeal.τ).loc Cert.DilSampleIdeal.main_arg4) = m ((c.tc : Thread Cert.DilSampleIdeal.nD Cert.DilSampleIdeal.τ).loc Cert.DilSampleIdeal.main_arg4))
      ∧ r.2.sem = fun _ => 0)

def quiescent_DilSampleRefIdeal [hDilSampleRefIdeal : Cert.DilSampleRefIdeal.Facts] : Prop :=
  ∀ (m : (ℓ : Loc Cert.DilSampleRefIdeal.nD Cert.DilSampleRefIdeal.τ Cert.DilSampleRefIdeal.sig) → Buf (Elt Ideal) ℓ) (g : Dev Cert.DilSampleRefIdeal.nD → PrngReg), Pre_DilSampleRefIdeal m →
    θ_run (Cert.DilSampleRefIdeal.defs (F := Ideal)) (onTc (τ := Cert.DilSampleRefIdeal.τ) (Cert.DilSampleRefIdeal.main (F := Ideal))) ⟨m, fun _ => 0, g⟩ (fun r => (∀ c : Dev Cert.DilSampleRefIdeal.nD,
      r.2.mem ((c.tc : Thread Cert.DilSampleRefIdeal.nD Cert.DilSampleRefIdeal.τ).loc Cert.DilSampleRefIdeal.main_arg0) = m ((c.tc : Thread Cert.DilSampleRefIdeal.nD Cert.DilSampleRefIdeal.τ).loc Cert.DilSampleRefIdeal.main_arg0)
      ∧ r.2.mem ((c.tc : Thread Cert.DilSampleRefIdeal.nD Cert.DilSampleRefIdeal.τ).loc Cert.DilSampleRefIdeal.main_arg1) = m ((c.tc : Thread Cert.DilSampleRefIdeal.nD Cert.DilSampleRefIdeal.τ).loc Cert.DilSampleRefIdeal.main_arg1)
      ∧ r.2.mem ((c.tc : Thread Cert.DilSampleRefIdeal.nD Cert.DilSampleRefIdeal.τ).loc Cert.DilSampleRefIdeal.main_arg2) = m ((c.tc : Thread Cert.DilSampleRefIdeal.nD Cert.DilSampleRefIdeal.τ).loc Cert.DilSampleRefIdeal.main_arg2)
      ∧ r.2.mem ((c.tc : Thread Cert.DilSampleRefIdeal.nD Cert.DilSampleRefIdeal.τ).loc Cert.DilSampleRefIdeal.main_arg3) = m ((c.tc : Thread Cert.DilSampleRefIdeal.nD Cert.DilSampleRefIdeal.τ).loc Cert.DilSampleRefIdeal.main_arg3)
      ∧ r.2.mem ((c.tc : Thread Cert.DilSampleRefIdeal.nD Cert.DilSampleRefIdeal.τ).loc Cert.DilSampleRefIdeal.main_arg4) = m ((c.tc : Thread Cert.DilSampleRefIdeal.nD Cert.DilSampleRefIdeal.τ).loc Cert.DilSampleRefIdeal.main_arg4))
      ∧ r.2.sem = fun _ => 0)

def quiescent_DilSampleRefIdeal_pre_ds_finite [hDilSampleRefIdeal : Cert.DilSampleRefIdeal.Facts] [hPre_ds_finite : Cert.Pre_ds_finite.Facts] : Prop :=
  ∀ (m : (ℓ : Loc Cert.DilSampleRefIdeal.nD Cert.DilSampleRefIdeal.τ Cert.DilSampleRefIdeal.sig) → Buf (Elt Ideal) ℓ) (g : Dev Cert.DilSampleRefIdeal.nD → PrngReg), Pre_DilSampleRefIdeal_ds_finite m →
    θ_run (Cert.DilSampleRefIdeal.defs (F := Ideal)) (onTc (τ := Cert.DilSampleRefIdeal.τ) (Cert.DilSampleRefIdeal.main (F := Ideal))) ⟨m, fun _ => 0, g⟩ (fun r => (∀ c : Dev Cert.DilSampleRefIdeal.nD,
      r.2.mem ((c.tc : Thread Cert.DilSampleRefIdeal.nD Cert.DilSampleRefIdeal.τ).loc Cert.DilSampleRefIdeal.main_arg0) = m ((c.tc : Thread Cert.DilSampleRefIdeal.nD Cert.DilSampleRefIdeal.τ).loc Cert.DilSampleRefIdeal.main_arg0)
      ∧ r.2.mem ((c.tc : Thread Cert.DilSampleRefIdeal.nD Cert.DilSampleRefIdeal.τ).loc Cert.DilSampleRefIdeal.main_arg1) = m ((c.tc : Thread Cert.DilSampleRefIdeal.nD Cert.DilSampleRefIdeal.τ).loc Cert.DilSampleRefIdeal.main_arg1)
      ∧ r.2.mem ((c.tc : Thread Cert.DilSampleRefIdeal.nD Cert.DilSampleRefIdeal.τ).loc Cert.DilSampleRefIdeal.main_arg2) = m ((c.tc : Thread Cert.DilSampleRefIdeal.nD Cert.DilSampleRefIdeal.τ).loc Cert.DilSampleRefIdeal.main_arg2)
      ∧ r.2.mem ((c.tc : Thread Cert.DilSampleRefIdeal.nD Cert.DilSampleRefIdeal.τ).loc Cert.DilSampleRefIdeal.main_arg3) = m ((c.tc : Thread Cert.DilSampleRefIdeal.nD Cert.DilSampleRefIdeal.τ).loc Cert.DilSampleRefIdeal.main_arg3)
      ∧ r.2.mem ((c.tc : Thread Cert.DilSampleRefIdeal.nD Cert.DilSampleRefIdeal.τ).loc Cert.DilSampleRefIdeal.main_arg4) = m ((c.tc : Thread Cert.DilSampleRefIdeal.nD Cert.DilSampleRefIdeal.τ).loc Cert.DilSampleRefIdeal.main_arg4))
      ∧ r.2.sem = fun _ => 0)

def quiescent_DenseFfn [hDenseFfn : Cert.DenseFfn.Facts] : Prop :=
  ∀ (m : (ℓ : Loc Cert.DenseFfn.nD Cert.DenseFfn.τ Cert.DenseFfn.sig) → Buf (Elt Bits) ℓ) (g : Dev Cert.DenseFfn.nD → PrngReg), Pre_DenseFfn m →
    θ_run (Cert.DenseFfn.defs (F := Bits)) (onTc (τ := Cert.DenseFfn.τ) (Cert.DenseFfn.main (F := Bits))) ⟨m, fun _ => 0, g⟩ (fun r => (∀ c : Dev Cert.DenseFfn.nD,
      r.2.mem ((c.tc : Thread Cert.DenseFfn.nD Cert.DenseFfn.τ).loc Cert.DenseFfn.main_arg0) = m ((c.tc : Thread Cert.DenseFfn.nD Cert.DenseFfn.τ).loc Cert.DenseFfn.main_arg0)
      ∧ r.2.mem ((c.tc : Thread Cert.DenseFfn.nD Cert.DenseFfn.τ).loc Cert.DenseFfn.main_arg1) = m ((c.tc : Thread Cert.DenseFfn.nD Cert.DenseFfn.τ).loc Cert.DenseFfn.main_arg1)
      ∧ r.2.mem ((c.tc : Thread Cert.DenseFfn.nD Cert.DenseFfn.τ).loc Cert.DenseFfn.main_arg2) = m ((c.tc : Thread Cert.DenseFfn.nD Cert.DenseFfn.τ).loc Cert.DenseFfn.main_arg2)
      ∧ r.2.mem ((c.tc : Thread Cert.DenseFfn.nD Cert.DenseFfn.τ).loc Cert.DenseFfn.main_arg3) = m ((c.tc : Thread Cert.DenseFfn.nD Cert.DenseFfn.τ).loc Cert.DenseFfn.main_arg3))
      ∧ r.2.sem = fun _ => 0)

def quiescent_DenseFfnIdeal [hDenseFfnIdeal : Cert.DenseFfnIdeal.Facts] : Prop :=
  ∀ (m : (ℓ : Loc Cert.DenseFfnIdeal.nD Cert.DenseFfnIdeal.τ Cert.DenseFfnIdeal.sig) → Buf (Elt Ideal) ℓ) (g : Dev Cert.DenseFfnIdeal.nD → PrngReg), Pre_DenseFfnIdeal m →
    θ_run (Cert.DenseFfnIdeal.defs (F := Ideal)) (onTc (τ := Cert.DenseFfnIdeal.τ) (Cert.DenseFfnIdeal.main (F := Ideal))) ⟨m, fun _ => 0, g⟩ (fun r => (∀ c : Dev Cert.DenseFfnIdeal.nD,
      r.2.mem ((c.tc : Thread Cert.DenseFfnIdeal.nD Cert.DenseFfnIdeal.τ).loc Cert.DenseFfnIdeal.main_arg0) = m ((c.tc : Thread Cert.DenseFfnIdeal.nD Cert.DenseFfnIdeal.τ).loc Cert.DenseFfnIdeal.main_arg0)
      ∧ r.2.mem ((c.tc : Thread Cert.DenseFfnIdeal.nD Cert.DenseFfnIdeal.τ).loc Cert.DenseFfnIdeal.main_arg1) = m ((c.tc : Thread Cert.DenseFfnIdeal.nD Cert.DenseFfnIdeal.τ).loc Cert.DenseFfnIdeal.main_arg1)
      ∧ r.2.mem ((c.tc : Thread Cert.DenseFfnIdeal.nD Cert.DenseFfnIdeal.τ).loc Cert.DenseFfnIdeal.main_arg2) = m ((c.tc : Thread Cert.DenseFfnIdeal.nD Cert.DenseFfnIdeal.τ).loc Cert.DenseFfnIdeal.main_arg2)
      ∧ r.2.mem ((c.tc : Thread Cert.DenseFfnIdeal.nD Cert.DenseFfnIdeal.τ).loc Cert.DenseFfnIdeal.main_arg3) = m ((c.tc : Thread Cert.DenseFfnIdeal.nD Cert.DenseFfnIdeal.τ).loc Cert.DenseFfnIdeal.main_arg3))
      ∧ r.2.sem = fun _ => 0)

def quiescent_DenseFfnRefIdeal [hDenseFfnRefIdeal : Cert.DenseFfnRefIdeal.Facts] : Prop :=
  ∀ (m : (ℓ : Loc Cert.DenseFfnRefIdeal.nD Cert.DenseFfnRefIdeal.τ Cert.DenseFfnRefIdeal.sig) → Buf (Elt Ideal) ℓ) (g : Dev Cert.DenseFfnRefIdeal.nD → PrngReg), Pre_DenseFfnRefIdeal m →
    θ_run (Cert.DenseFfnRefIdeal.defs (F := Ideal)) (onTc (τ := Cert.DenseFfnRefIdeal.τ) (Cert.DenseFfnRefIdeal.main (F := Ideal))) ⟨m, fun _ => 0, g⟩ (fun r => (∀ c : Dev Cert.DenseFfnRefIdeal.nD,
      r.2.mem ((c.tc : Thread Cert.DenseFfnRefIdeal.nD Cert.DenseFfnRefIdeal.τ).loc Cert.DenseFfnRefIdeal.main_arg0) = m ((c.tc : Thread Cert.DenseFfnRefIdeal.nD Cert.DenseFfnRefIdeal.τ).loc Cert.DenseFfnRefIdeal.main_arg0)
      ∧ r.2.mem ((c.tc : Thread Cert.DenseFfnRefIdeal.nD Cert.DenseFfnRefIdeal.τ).loc Cert.DenseFfnRefIdeal.main_arg1) = m ((c.tc : Thread Cert.DenseFfnRefIdeal.nD Cert.DenseFfnRefIdeal.τ).loc Cert.DenseFfnRefIdeal.main_arg1)
      ∧ r.2.mem ((c.tc : Thread Cert.DenseFfnRefIdeal.nD Cert.DenseFfnRefIdeal.τ).loc Cert.DenseFfnRefIdeal.main_arg2) = m ((c.tc : Thread Cert.DenseFfnRefIdeal.nD Cert.DenseFfnRefIdeal.τ).loc Cert.DenseFfnRefIdeal.main_arg2)
      ∧ r.2.mem ((c.tc : Thread Cert.DenseFfnRefIdeal.nD Cert.DenseFfnRefIdeal.τ).loc Cert.DenseFfnRefIdeal.main_arg3) = m ((c.tc : Thread Cert.DenseFfnRefIdeal.nD Cert.DenseFfnRefIdeal.τ).loc Cert.DenseFfnRefIdeal.main_arg3))
      ∧ r.2.sem = fun _ => 0)

def quiescent_MoeGu [hMoeGu : Cert.MoeGu.Facts] [hPre_moe_gu_tiles : Cert.Pre_moe_gu_tiles.Facts] : Prop :=
  ∀ (m : (ℓ : Loc Cert.MoeGu.nD Cert.MoeGu.τ Cert.MoeGu.sig) → Buf (Elt Bits) ℓ) (g : Dev Cert.MoeGu.nD → PrngReg), Pre_MoeGu m →
    θ_run (Cert.MoeGu.defs (F := Bits)) (onTc (τ := Cert.MoeGu.τ) (Cert.MoeGu.main (F := Bits))) ⟨m, fun _ => 0, g⟩ (fun r => (∀ c : Dev Cert.MoeGu.nD,
      r.2.mem ((c.tc : Thread Cert.MoeGu.nD Cert.MoeGu.τ).loc Cert.MoeGu.main_arg0) = m ((c.tc : Thread Cert.MoeGu.nD Cert.MoeGu.τ).loc Cert.MoeGu.main_arg0)
      ∧ r.2.mem ((c.tc : Thread Cert.MoeGu.nD Cert.MoeGu.τ).loc Cert.MoeGu.main_arg1) = m ((c.tc : Thread Cert.MoeGu.nD Cert.MoeGu.τ).loc Cert.MoeGu.main_arg1)
      ∧ r.2.mem ((c.tc : Thread Cert.MoeGu.nD Cert.MoeGu.τ).loc Cert.MoeGu.main_arg2) = m ((c.tc : Thread Cert.MoeGu.nD Cert.MoeGu.τ).loc Cert.MoeGu.main_arg2)
      ∧ r.2.mem ((c.tc : Thread Cert.MoeGu.nD Cert.MoeGu.τ).loc Cert.MoeGu.main_arg3) = m ((c.tc : Thread Cert.MoeGu.nD Cert.MoeGu.τ).loc Cert.MoeGu.main_arg3))
      ∧ r.2.sem = fun _ => 0)

def quiescent_MoeGuIdeal [hMoeGuIdeal : Cert.MoeGuIdeal.Facts] [hPre_moe_gu_tiles : Cert.Pre_moe_gu_tiles.Facts] : Prop :=
  ∀ (m : (ℓ : Loc Cert.MoeGuIdeal.nD Cert.MoeGuIdeal.τ Cert.MoeGuIdeal.sig) → Buf (Elt Ideal) ℓ) (g : Dev Cert.MoeGuIdeal.nD → PrngReg), Pre_MoeGuIdeal m →
    θ_run (Cert.MoeGuIdeal.defs (F := Ideal)) (onTc (τ := Cert.MoeGuIdeal.τ) (Cert.MoeGuIdeal.main (F := Ideal))) ⟨m, fun _ => 0, g⟩ (fun r => (∀ c : Dev Cert.MoeGuIdeal.nD,
      r.2.mem ((c.tc : Thread Cert.MoeGuIdeal.nD Cert.MoeGuIdeal.τ).loc Cert.MoeGuIdeal.main_arg0) = m ((c.tc : Thread Cert.MoeGuIdeal.nD Cert.MoeGuIdeal.τ).loc Cert.MoeGuIdeal.main_arg0)
      ∧ r.2.mem ((c.tc : Thread Cert.MoeGuIdeal.nD Cert.MoeGuIdeal.τ).loc Cert.MoeGuIdeal.main_arg1) = m ((c.tc : Thread Cert.MoeGuIdeal.nD Cert.MoeGuIdeal.τ).loc Cert.MoeGuIdeal.main_arg1)
      ∧ r.2.mem ((c.tc : Thread Cert.MoeGuIdeal.nD Cert.MoeGuIdeal.τ).loc Cert.MoeGuIdeal.main_arg2) = m ((c.tc : Thread Cert.MoeGuIdeal.nD Cert.MoeGuIdeal.τ).loc Cert.MoeGuIdeal.main_arg2)
      ∧ r.2.mem ((c.tc : Thread Cert.MoeGuIdeal.nD Cert.MoeGuIdeal.τ).loc Cert.MoeGuIdeal.main_arg3) = m ((c.tc : Thread Cert.MoeGuIdeal.nD Cert.MoeGuIdeal.τ).loc Cert.MoeGuIdeal.main_arg3))
      ∧ r.2.sem = fun _ => 0)

def quiescent_MoeGuRefIdeal [hMoeGuRefIdeal : Cert.MoeGuRefIdeal.Facts] : Prop :=
  ∀ (m : (ℓ : Loc Cert.MoeGuRefIdeal.nD Cert.MoeGuRefIdeal.τ Cert.MoeGuRefIdeal.sig) → Buf (Elt Ideal) ℓ) (g : Dev Cert.MoeGuRefIdeal.nD → PrngReg), Pre_MoeGuRefIdeal m →
    θ_run (Cert.MoeGuRefIdeal.defs (F := Ideal)) (onTc (τ := Cert.MoeGuRefIdeal.τ) (Cert.MoeGuRefIdeal.main (F := Ideal))) ⟨m, fun _ => 0, g⟩ (fun r => (∀ c : Dev Cert.MoeGuRefIdeal.nD,
      r.2.mem ((c.tc : Thread Cert.MoeGuRefIdeal.nD Cert.MoeGuRefIdeal.τ).loc Cert.MoeGuRefIdeal.main_arg0) = m ((c.tc : Thread Cert.MoeGuRefIdeal.nD Cert.MoeGuRefIdeal.τ).loc Cert.MoeGuRefIdeal.main_arg0)
      ∧ r.2.mem ((c.tc : Thread Cert.MoeGuRefIdeal.nD Cert.MoeGuRefIdeal.τ).loc Cert.MoeGuRefIdeal.main_arg1) = m ((c.tc : Thread Cert.MoeGuRefIdeal.nD Cert.MoeGuRefIdeal.τ).loc Cert.MoeGuRefIdeal.main_arg1)
      ∧ r.2.mem ((c.tc : Thread Cert.MoeGuRefIdeal.nD Cert.MoeGuRefIdeal.τ).loc Cert.MoeGuRefIdeal.main_arg2) = m ((c.tc : Thread Cert.MoeGuRefIdeal.nD Cert.MoeGuRefIdeal.τ).loc Cert.MoeGuRefIdeal.main_arg2)
      ∧ r.2.mem ((c.tc : Thread Cert.MoeGuRefIdeal.nD Cert.MoeGuRefIdeal.τ).loc Cert.MoeGuRefIdeal.main_arg3) = m ((c.tc : Thread Cert.MoeGuRefIdeal.nD Cert.MoeGuRefIdeal.τ).loc Cert.MoeGuRefIdeal.main_arg3))
      ∧ r.2.sem = fun _ => 0)

def quiescent_MoeGuRefIdeal_pre_moe_gu_tiles [hMoeGuRefIdeal : Cert.MoeGuRefIdeal.Facts] [hPre_moe_gu_tiles : Cert.Pre_moe_gu_tiles.Facts] : Prop :=
  ∀ (m : (ℓ : Loc Cert.MoeGuRefIdeal.nD Cert.MoeGuRefIdeal.τ Cert.MoeGuRefIdeal.sig) → Buf (Elt Ideal) ℓ) (g : Dev Cert.MoeGuRefIdeal.nD → PrngReg), Pre_MoeGuRefIdeal_moe_gu_tiles m →
    θ_run (Cert.MoeGuRefIdeal.defs (F := Ideal)) (onTc (τ := Cert.MoeGuRefIdeal.τ) (Cert.MoeGuRefIdeal.main (F := Ideal))) ⟨m, fun _ => 0, g⟩ (fun r => (∀ c : Dev Cert.MoeGuRefIdeal.nD,
      r.2.mem ((c.tc : Thread Cert.MoeGuRefIdeal.nD Cert.MoeGuRefIdeal.τ).loc Cert.MoeGuRefIdeal.main_arg0) = m ((c.tc : Thread Cert.MoeGuRefIdeal.nD Cert.MoeGuRefIdeal.τ).loc Cert.MoeGuRefIdeal.main_arg0)
      ∧ r.2.mem ((c.tc : Thread Cert.MoeGuRefIdeal.nD Cert.MoeGuRefIdeal.τ).loc Cert.MoeGuRefIdeal.main_arg1) = m ((c.tc : Thread Cert.MoeGuRefIdeal.nD Cert.MoeGuRefIdeal.τ).loc Cert.MoeGuRefIdeal.main_arg1)
      ∧ r.2.mem ((c.tc : Thread Cert.MoeGuRefIdeal.nD Cert.MoeGuRefIdeal.τ).loc Cert.MoeGuRefIdeal.main_arg2) = m ((c.tc : Thread Cert.MoeGuRefIdeal.nD Cert.MoeGuRefIdeal.τ).loc Cert.MoeGuRefIdeal.main_arg2)
      ∧ r.2.mem ((c.tc : Thread Cert.MoeGuRefIdeal.nD Cert.MoeGuRefIdeal.τ).loc Cert.MoeGuRefIdeal.main_arg3) = m ((c.tc : Thread Cert.MoeGuRefIdeal.nD Cert.MoeGuRefIdeal.τ).loc Cert.MoeGuRefIdeal.main_arg3))
      ∧ r.2.sem = fun _ => 0)

def quiescent_MoeDown [hMoeDown : Cert.MoeDown.Facts] [hPre_moe_down_tiles : Cert.Pre_moe_down_tiles.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_moe_down_tiles : Cert.Pre_moe_down_tiles.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_moe_down_tiles [hMoeDownRefIdeal : Cert.MoeDownRefIdeal.Facts] [hPre_moe_down_tiles : Cert.Pre_moe_down_tiles.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_moe_down_tiles m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_QkvSample [hQkvSample : Cert.QkvSample.Facts] : Prop :=
  ∀ (m : (ℓ : Loc Cert.QkvSample.nD Cert.QkvSample.τ Cert.QkvSample.sig) → Buf (Elt Bits) ℓ) (g : Dev Cert.QkvSample.nD → PrngReg), Pre_QkvSample m →
    θ_run (Cert.QkvSample.defs (F := Bits)) (onTc (τ := Cert.QkvSample.τ) (Cert.QkvSample.main (F := Bits))) ⟨m, fun _ => 0, g⟩ (fun r => (∀ c : Dev Cert.QkvSample.nD,
      r.2.mem ((c.tc : Thread Cert.QkvSample.nD Cert.QkvSample.τ).loc Cert.QkvSample.main_arg0) = m ((c.tc : Thread Cert.QkvSample.nD Cert.QkvSample.τ).loc Cert.QkvSample.main_arg0)
      ∧ r.2.mem ((c.tc : Thread Cert.QkvSample.nD Cert.QkvSample.τ).loc Cert.QkvSample.main_arg1) = m ((c.tc : Thread Cert.QkvSample.nD Cert.QkvSample.τ).loc Cert.QkvSample.main_arg1)
      ∧ r.2.mem ((c.tc : Thread Cert.QkvSample.nD Cert.QkvSample.τ).loc Cert.QkvSample.main_arg2) = m ((c.tc : Thread Cert.QkvSample.nD Cert.QkvSample.τ).loc Cert.QkvSample.main_arg2)
      ∧ r.2.mem ((c.tc : Thread Cert.QkvSample.nD Cert.QkvSample.τ).loc Cert.QkvSample.main_arg3) = m ((c.tc : Thread Cert.QkvSample.nD Cert.QkvSample.τ).loc Cert.QkvSample.main_arg3)
      ∧ r.2.mem ((c.tc : Thread Cert.QkvSample.nD Cert.QkvSample.τ).loc Cert.QkvSample.main_arg4) = m ((c.tc : Thread Cert.QkvSample.nD Cert.QkvSample.τ).loc Cert.QkvSample.main_arg4))
      ∧ r.2.sem = fun _ => 0)

def quiescent_QkvSampleIdeal [hQkvSampleIdeal : Cert.QkvSampleIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg), Pre_QkvSampleIdeal m →
    θ_run (Cert.QkvSampleIdeal.defs (F := Ideal)) (onTc (τ := Cert.QkvSampleIdeal.τ) (Cert.QkvSampleIdeal.main (F := Ideal))) ⟨m, fun _ => 0, g⟩ (fun r => (∀ c : Dev Cert.QkvSampleIdeal.nD,
      r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
      ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
      ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
      ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3)
      ∧ r.2.mem ((c.tc : Thread Cert.QkvSampleIdeal.nD Cert.QkvSampleIdeal.τ).loc Cert.QkvSampleIdeal.main_arg4) = m ((c.tc : Thread Cert.QkvSampleIdeal.nD Cert.QkvSampleIdeal.τ).loc Cert.QkvSampleIdeal.main_arg4))
      ∧ r.2.sem = fun _ => 0)

def quiescent_QkvSampleRefIdeal [hQkvSampleRefIdeal : Cert.QkvSampleRefIdeal.Facts] : Prop :=
  ∀ (m : (ℓ : Loc Cert.QkvSampleRefIdeal.nD Cert.QkvSampleRefIdeal.τ Cert.QkvSampleRefIdeal.sig) → Buf (Elt Ideal) ℓ) (g : Dev Cert.QkvSampleRefIdeal.nD → PrngReg), Pre_QkvSampleRefIdeal m →
    θ_run (Cert.QkvSampleRefIdeal.defs (F := Ideal)) (onTc (τ := Cert.QkvSampleRefIdeal.τ) (Cert.QkvSampleRefIdeal.main (F := Ideal))) ⟨m, fun _ => 0, g⟩ (fun r => (∀ c : Dev Cert.QkvSampleRefIdeal.nD,
      r.2.mem ((c.tc : Thread Cert.QkvSampleRefIdeal.nD Cert.QkvSampleRefIdeal.τ).loc Cert.QkvSampleRefIdeal.main_arg0) = m ((c.tc : Thread Cert.QkvSampleRefIdeal.nD Cert.QkvSampleRefIdeal.τ).loc Cert.QkvSampleRefIdeal.main_arg0)
      ∧ r.2.mem ((c.tc : Thread Cert.QkvSampleRefIdeal.nD Cert.QkvSampleRefIdeal.τ).loc Cert.QkvSampleRefIdeal.main_arg1) = m ((c.tc : Thread Cert.QkvSampleRefIdeal.nD Cert.QkvSampleRefIdeal.τ).loc Cert.QkvSampleRefIdeal.main_arg1)
      ∧ r.2.mem ((c.tc : Thread Cert.QkvSampleRefIdeal.nD Cert.QkvSampleRefIdeal.τ).loc Cert.QkvSampleRefIdeal.main_arg2) = m ((c.tc : Thread Cert.QkvSampleRefIdeal.nD Cert.QkvSampleRefIdeal.τ).loc Cert.QkvSampleRefIdeal.main_arg2)
      ∧ r.2.mem ((c.tc : Thread Cert.QkvSampleRefIdeal.nD Cert.QkvSampleRefIdeal.τ).loc Cert.QkvSampleRefIdeal.main_arg3) = m ((c.tc : Thread Cert.QkvSampleRefIdeal.nD Cert.QkvSampleRefIdeal.τ).loc Cert.QkvSampleRefIdeal.main_arg3)
      ∧ r.2.mem ((c.tc : Thread Cert.QkvSampleRefIdeal.nD Cert.QkvSampleRefIdeal.τ).loc Cert.QkvSampleRefIdeal.main_arg4) = m ((c.tc : Thread Cert.QkvSampleRefIdeal.nD Cert.QkvSampleRefIdeal.τ).loc Cert.QkvSampleRefIdeal.main_arg4))
      ∧ r.2.sem = fun _ => 0)

def preserves_DilSample_DilSampleIdeal : Prop :=
  True

def algebraic_DilSampleIdeal_DilSampleRefIdeal_pre_ds_finite [hDilSampleIdeal : Cert.DilSampleIdeal.Facts] [hDilSampleRefIdeal : Cert.DilSampleRefIdeal.Facts] [hPre_ds_finite : Cert.Pre_ds_finite.Facts] : Prop :=
  ∀ (m : (ℓ : Loc Cert.DilSampleIdeal.nD Cert.DilSampleIdeal.τ Cert.DilSampleIdeal.sig) → Buf (Elt Ideal) ℓ) (g : Dev Cert.DilSampleIdeal.nD → PrngReg)
    (m' : (ℓ : Loc Cert.DilSampleRefIdeal.nD Cert.DilSampleRefIdeal.τ Cert.DilSampleRefIdeal.sig) → Buf (Elt Ideal) ℓ) (g' : Dev Cert.DilSampleRefIdeal.nD → PrngReg), Pre_DilSampleIdeal_ds_finite m →
    (∀ c : Dev Cert.DilSampleIdeal.nD,
      m' ((c.tc : Thread Cert.DilSampleRefIdeal.nD Cert.DilSampleRefIdeal.τ).loc Cert.DilSampleRefIdeal.main_arg0) = m ((c.tc : Thread Cert.DilSampleIdeal.nD Cert.DilSampleIdeal.τ).loc Cert.DilSampleIdeal.main_arg0)
      ∧ m' ((c.tc : Thread Cert.DilSampleRefIdeal.nD Cert.DilSampleRefIdeal.τ).loc Cert.DilSampleRefIdeal.main_arg1) = m ((c.tc : Thread Cert.DilSampleIdeal.nD Cert.DilSampleIdeal.τ).loc Cert.DilSampleIdeal.main_arg1)
      ∧ m' ((c.tc : Thread Cert.DilSampleRefIdeal.nD Cert.DilSampleRefIdeal.τ).loc Cert.DilSampleRefIdeal.main_arg2) = m ((c.tc : Thread Cert.DilSampleIdeal.nD Cert.DilSampleIdeal.τ).loc Cert.DilSampleIdeal.main_arg2)
      ∧ m' ((c.tc : Thread Cert.DilSampleRefIdeal.nD Cert.DilSampleRefIdeal.τ).loc Cert.DilSampleRefIdeal.main_arg3) = m ((c.tc : Thread Cert.DilSampleIdeal.nD Cert.DilSampleIdeal.τ).loc Cert.DilSampleIdeal.main_arg3)
      ∧ m' ((c.tc : Thread Cert.DilSampleRefIdeal.nD Cert.DilSampleRefIdeal.τ).loc Cert.DilSampleRefIdeal.main_arg4) = m ((c.tc : Thread Cert.DilSampleIdeal.nD Cert.DilSampleIdeal.τ).loc Cert.DilSampleIdeal.main_arg4)) →
    ∃ (v0 : (c : Dev Cert.DilSampleIdeal.nD) → Buf (Elt Ideal) ((c.tc : Thread Cert.DilSampleIdeal.nD Cert.DilSampleIdeal.τ).loc Cert.DilSampleIdeal.main_v4)),
      θ_run (Cert.DilSampleIdeal.defs (F := Ideal)) (onTc (τ := Cert.DilSampleIdeal.τ) (Cert.DilSampleIdeal.main (F := Ideal))) ⟨m, fun _ => 0, g⟩ (fun r => ∀ c : Dev Cert.DilSampleIdeal.nD,
          r.2.mem ((c.tc : Thread Cert.DilSampleIdeal.nD Cert.DilSampleIdeal.τ).loc Cert.DilSampleIdeal.main_v4) = v0 c
          ∧ r.2.mem ((c.tc : Thread Cert.DilSampleIdeal.nD Cert.DilSampleIdeal.τ).loc Cert.DilSampleIdeal.main_arg0) = m ((c.tc : Thread Cert.DilSampleIdeal.nD Cert.DilSampleIdeal.τ).loc Cert.DilSampleIdeal.main_arg0)
          ∧ r.2.mem ((c.tc : Thread Cert.DilSampleIdeal.nD Cert.DilSampleIdeal.τ).loc Cert.DilSampleIdeal.main_arg1) = m ((c.tc : Thread Cert.DilSampleIdeal.nD Cert.DilSampleIdeal.τ).loc Cert.DilSampleIdeal.main_arg1)
          ∧ r.2.mem ((c.tc : Thread Cert.DilSampleIdeal.nD Cert.DilSampleIdeal.τ).loc Cert.DilSampleIdeal.main_arg2) = m ((c.tc : Thread Cert.DilSampleIdeal.nD Cert.DilSampleIdeal.τ).loc Cert.DilSampleIdeal.main_arg2)
          ∧ r.2.mem ((c.tc : Thread Cert.DilSampleIdeal.nD Cert.DilSampleIdeal.τ).loc Cert.DilSampleIdeal.main_arg3) = m ((c.tc : Thread Cert.DilSampleIdeal.nD Cert.DilSampleIdeal.τ).loc Cert.DilSampleIdeal.main_arg3)
          ∧ r.2.mem ((c.tc : Thread Cert.DilSampleIdeal.nD Cert.DilSampleIdeal.τ).loc Cert.DilSampleIdeal.main_arg4) = m ((c.tc : Thread Cert.DilSampleIdeal.nD Cert.DilSampleIdeal.τ).loc Cert.DilSampleIdeal.main_arg4))
      ∧ θ_run (Cert.DilSampleRefIdeal.defs (F := Ideal)) (onTc (τ := Cert.DilSampleRefIdeal.τ) (Cert.DilSampleRefIdeal.main (F := Ideal))) ⟨m', fun _ => 0, g'⟩ (fun r => ∀ c : Dev Cert.DilSampleRefIdeal.nD,
          r.2.mem ((c.tc : Thread Cert.DilSampleRefIdeal.nD Cert.DilSampleRefIdeal.τ).loc Cert.DilSampleRefIdeal.main_v175) = v0 c
          ∧ r.2.mem ((c.tc : Thread Cert.DilSampleRefIdeal.nD Cert.DilSampleRefIdeal.τ).loc Cert.DilSampleRefIdeal.main_arg0) = m' ((c.tc : Thread Cert.DilSampleRefIdeal.nD Cert.DilSampleRefIdeal.τ).loc Cert.DilSampleRefIdeal.main_arg0)
          ∧ r.2.mem ((c.tc : Thread Cert.DilSampleRefIdeal.nD Cert.DilSampleRefIdeal.τ).loc Cert.DilSampleRefIdeal.main_arg1) = m' ((c.tc : Thread Cert.DilSampleRefIdeal.nD Cert.DilSampleRefIdeal.τ).loc Cert.DilSampleRefIdeal.main_arg1)
          ∧ r.2.mem ((c.tc : Thread Cert.DilSampleRefIdeal.nD Cert.DilSampleRefIdeal.τ).loc Cert.DilSampleRefIdeal.main_arg2) = m' ((c.tc : Thread Cert.DilSampleRefIdeal.nD Cert.DilSampleRefIdeal.τ).loc Cert.DilSampleRefIdeal.main_arg2)
          ∧ r.2.mem ((c.tc : Thread Cert.DilSampleRefIdeal.nD Cert.DilSampleRefIdeal.τ).loc Cert.DilSampleRefIdeal.main_arg3) = m' ((c.tc : Thread Cert.DilSampleRefIdeal.nD Cert.DilSampleRefIdeal.τ).loc Cert.DilSampleRefIdeal.main_arg3)
          ∧ r.2.mem ((c.tc : Thread Cert.DilSampleRefIdeal.nD Cert.DilSampleRefIdeal.τ).loc Cert.DilSampleRefIdeal.main_arg4) = m' ((c.tc : Thread Cert.DilSampleRefIdeal.nD Cert.DilSampleRefIdeal.τ).loc Cert.DilSampleRefIdeal.main_arg4))

def preserves_DenseFfn_DenseFfnIdeal : Prop :=
  True

def algebraic_DenseFfnIdeal_DenseFfnRefIdeal [hDenseFfnIdeal : Cert.DenseFfnIdeal.Facts] [hDenseFfnRefIdeal : Cert.DenseFfnRefIdeal.Facts] : Prop :=
  ∀ (m : (ℓ : Loc Cert.DenseFfnIdeal.nD Cert.DenseFfnIdeal.τ Cert.DenseFfnIdeal.sig) → Buf (Elt Ideal) ℓ) (g : Dev Cert.DenseFfnIdeal.nD → PrngReg)
    (m' : (ℓ : Loc Cert.DenseFfnRefIdeal.nD Cert.DenseFfnRefIdeal.τ Cert.DenseFfnRefIdeal.sig) → Buf (Elt Ideal) ℓ) (g' : Dev Cert.DenseFfnRefIdeal.nD → PrngReg), Pre_DenseFfnIdeal m →
    (∀ c : Dev Cert.DenseFfnIdeal.nD,
      m' ((c.tc : Thread Cert.DenseFfnRefIdeal.nD Cert.DenseFfnRefIdeal.τ).loc Cert.DenseFfnRefIdeal.main_arg0) = m ((c.tc : Thread Cert.DenseFfnIdeal.nD Cert.DenseFfnIdeal.τ).loc Cert.DenseFfnIdeal.main_arg0)
      ∧ m' ((c.tc : Thread Cert.DenseFfnRefIdeal.nD Cert.DenseFfnRefIdeal.τ).loc Cert.DenseFfnRefIdeal.main_arg1) = m ((c.tc : Thread Cert.DenseFfnIdeal.nD Cert.DenseFfnIdeal.τ).loc Cert.DenseFfnIdeal.main_arg1)
      ∧ m' ((c.tc : Thread Cert.DenseFfnRefIdeal.nD Cert.DenseFfnRefIdeal.τ).loc Cert.DenseFfnRefIdeal.main_arg2) = m ((c.tc : Thread Cert.DenseFfnIdeal.nD Cert.DenseFfnIdeal.τ).loc Cert.DenseFfnIdeal.main_arg2)
      ∧ m' ((c.tc : Thread Cert.DenseFfnRefIdeal.nD Cert.DenseFfnRefIdeal.τ).loc Cert.DenseFfnRefIdeal.main_arg3) = m ((c.tc : Thread Cert.DenseFfnIdeal.nD Cert.DenseFfnIdeal.τ).loc Cert.DenseFfnIdeal.main_arg3)) →
    ∃ (v0 : (c : Dev Cert.DenseFfnIdeal.nD) → Buf (Elt Ideal) ((c.tc : Thread Cert.DenseFfnIdeal.nD Cert.DenseFfnIdeal.τ).loc Cert.DenseFfnIdeal.main_v1)),
      θ_run (Cert.DenseFfnIdeal.defs (F := Ideal)) (onTc (τ := Cert.DenseFfnIdeal.τ) (Cert.DenseFfnIdeal.main (F := Ideal))) ⟨m, fun _ => 0, g⟩ (fun r => ∀ c : Dev Cert.DenseFfnIdeal.nD,
          r.2.mem ((c.tc : Thread Cert.DenseFfnIdeal.nD Cert.DenseFfnIdeal.τ).loc Cert.DenseFfnIdeal.main_v1) = v0 c
          ∧ r.2.mem ((c.tc : Thread Cert.DenseFfnIdeal.nD Cert.DenseFfnIdeal.τ).loc Cert.DenseFfnIdeal.main_arg0) = m ((c.tc : Thread Cert.DenseFfnIdeal.nD Cert.DenseFfnIdeal.τ).loc Cert.DenseFfnIdeal.main_arg0)
          ∧ r.2.mem ((c.tc : Thread Cert.DenseFfnIdeal.nD Cert.DenseFfnIdeal.τ).loc Cert.DenseFfnIdeal.main_arg1) = m ((c.tc : Thread Cert.DenseFfnIdeal.nD Cert.DenseFfnIdeal.τ).loc Cert.DenseFfnIdeal.main_arg1)
          ∧ r.2.mem ((c.tc : Thread Cert.DenseFfnIdeal.nD Cert.DenseFfnIdeal.τ).loc Cert.DenseFfnIdeal.main_arg2) = m ((c.tc : Thread Cert.DenseFfnIdeal.nD Cert.DenseFfnIdeal.τ).loc Cert.DenseFfnIdeal.main_arg2)
          ∧ r.2.mem ((c.tc : Thread Cert.DenseFfnIdeal.nD Cert.DenseFfnIdeal.τ).loc Cert.DenseFfnIdeal.main_arg3) = m ((c.tc : Thread Cert.DenseFfnIdeal.nD Cert.DenseFfnIdeal.τ).loc Cert.DenseFfnIdeal.main_arg3))
      ∧ θ_run (Cert.DenseFfnRefIdeal.defs (F := Ideal)) (onTc (τ := Cert.DenseFfnRefIdeal.τ) (Cert.DenseFfnRefIdeal.main (F := Ideal))) ⟨m', fun _ => 0, g'⟩ (fun r => ∀ c : Dev Cert.DenseFfnRefIdeal.nD,
          r.2.mem ((c.tc : Thread Cert.DenseFfnRefIdeal.nD Cert.DenseFfnRefIdeal.τ).loc Cert.DenseFfnRefIdeal.main_v19) = v0 c
          ∧ r.2.mem ((c.tc : Thread Cert.DenseFfnRefIdeal.nD Cert.DenseFfnRefIdeal.τ).loc Cert.DenseFfnRefIdeal.main_arg0) = m' ((c.tc : Thread Cert.DenseFfnRefIdeal.nD Cert.DenseFfnRefIdeal.τ).loc Cert.DenseFfnRefIdeal.main_arg0)
          ∧ r.2.mem ((c.tc : Thread Cert.DenseFfnRefIdeal.nD Cert.DenseFfnRefIdeal.τ).loc Cert.DenseFfnRefIdeal.main_arg1) = m' ((c.tc : Thread Cert.DenseFfnRefIdeal.nD Cert.DenseFfnRefIdeal.τ).loc Cert.DenseFfnRefIdeal.main_arg1)
          ∧ r.2.mem ((c.tc : Thread Cert.DenseFfnRefIdeal.nD Cert.DenseFfnRefIdeal.τ).loc Cert.DenseFfnRefIdeal.main_arg2) = m' ((c.tc : Thread Cert.DenseFfnRefIdeal.nD Cert.DenseFfnRefIdeal.τ).loc Cert.DenseFfnRefIdeal.main_arg2)
          ∧ r.2.mem ((c.tc : Thread Cert.DenseFfnRefIdeal.nD Cert.DenseFfnRefIdeal.τ).loc Cert.DenseFfnRefIdeal.main_arg3) = m' ((c.tc : Thread Cert.DenseFfnRefIdeal.nD Cert.DenseFfnRefIdeal.τ).loc Cert.DenseFfnRefIdeal.main_arg3))

def preserves_MoeGu_MoeGuIdeal : Prop :=
  True

def algebraic_MoeGuIdeal_MoeGuRefIdeal [hMoeGuIdeal : Cert.MoeGuIdeal.Facts] [hMoeGuRefIdeal : Cert.MoeGuRefIdeal.Facts] [hPre_moe_gu_tiles : Cert.Pre_moe_gu_tiles.Facts] : Prop :=
  ∀ (m : (ℓ : Loc Cert.MoeGuIdeal.nD Cert.MoeGuIdeal.τ Cert.MoeGuIdeal.sig) → Buf (Elt Ideal) ℓ) (g : Dev Cert.MoeGuIdeal.nD → PrngReg)
    (m' : (ℓ : Loc Cert.MoeGuRefIdeal.nD Cert.MoeGuRefIdeal.τ Cert.MoeGuRefIdeal.sig) → Buf (Elt Ideal) ℓ) (g' : Dev Cert.MoeGuRefIdeal.nD → PrngReg), Pre_MoeGuIdeal m →
    (∀ c : Dev Cert.MoeGuIdeal.nD,
      m' ((c.tc : Thread Cert.MoeGuRefIdeal.nD Cert.MoeGuRefIdeal.τ).loc Cert.MoeGuRefIdeal.main_arg0) = m ((c.tc : Thread Cert.MoeGuIdeal.nD Cert.MoeGuIdeal.τ).loc Cert.MoeGuIdeal.main_arg0)
      ∧ m' ((c.tc : Thread Cert.MoeGuRefIdeal.nD Cert.MoeGuRefIdeal.τ).loc Cert.MoeGuRefIdeal.main_arg1) = m ((c.tc : Thread Cert.MoeGuIdeal.nD Cert.MoeGuIdeal.τ).loc Cert.MoeGuIdeal.main_arg1)
      ∧ m' ((c.tc : Thread Cert.MoeGuRefIdeal.nD Cert.MoeGuRefIdeal.τ).loc Cert.MoeGuRefIdeal.main_arg2) = m ((c.tc : Thread Cert.MoeGuIdeal.nD Cert.MoeGuIdeal.τ).loc Cert.MoeGuIdeal.main_arg2)
      ∧ m' ((c.tc : Thread Cert.MoeGuRefIdeal.nD Cert.MoeGuRefIdeal.τ).loc Cert.MoeGuRefIdeal.main_arg3) = m ((c.tc : Thread Cert.MoeGuIdeal.nD Cert.MoeGuIdeal.τ).loc Cert.MoeGuIdeal.main_arg3)) →
    ∃ (v0 : (c : Dev Cert.MoeGuIdeal.nD) → Buf (Elt Ideal) ((c.tc : Thread Cert.MoeGuIdeal.nD Cert.MoeGuIdeal.τ).loc Cert.MoeGuIdeal.main_v6)),
      θ_run (Cert.MoeGuIdeal.defs (F := Ideal)) (onTc (τ := Cert.MoeGuIdeal.τ) (Cert.MoeGuIdeal.main (F := Ideal))) ⟨m, fun _ => 0, g⟩ (fun r => ∀ c : Dev Cert.MoeGuIdeal.nD,
          r.2.mem ((c.tc : Thread Cert.MoeGuIdeal.nD Cert.MoeGuIdeal.τ).loc Cert.MoeGuIdeal.main_v6) = v0 c
          ∧ r.2.mem ((c.tc : Thread Cert.MoeGuIdeal.nD Cert.MoeGuIdeal.τ).loc Cert.MoeGuIdeal.main_arg0) = m ((c.tc : Thread Cert.MoeGuIdeal.nD Cert.MoeGuIdeal.τ).loc Cert.MoeGuIdeal.main_arg0)
          ∧ r.2.mem ((c.tc : Thread Cert.MoeGuIdeal.nD Cert.MoeGuIdeal.τ).loc Cert.MoeGuIdeal.main_arg1) = m ((c.tc : Thread Cert.MoeGuIdeal.nD Cert.MoeGuIdeal.τ).loc Cert.MoeGuIdeal.main_arg1)
          ∧ r.2.mem ((c.tc : Thread Cert.MoeGuIdeal.nD Cert.MoeGuIdeal.τ).loc Cert.MoeGuIdeal.main_arg2) = m ((c.tc : Thread Cert.MoeGuIdeal.nD Cert.MoeGuIdeal.τ).loc Cert.MoeGuIdeal.main_arg2)
          ∧ r.2.mem ((c.tc : Thread Cert.MoeGuIdeal.nD Cert.MoeGuIdeal.τ).loc Cert.MoeGuIdeal.main_arg3) = m ((c.tc : Thread Cert.MoeGuIdeal.nD Cert.MoeGuIdeal.τ).loc Cert.MoeGuIdeal.main_arg3))
      ∧ θ_run (Cert.MoeGuRefIdeal.defs (F := Ideal)) (onTc (τ := Cert.MoeGuRefIdeal.τ) (Cert.MoeGuRefIdeal.main (F := Ideal))) ⟨m', fun _ => 0, g'⟩ (fun r => ∀ c : Dev Cert.MoeGuRefIdeal.nD,
          r.2.mem ((c.tc : Thread Cert.MoeGuRefIdeal.nD Cert.MoeGuRefIdeal.τ).loc Cert.MoeGuRefIdeal.main_v18) = v0 c
          ∧ r.2.mem ((c.tc : Thread Cert.MoeGuRefIdeal.nD Cert.MoeGuRefIdeal.τ).loc Cert.MoeGuRefIdeal.main_arg0) = m' ((c.tc : Thread Cert.MoeGuRefIdeal.nD Cert.MoeGuRefIdeal.τ).loc Cert.MoeGuRefIdeal.main_arg0)
          ∧ r.2.mem ((c.tc : Thread Cert.MoeGuRefIdeal.nD Cert.MoeGuRefIdeal.τ).loc Cert.MoeGuRefIdeal.main_arg1) = m' ((c.tc : Thread Cert.MoeGuRefIdeal.nD Cert.MoeGuRefIdeal.τ).loc Cert.MoeGuRefIdeal.main_arg1)
          ∧ r.2.mem ((c.tc : Thread Cert.MoeGuRefIdeal.nD Cert.MoeGuRefIdeal.τ).loc Cert.MoeGuRefIdeal.main_arg2) = m' ((c.tc : Thread Cert.MoeGuRefIdeal.nD Cert.MoeGuRefIdeal.τ).loc Cert.MoeGuRefIdeal.main_arg2)
          ∧ r.2.mem ((c.tc : Thread Cert.MoeGuRefIdeal.nD Cert.MoeGuRefIdeal.τ).loc Cert.MoeGuRefIdeal.main_arg3) = m' ((c.tc : Thread Cert.MoeGuRefIdeal.nD Cert.MoeGuRefIdeal.τ).loc Cert.MoeGuRefIdeal.main_arg3))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_moe_down_tiles : Cert.Pre_moe_down_tiles.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v6)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v6) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v14) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_QkvSample_QkvSampleIdeal : Prop :=
  True

def algebraic_QkvSampleIdeal_QkvSampleRefIdeal [hQkvSampleIdeal : Cert.QkvSampleIdeal.Facts] [hQkvSampleRefIdeal : Cert.QkvSampleRefIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg)
    (m' : (ℓ : Loc Cert.QkvSampleRefIdeal.nD Cert.QkvSampleRefIdeal.τ Cert.QkvSampleRefIdeal.sig) → Buf (Elt Ideal) ℓ) (g' : Dev Cert.QkvSampleRefIdeal.nD → PrngReg), Pre_QkvSampleIdeal m →
    (∀ c : Dev Cert.QkvSampleIdeal.nD,
      m' ((c.tc : Thread Cert.QkvSampleRefIdeal.nD Cert.QkvSampleRefIdeal.τ).loc Cert.QkvSampleRefIdeal.main_arg0) = m ((c.tc : Thread Cert.QkvSampleIdeal.nD Cert.QkvSampleIdeal.τ).loc Cert.QkvSampleIdeal.main_arg0)
      ∧ m' ((c.tc : Thread Cert.QkvSampleRefIdeal.nD Cert.QkvSampleRefIdeal.τ).loc Cert.QkvSampleRefIdeal.main_arg1) = m ((c.tc : Thread Cert.QkvSampleIdeal.nD Cert.QkvSampleIdeal.τ).loc Cert.QkvSampleIdeal.main_arg1)
      ∧ m' ((c.tc : Thread Cert.QkvSampleRefIdeal.nD Cert.QkvSampleRefIdeal.τ).loc Cert.QkvSampleRefIdeal.main_arg2) = m ((c.tc : Thread Cert.QkvSampleIdeal.nD Cert.QkvSampleIdeal.τ).loc Cert.QkvSampleIdeal.main_arg2)
      ∧ m' ((c.tc : Thread Cert.QkvSampleRefIdeal.nD Cert.QkvSampleRefIdeal.τ).loc Cert.QkvSampleRefIdeal.main_arg3) = m ((c.tc : Thread Cert.QkvSampleIdeal.nD Cert.QkvSampleIdeal.τ).loc Cert.QkvSampleIdeal.main_arg3)
      ∧ m' ((c.tc : Thread Cert.QkvSampleRefIdeal.nD Cert.QkvSampleRefIdeal.τ).loc Cert.QkvSampleRefIdeal.main_arg4) = m ((c.tc : Thread Cert.QkvSampleIdeal.nD Cert.QkvSampleIdeal.τ).loc Cert.QkvSampleIdeal.main_arg4)) →
    ∃ (v0 : (c : Dev Cert.QkvSampleIdeal.nD) → Buf (Elt Ideal) ((c.tc : Thread Cert.QkvSampleIdeal.nD Cert.QkvSampleIdeal.τ).loc Cert.QkvSampleIdeal.main_v58_0)) (v1 : (c : Dev Cert.QkvSampleIdeal.nD) → Buf (Elt Ideal) ((c.tc : Thread Cert.QkvSampleIdeal.nD Cert.QkvSampleIdeal.τ).loc Cert.QkvSampleIdeal.main_v58_1)) (v2 : (c : Dev Cert.QkvSampleIdeal.nD) → Buf (Elt Ideal) ((c.tc : Thread Cert.QkvSampleIdeal.nD Cert.QkvSampleIdeal.τ).loc Cert.QkvSampleIdeal.main_v58_2)),
      θ_run (Cert.QkvSampleIdeal.defs (F := Ideal)) (onTc (τ := Cert.QkvSampleIdeal.τ) (Cert.QkvSampleIdeal.main (F := Ideal))) ⟨m, fun _ => 0, g⟩ (fun r => ∀ c : Dev Cert.QkvSampleIdeal.nD,
          r.2.mem ((c.tc : Thread Cert.QkvSampleIdeal.nD Cert.QkvSampleIdeal.τ).loc Cert.QkvSampleIdeal.main_v58_0) = v0 c
          ∧ r.2.mem ((c.tc : Thread Cert.QkvSampleIdeal.nD Cert.QkvSampleIdeal.τ).loc Cert.QkvSampleIdeal.main_v58_1) = v1 c
          ∧ r.2.mem ((c.tc : Thread Cert.QkvSampleIdeal.nD Cert.QkvSampleIdeal.τ).loc Cert.QkvSampleIdeal.main_v58_2) = v2 c
          ∧ r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
          ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
          ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
          ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3)
          ∧ r.2.mem ((c.tc : Thread Cert.QkvSampleIdeal.nD Cert.QkvSampleIdeal.τ).loc Cert.QkvSampleIdeal.main_arg4) = m ((c.tc : Thread Cert.QkvSampleIdeal.nD Cert.QkvSampleIdeal.τ).loc Cert.QkvSampleIdeal.main_arg4))
      ∧ θ_run (Cert.QkvSampleRefIdeal.defs (F := Ideal)) (onTc (τ := Cert.QkvSampleRefIdeal.τ) (Cert.QkvSampleRefIdeal.main (F := Ideal))) ⟨m', fun _ => 0, g'⟩ (fun r => ∀ c : Dev Cert.QkvSampleRefIdeal.nD,
          r.2.mem ((c.tc : Thread Cert.QkvSampleRefIdeal.nD Cert.QkvSampleRefIdeal.τ).loc Cert.QkvSampleRefIdeal.main_v120) = v0 c
          ∧ r.2.mem ((c.tc : Thread Cert.QkvSampleRefIdeal.nD Cert.QkvSampleRefIdeal.τ).loc Cert.QkvSampleRefIdeal.main_v121) = v1 c
          ∧ r.2.mem ((c.tc : Thread Cert.QkvSampleRefIdeal.nD Cert.QkvSampleRefIdeal.τ).loc Cert.QkvSampleRefIdeal.main_v122) = v2 c
          ∧ r.2.mem ((c.tc : Thread Cert.QkvSampleRefIdeal.nD Cert.QkvSampleRefIdeal.τ).loc Cert.QkvSampleRefIdeal.main_arg0) = m' ((c.tc : Thread Cert.QkvSampleRefIdeal.nD Cert.QkvSampleRefIdeal.τ).loc Cert.QkvSampleRefIdeal.main_arg0)
          ∧ r.2.mem ((c.tc : Thread Cert.QkvSampleRefIdeal.nD Cert.QkvSampleRefIdeal.τ).loc Cert.QkvSampleRefIdeal.main_arg1) = m' ((c.tc : Thread Cert.QkvSampleRefIdeal.nD Cert.QkvSampleRefIdeal.τ).loc Cert.QkvSampleRefIdeal.main_arg1)
          ∧ r.2.mem ((c.tc : Thread Cert.QkvSampleRefIdeal.nD Cert.QkvSampleRefIdeal.τ).loc Cert.QkvSampleRefIdeal.main_arg2) = m' ((c.tc : Thread Cert.QkvSampleRefIdeal.nD Cert.QkvSampleRefIdeal.τ).loc Cert.QkvSampleRefIdeal.main_arg2)
          ∧ r.2.mem ((c.tc : Thread Cert.QkvSampleRefIdeal.nD Cert.QkvSampleRefIdeal.τ).loc Cert.QkvSampleRefIdeal.main_arg3) = m' ((c.tc : Thread Cert.QkvSampleRefIdeal.nD Cert.QkvSampleRefIdeal.τ).loc Cert.QkvSampleRefIdeal.main_arg3)
          ∧ r.2.mem ((c.tc : Thread Cert.QkvSampleRefIdeal.nD Cert.QkvSampleRefIdeal.τ).loc Cert.QkvSampleRefIdeal.main_arg4) = m' ((c.tc : Thread Cert.QkvSampleRefIdeal.nD Cert.QkvSampleRefIdeal.τ).loc Cert.QkvSampleRefIdeal.main_arg4))

def Claim : Prop :=
  ∃ (hDilSample : Cert.DilSample.Facts) (hDilSampleIdeal : Cert.DilSampleIdeal.Facts) (hDilSampleRefIdeal : Cert.DilSampleRefIdeal.Facts) (hDenseFfn : Cert.DenseFfn.Facts) (hDenseFfnIdeal : Cert.DenseFfnIdeal.Facts) (hDenseFfnRefIdeal : Cert.DenseFfnRefIdeal.Facts) (hMoeGu : Cert.MoeGu.Facts) (hMoeGuIdeal : Cert.MoeGuIdeal.Facts) (hMoeGuRefIdeal : Cert.MoeGuRefIdeal.Facts) (hMoeDown : Cert.MoeDown.Facts) (hMoeDownIdeal : Cert.MoeDownIdeal.Facts) (hMoeDownRefIdeal : Cert.MoeDownRefIdeal.Facts) (hQkvSample : Cert.QkvSample.Facts) (hQkvSampleIdeal : Cert.QkvSampleIdeal.Facts) (hQkvSampleRefIdeal : Cert.QkvSampleRefIdeal.Facts) (hPre_ds_finite : Cert.Pre_ds_finite.Facts) (hPre_moe_gu_tiles : Cert.Pre_moe_gu_tiles.Facts) (hPre_moe_down_tiles : Cert.Pre_moe_down_tiles.Facts),
    quiescent_DilSample (hDilSample := hDilSample)
    ∧ quiescent_DilSampleIdeal (hDilSampleIdeal := hDilSampleIdeal)
    ∧ quiescent_DilSampleIdeal_pre_ds_finite (hDilSampleIdeal := hDilSampleIdeal) (hPre_ds_finite := hPre_ds_finite)
    ∧ quiescent_DilSampleRefIdeal (hDilSampleRefIdeal := hDilSampleRefIdeal)
    ∧ quiescent_DilSampleRefIdeal_pre_ds_finite (hDilSampleRefIdeal := hDilSampleRefIdeal) (hPre_ds_finite := hPre_ds_finite)
    ∧ quiescent_DenseFfn (hDenseFfn := hDenseFfn)
    ∧ quiescent_DenseFfnIdeal (hDenseFfnIdeal := hDenseFfnIdeal)
    ∧ quiescent_DenseFfnRefIdeal (hDenseFfnRefIdeal := hDenseFfnRefIdeal)
    ∧ quiescent_MoeGu (hMoeGu := hMoeGu) (hPre_moe_gu_tiles := hPre_moe_gu_tiles)
    ∧ quiescent_MoeGuIdeal (hMoeGuIdeal := hMoeGuIdeal) (hPre_moe_gu_tiles := hPre_moe_gu_tiles)
    ∧ quiescent_MoeGuRefIdeal (hMoeGuRefIdeal := hMoeGuRefIdeal)
    ∧ quiescent_MoeGuRefIdeal_pre_moe_gu_tiles (hMoeGuRefIdeal := hMoeGuRefIdeal) (hPre_moe_gu_tiles := hPre_moe_gu_tiles)
    ∧ quiescent_MoeDown (hMoeDown := hMoeDown) (hPre_moe_down_tiles := hPre_moe_down_tiles)
    ∧ quiescent_MoeDownIdeal (hMoeDownIdeal := hMoeDownIdeal) (hPre_moe_down_tiles := hPre_moe_down_tiles)
    ∧ quiescent_MoeDownRefIdeal (hMoeDownRefIdeal := hMoeDownRefIdeal)
    ∧ quiescent_MoeDownRefIdeal_pre_moe_down_tiles (hMoeDownRefIdeal := hMoeDownRefIdeal) (hPre_moe_down_tiles := hPre_moe_down_tiles)
    ∧ quiescent_QkvSample (hQkvSample := hQkvSample)
    ∧ quiescent_QkvSampleIdeal (hQkvSampleIdeal := hQkvSampleIdeal)
    ∧ quiescent_QkvSampleRefIdeal (hQkvSampleRefIdeal := hQkvSampleRefIdeal)
    ∧ preserves_DilSample_DilSampleIdeal
    ∧ algebraic_DilSampleIdeal_DilSampleRefIdeal_pre_ds_finite (hDilSampleIdeal := hDilSampleIdeal) (hDilSampleRefIdeal := hDilSampleRefIdeal) (hPre_ds_finite := hPre_ds_finite)
    ∧ preserves_DenseFfn_DenseFfnIdeal
    ∧ algebraic_DenseFfnIdeal_DenseFfnRefIdeal (hDenseFfnIdeal := hDenseFfnIdeal) (hDenseFfnRefIdeal := hDenseFfnRefIdeal)
    ∧ preserves_MoeGu_MoeGuIdeal
    ∧ algebraic_MoeGuIdeal_MoeGuRefIdeal (hMoeGuIdeal := hMoeGuIdeal) (hMoeGuRefIdeal := hMoeGuRefIdeal) (hPre_moe_gu_tiles := hPre_moe_gu_tiles)
    ∧ preserves_MoeDown_MoeDownIdeal
    ∧ algebraic_MoeDownIdeal_MoeDownRefIdeal (hMoeDownIdeal := hMoeDownIdeal) (hMoeDownRefIdeal := hMoeDownRefIdeal) (hPre_moe_down_tiles := hPre_moe_down_tiles)
    ∧ preserves_QkvSample_QkvSampleIdeal
    ∧ algebraic_QkvSampleIdeal_QkvSampleRefIdeal (hQkvSampleIdeal := hQkvSampleIdeal) (hQkvSampleRefIdeal := hQkvSampleRefIdeal)
-- ==== Pre_ds_finite.lean ====
abbrev S128x4x1536 : Shape := ⟨3, ![128, 4, 1536]⟩
abbrev S128x4x512 : Shape := ⟨3, ![128, 4, 512]⟩
abbrev S128x2048x8x64 : Shape := ⟨4, ![128, 2048, 8, 64]⟩
abbrev S_ : Shape := ⟨0, ![]⟩

class Facts : Prop where
  bcast_S_S128x4x1536 : S_.BroadcastsInDim S128x4x1536 (![] : Fin 0 → Fin S128x4x1536.rank)
  reducesTo_S128x4x1536_S_d0_1_2 : S128x4x1536.ReducesTo [0, 1, 2] S_
  h_S_ : 0 < S_.numel
  bcast_S_S128x4x512 : S_.BroadcastsInDim S128x4x512 (![] : Fin 0 → Fin S128x4x512.rank)
  reducesTo_S128x4x512_S_d0_1_2 : S128x4x512.ReducesTo [0, 1, 2] S_
  bcast_S_S128x2048x8x64 : S_.BroadcastsInDim S128x2048x8x64 (![] : Fin 0 → Fin S128x2048x8x64.rank)
  reducesTo_S128x2048x8x64_S_d0_1_2_3 : S128x2048x8x64.ReducesTo [0, 1, 2, 3] S_

variable [Facts]

def fn_part1 {F : FTy → Type} [FloatOps F] (main_arg4 : FVec F S128x2048x8x64 .f32) (main_v13 : IVec S_ 1) (main_v16 : IVec S128x2048x8x64 1) : IVec S_ 1 :=
  let main_c_5 : IVec S_ 1 := constantI S_ 1 1#1
  let main_v17 : IVec S_ 1 := (fun x v => Host.reduce IntOp.andi x v reducesTo_S128x2048x8x64_S_d0_1_2_3 h_S_) main_v16 main_c_5
  let main_v18 : IVec S_ 1 := andi main_v13 main_v17
  let main_v19 : FVec F S128x2048x8x64 .f32 := Host.absf main_arg4
  let main_cst_6 : FVec F S_ .f32 := constant S_ .f32 0x7F800000#32
  let main_v20 : FVec F S128x2048x8x64 .f32 := broadcastInDim S128x2048x8x64 ![] bcast_S_S128x2048x8x64 main_cst_6
  let main_v21 : IVec S128x2048x8x64 1 := cmpf .olt main_v19 main_v20
  let main_c_7 : IVec S_ 1 := constantI S_ 1 1#1
  let main_v22 : IVec S_ 1 := (fun x v => Host.reduce IntOp.andi x v reducesTo_S128x2048x8x64_S_d0_1_2_3 h_S_) main_v21 main_c_7
  let main_v23 : IVec S_ 1 := andi main_v18 main_v22
  main_v23

def fn {F : FTy → Type} [FloatOps F] (main_arg0 : FVec F S128x4x1536 .f32) (main_arg1 : FVec F S128x4x512 .f32) (main_arg2 : FVec F S128x4x512 .f32) (main_arg3 : FVec F S128x2048x8x64 .f32) (main_arg4 : FVec F S128x2048x8x64 .f32) : IVec S_ 1 :=
  let main_v0 : FVec F S128x4x1536 .f32 := Host.absf main_arg0
  let main_cst : FVec F S_ .f32 := constant S_ .f32 0x7F800000#32
  let main_v1 : FVec F S128x4x1536 .f32 := broadcastInDim S128x4x1536 ![] bcast_S_S128x4x1536 main_cst
  let main_v2 : IVec S128x4x1536 1 := cmpf .olt main_v0 main_v1
  let main_c : IVec S_ 1 := constantI S_ 1 1#1
  let main_v3 : IVec S_ 1 := (fun x v => Host.reduce IntOp.andi x v reducesTo_S128x4x1536_S_d0_1_2 h_S_) main_v2 main_c
  let main_v4 : FVec F S128x4x512 .f32 := Host.absf main_arg1
  let main_cst_0 : FVec F S_ .f32 := constant S_ .f32 0x7F800000#32
  let main_v5 : FVec F S128x4x512 .f32 := broadcastInDim S128x4x512 ![] bcast_S_S128x4x512 main_cst_0
  let main_v6 : IVec S128x4x512 1 := cmpf .olt main_v4 main_v5
  let main_c_1 : IVec S_ 1 := constantI S_ 1 1#1
  let main_v7 : IVec S_ 1 := (fun x v => Host.reduce IntOp.andi x v reducesTo_S128x4x512_S_d0_1_2 h_S_) main_v6 main_c_1
  let main_v8 : IVec S_ 1 := andi main_v3 main_v7
  let main_v9 : FVec F S128x4x512 .f32 := Host.absf main_arg2
  let main_cst_2 : FVec F S_ .f32 := constant S_ .f32 0x7F800000#32
  let main_v10 : FVec F S128x4x512 .f32 := broadcastInDim S128x4x512 ![] bcast_S_S128x4x512 main_cst_2
  let main_v11 : IVec S128x4x512 1 := cmpf .olt main_v9 main_v10
  let main_c_3 : IVec S_ 1 := constantI S_ 1 1#1
  let main_v12 : IVec S_ 1 := (fun x v => Host.reduce IntOp.andi x v reducesTo_S128x4x512_S_d0_1_2 h_S_) main_v11 main_c_3
  let main_v13 : IVec S_ 1 := andi main_v8 main_v12
  let main_v14 : FVec F S128x2048x8x64 .f32 := Host.absf main_arg3
  let main_cst_4 : FVec F S_ .f32 := constant S_ .f32 0x7F800000#32
  let main_v15 : FVec F S128x2048x8x64 .f32 := broadcastInDim S128x2048x8x64 ![] bcast_S_S128x2048x8x64 main_cst_4
  let main_v16 : IVec S128x2048x8x64 1 := cmpf .olt main_v14 main_v15
  fn_part1 (F := F) main_arg4 main_v13 main_v16
-- ==== Pre_moe_down_tiles.lean ====
abbrev S37888x3584 : Shape := ⟨2, ![37888, 3584]⟩
abbrev S8x3584x1024 : Shape := ⟨3, ![8, 3584, 1024]⟩
abbrev S74 : Shape := ⟨1, ![74]⟩
abbrev S_ : Shape := ⟨0, ![]⟩

class Facts : Prop where
  bcast_S_S74 : S_.BroadcastsInDim S74 (![] : Fin 0 → Fin S74.rank)

variable [Facts]

def fn {F : FTy → Type} [FloatOps F] (main_arg0 : FVec F S37888x3584 .bf16) (main_arg1 : FVec F S8x3584x1024 .f32) (main_arg2 : IVec S74 32) (main_arg3 : IVec S74 32) : IVec S74 1 :=
  let main_c : IVec S_ 32 := constantI S_ 32 0#32
  let main_v0 : IVec S74 32 := broadcastInDim S74 ![] bcast_S_S74 main_c
  let main_v1 : IVec S74 1 := cmpi .sge main_arg2 main_v0
  let main_c_0 : IVec S_ 32 := constantI S_ 32 8#32
  let main_v2 : IVec S74 32 := broadcastInDim S74 ![] bcast_S_S74 main_c_0
  let main_v3 : IVec S74 1 := cmpi .slt main_arg2 main_v2
  let main_v4 : IVec S74 1 := andi main_v1 main_v3
  let main_c_1 : IVec S_ 32 := constantI S_ 32 0#32
  let main_v5 : IVec S74 32 := broadcastInDim S74 ![] bcast_S_S74 main_c_1
  let main_v6 : IVec S74 1 := cmpi .sge main_arg3 main_v5
  let main_v7 : IVec S74 1 := andi main_v4 main_v6
  let main_c_2 : IVec S_ 32 := constantI S_ 32 1#32
  let main_v8 : IVec S74 32 := broadcastInDim S74 ![] bcast_S_S74 main_c_2
  let main_v9 : IVec S74 1 := cmpi .sle main_arg3 main_v8
  let main_v10 : IVec S74 1 := andi main_v7 main_v9
  main_v10
-- ==== Pre_moe_gu_tiles.lean ====
abbrev S37888x1024 : Shape := ⟨2, ![37888, 1024]⟩
abbrev S8x1024x7168 : Shape := ⟨3, ![8, 1024, 7168]⟩
abbrev S74 : Shape := ⟨1, ![74]⟩
abbrev S_ : Shape := ⟨0, ![]⟩

class Facts : Prop where
  bcast_S_S74 : S_.BroadcastsInDim S74 (![] : Fin 0 → Fin S74.rank)

variable [Facts]

def fn {F : FTy → Type} [FloatOps F] (main_arg0 : FVec F S37888x1024 .f32) (main_arg1 : FVec F S8x1024x7168 .f32) (main_arg2 : IVec S74 32) (main_arg3 : IVec S74 32) : IVec S74 1 :=
  let main_c : IVec S_ 32 := constantI S_ 32 0#32
  let main_v0 : IVec S74 32 := broadcastInDim S74 ![] bcast_S_S74 main_c
  let main_v1 : IVec S74 1 := cmpi .sge main_arg2 main_v0
  let main_c_0 : IVec S_ 32 := constantI S_ 32 8#32
  let main_v2 : IVec S74 32 := broadcastInDim S74 ![] bcast_S_S74 main_c_0
  let main_v3 : IVec S74 1 := cmpi .slt main_arg2 main_v2
  let main_v4 : IVec S74 1 := andi main_v1 main_v3
  let main_c_1 : IVec S_ 32 := constantI S_ 32 0#32
  let main_v5 : IVec S74 32 := broadcastInDim S74 ![] bcast_S_S74 main_c_1
  let main_v6 : IVec S74 1 := cmpi .sge main_arg3 main_v5
  let main_v7 : IVec S74 1 := andi main_v4 main_v6
  let main_c_2 : IVec S_ 32 := constantI S_ 32 1#32
  let main_v8 : IVec S74 32 := broadcastInDim S74 ![] bcast_S_S74 main_c_2
  let main_v9 : IVec S74 1 := cmpi .sle main_arg3 main_v8
  let main_v10 : IVec S74 1 := andi main_v7 main_v9
  main_v10
-- ==== DilSample.lean ====
abbrev S128x4x1536 : Shape := ⟨3, ![128, 4, 1536]⟩
abbrev S128x4x512 : Shape := ⟨3, ![128, 4, 512]⟩
abbrev S128x2048x8x64 : Shape := ⟨4, ![128, 2048, 8, 64]⟩
abbrev S128x8x64x2048 : Shape := ⟨4, ![128, 8, 64, 2048]⟩
abbrev S128x512x2048 : Shape := ⟨3, ![128, 512, 2048]⟩
abbrev S1x4x1536 : Shape := ⟨3, ![1, 4, 1536]⟩
abbrev S1x4x512 : Shape := ⟨3, ![1, 4, 512]⟩
abbrev S1x512x2048 : Shape := ⟨3, ![1, 512, 2048]⟩
abbrev S4x1536 : Shape := ⟨2, ![4, 1536]⟩
abbrev S8x512 : Shape := ⟨2, ![8, 512]⟩
abbrev S1x512 : Shape := ⟨2, ![1, 512]⟩
abbrev S96x512 : Shape := ⟨2, ![96, 512]⟩
abbrev S4x512 : Shape := ⟨2, ![4, 512]⟩
abbrev S96 : Shape := ⟨1, ![96]⟩
abbrev S96x1 : Shape := ⟨2, ![96, 1]⟩
abbrev S512x2048 : Shape := ⟨2, ![512, 2048]⟩
abbrev S96x2048 : Shape := ⟨2, ![96, 2048]⟩
abbrev S12x8x512 : Shape := ⟨3, ![12, 8, 512]⟩
abbrev S12x512 : Shape := ⟨2, ![12, 512]⟩

abbrev nBuf : Space → Nat
  | .hbm => 10
  | .vmem => 12
  | .smem => 0
  | _ => 0

abbrev bufTy : (tb : Table) → Fin (tcTables nBuf tb) → BufTy
  | .hbm, ⟨0, _⟩ => ⟨S128x4x1536, .f32⟩
  | .hbm, ⟨1, _⟩ => ⟨S128x4x512, .f32⟩
  | .hbm, ⟨2, _⟩ => ⟨S128x4x512, .f32⟩
  | .hbm, ⟨3, _⟩ => ⟨S128x2048x8x64, .f32⟩
  | .hbm, ⟨4, _⟩ => ⟨S128x2048x8x64, .f32⟩
  | .hbm, ⟨5, _⟩ => ⟨S128x8x64x2048, .f32⟩
  | .hbm, ⟨6, _⟩ => ⟨S128x512x2048, .f32⟩
  | .hbm, ⟨7, _⟩ => ⟨S128x8x64x2048, .f32⟩
  | .hbm, ⟨8, _⟩ => ⟨S128x512x2048, .f32⟩
  | .hbm, ⟨9, _⟩ => ⟨S128x4x512, .f32⟩
  | .local _ .vmem, ⟨0, _⟩ => ⟨S1x4x1536, .f32⟩
  | .local _ .vmem, ⟨1, _⟩ => ⟨S1x4x1536, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x4x512, .f32⟩
  | .local _ .vmem, ⟨11, _⟩ => ⟨S1x4x512, .f32⟩
  | _, _ => ⟨S128x4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DilSampleRefIdeal.lean ====
abbrev S128x4x1536 : Shape := ⟨3, ![128, 4, 1536]⟩
abbrev S128x4x512 : Shape := ⟨3, ![128, 4, 512]⟩
abbrev S128x2048x8x64 : Shape := ⟨4, ![128, 2048, 8, 64]⟩
abbrev S128x4x3x8x64 : Shape := ⟨5, ![128, 4, 3, 8, 64]⟩
abbrev S128x4x8x64 : Shape := ⟨4, ![128, 4, 8, 64]⟩
abbrev S128x2052x8x64 : Shape := ⟨4, ![128, 2052, 8, 64]⟩
abbrev S4 : Shape := ⟨1, ![4]⟩
abbrev S4x1 : Shape := ⟨2, ![4, 1]⟩
abbrev S_ : Shape := ⟨0, ![]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S128x4x129x8x64 : Shape := ⟨5, ![128, 4, 129, 8, 64]⟩
abbrev S128x4x1x8x64 : Shape := ⟨5, ![128, 4, 1, 8, 64]⟩
abbrev S128x4x8x129 : Shape := ⟨4, ![128, 4, 8, 129]⟩
abbrev S1x4x1x129 : Shape := ⟨4, ![1, 4, 1, 129]⟩
abbrev S128x4x8 : Shape := ⟨3, ![128, 4, 8]⟩
abbrev S128x4x8x1 : Shape := ⟨4, ![128, 4, 8, 1]⟩
abbrev S1x128x4x8 : Shape := ⟨4, ![1, 128, 4, 8]⟩
abbrev S3x128x4x8 : Shape := ⟨4, ![3, 128, 4, 8]⟩
abbrev S3x128x4x8x1 : Shape := ⟨5, ![3, 128, 4, 8, 1]⟩
abbrev S1x128x4x8x64 : Shape := ⟨5, ![1, 128, 4, 8, 64]⟩
abbrev S3x128x4x8x64 : Shape := ⟨5, ![3, 128, 4, 8, 64]⟩

abbrev nBuf : Space → Nat
  | .hbm => 230
  | .vmem => 0
  | .smem => 0
  | _ => 0

abbrev hbmTy0_0 (i : Nat) : BufTy := match i % 128 with
  | 0 => ⟨S128x4x1536, .f32⟩
  | 1 => ⟨S128x4x512, .f32⟩
  | 2 => ⟨S128x4x512, .f32⟩
  | 3 => ⟨S128x2048x8x64, .f32⟩
  | 4 => ⟨S128x2048x8x64, .f32⟩
  | 5 => ⟨S128x4x3x8x64, .f32⟩
  | 6 => ⟨S128x4x8x64, .f32⟩
  | 7 => ⟨S128x2052x8x64, .f32⟩
  | 8 => ⟨S128x4x8x64, .f32⟩
  | 9 => ⟨S128x2052x8x64, .f32⟩
  | 10 => ⟨S4, .i32⟩
  | 11 => ⟨S4x1, .i32⟩
  | 12 => ⟨S_, .i32⟩
  | 13 => ⟨S4x1, .i32⟩
  | 14 => ⟨S4x1, .i32⟩
  | 15 => ⟨S129, .i32⟩
  | 16 => ⟨S1x129, .i32⟩
  | 17 => ⟨S_, .i32⟩
  | 18 => ⟨S1x129, .i32⟩
  | 19 => ⟨S1x129, .i32⟩
  | 20 => ⟨S4x129, .i32⟩
  | 21 => ⟨S4x129, .i32⟩
  | 22 => ⟨S4x129, .i32⟩
  | 23 => ⟨S_, .i32⟩
  | 24 => ⟨S4x129, .i32⟩
  | 25 => ⟨S4x129, .i1⟩
  | 26 => ⟨S_, .i32⟩
  | 27 => ⟨S4x129, .i32⟩
  | 28 => ⟨S4x129, .i32⟩
  | 29 => ⟨S_, .i32⟩
  | 30 => ⟨S4x129, .i32⟩
  | 31 => ⟨S4x129, .i1⟩
  | 32 => ⟨S_, .i32⟩
  | 33 => ⟨S4x129, .i32⟩
  | 34 => ⟨S4x129, .i32⟩
  | 35 => ⟨S4x129, .i32⟩
  | 36 => ⟨S4x129x1, .i32⟩
  | 37 => ⟨S128x4x129x8x64, .f32⟩
  | 38 => ⟨S_, .i32⟩
  | 39 => ⟨S4x129, .i32⟩
  | 40 => ⟨S4x129, .i1⟩
  | 41 => ⟨S_, .i32⟩
  | 42 => ⟨S4x129, .i32⟩
  | 43 => ⟨S4x129, .i32⟩
  | 44 => ⟨S4x129, .i32⟩
  | 45 => ⟨S4x129x1, .i32⟩
  | 46 => ⟨S128x4x129x8x64, .f32⟩
  | 47 => ⟨S128x4x1x8x64, .f32⟩
  | 48 => ⟨S128x4x8x64, .f32⟩
  | 49 => ⟨S128x4x8x129, .f32⟩
  | 50 => ⟨S_, .f32⟩
  | 51 => ⟨S128x4x8x129, .f32⟩
  | 52 => ⟨S128x4x8x129, .f32⟩
  | 53 => ⟨S1x4x1x129, .i1⟩
  | 54 => ⟨S_, .f32⟩
  | 55 => ⟨S_, .f32⟩
  | 56 => ⟨S128x4x8x129, .i1⟩
  | 57 => ⟨S128x4x8x129, .f32⟩
  | 58 => ⟨S128x4x8x129, .f32⟩
  | 59 => ⟨S_, .f32⟩
  | 60 => ⟨S128x4x8, .f32⟩
  | 61 => ⟨S128x4x8x1, .f32⟩
  | 62 => ⟨S128x4x8x129, .f32⟩
  | 63 => ⟨S128x4x8x129, .f32⟩
  | 64 => ⟨S128x4x8x129, .f32⟩
  | 65 => ⟨S_, .f32⟩
  | 66 => ⟨S128x4x8, .f32⟩
  | 67 => ⟨S128x4x8, .f32⟩
  | 68 => ⟨S128x4x8, .f32⟩
  | 69 => ⟨S128x4x8x1, .f32⟩
  | 70 => ⟨S128x4x8x129, .f32⟩
  | 71 => ⟨S128x4x8x129, .f32⟩
  | 72 => ⟨S128x4x8x129, .f32⟩
  | 73 => ⟨S128x4x8x64, .f32⟩
  | 74 => ⟨S4, .i32⟩
  | 75 => ⟨S4x1, .i32⟩
  | 76 => ⟨S_, .i32⟩
  | 77 => ⟨S4x1, .i32⟩
  | 78 => ⟨S4x1, .i32⟩
  | 79 => ⟨S129, .i32⟩
  | 80 => ⟨S1x129, .i32⟩
  | 81 => ⟨S_, .i32⟩
  | 82 => ⟨S1x129, .i32⟩
  | 83 => ⟨S1x129, .i32⟩
  | 84 => ⟨S4x129, .i32⟩
  | 85 => ⟨S4x129, .i32⟩
  | 86 => ⟨S4x129, .i32⟩
  | 87 => ⟨S_, .i32⟩
  | 88 => ⟨S4x129, .i32⟩
  | 89 => ⟨S4x129, .i1⟩
  | 90 => ⟨S_, .i32⟩
  | 91 => ⟨S4x129, .i32⟩
  | 92 => ⟨S4x129, .i32⟩
  | 93 => ⟨S_, .i32⟩
  | 94 => ⟨S4x129, .i32⟩
  | 95 => ⟨S4x129, .i1⟩
  | 96 => ⟨S_, .i32⟩
  | 97 => ⟨S4x129, .i32⟩
  | 98 => ⟨S4x129, .i32⟩
  | 99 => ⟨S4x129, .i32⟩
  | 100 => ⟨S4x129x1, .i32⟩
  | 101 => ⟨S128x4x129x8x64, .f32⟩
  | 102 => ⟨S_, .i32⟩
  | 103 => ⟨S4x129, .i32⟩
  | 104 => ⟨S4x129, .i1⟩
  | 105 => ⟨S_, .i32⟩
  | 106 => ⟨S4x129, .i32⟩
  | 107 => ⟨S4x129, .i32⟩
  | 108 => ⟨S4x129, .i32⟩
  | 109 => ⟨S4x129x1, .i32⟩
  | 110 => ⟨S128x4x129x8x64, .f32⟩
  | 111 => ⟨S128x4x1x8x64, .f32⟩
  | 112 => ⟨S128x4x8x64, .f32⟩
  | 113 => ⟨S128x4x8x129, .f32⟩
  | 114 => ⟨S_, .f32⟩
  | 115 => ⟨S128x4x8x129, .f32⟩
  | 116 => ⟨S128x4x8x129, .f32⟩
  | 117 => ⟨S1x4x1x129, .i1⟩
  | 118 => ⟨S_, .f32⟩
  | 119 => ⟨S_, .f32⟩
  | 120 => ⟨S128x4x8x129, .i1⟩
  | 121 => ⟨S128x4x8x129, .f32⟩
  | 122 => ⟨S128x4x8x129, .f32⟩
  | 123 => ⟨S_, .f32⟩
  | 124 => ⟨S128x4x8, .f32⟩
  | 125 => ⟨S128x4x8x1, .f32⟩
  | 126 => ⟨S128x4x8x129, .f32⟩
  | 127 => ⟨S128x4x8x129, .f32⟩
  | _ => ⟨S128x4x1536, .f32⟩

abbrev hbmTy0_1 (i : Nat) : BufTy := match i % 128 with
  | 0 => ⟨S128x4x8x129, .f32⟩
  | 1 => ⟨S_, .f32⟩
  | 2 => ⟨S128x4x8, .f32⟩
  | 3 => ⟨S128x4x8, .f32⟩
  | 4 => ⟨S128x4x8, .f32⟩
  | 5 => ⟨S128x4x8x1, .f32⟩
  | 6 => ⟨S128x4x8x129, .f32⟩
  | 7 => ⟨S128x4x8x129, .f32⟩
  | 8 => ⟨S128x4x8x129, .f32⟩
  | 9 => ⟨S128x4x8x64, .f32⟩
  | 10 => ⟨S4, .i32⟩
  | 11 => ⟨S4x1, .i32⟩
  | 12 => ⟨S_, .i32⟩
  | 13 => ⟨S4x1, .i32⟩
  | 14 => ⟨S4x1, .i32⟩
  | 15 => ⟨S129, .i32⟩
  | 16 => ⟨S1x129, .i32⟩
  | 17 => ⟨S_, .i32⟩
  | 18 => ⟨S1x129, .i32⟩
  | 19 => ⟨S1x129, .i32⟩
  | 20 => ⟨S4x129, .i32⟩
  | 21 => ⟨S4x129, .i32⟩
  | 22 => ⟨S4x129, .i32⟩
  | 23 => ⟨S_, .i32⟩
  | 24 => ⟨S4x129, .i32⟩
  | 25 => ⟨S4x129, .i1⟩
  | 26 => ⟨S_, .i32⟩
  | 27 => ⟨S4x129, .i32⟩
  | 28 => ⟨S4x129, .i32⟩
  | 29 => ⟨S_, .i32⟩
  | 30 => ⟨S4x129, .i32⟩
  | 31 => ⟨S4x129, .i1⟩
  | 32 => ⟨S_, .i32⟩
  | 33 => ⟨S4x129, .i32⟩
  | 34 => ⟨S4x129, .i32⟩
  | 35 => ⟨S4x129, .i32⟩
  | 36 => ⟨S4x129x1, .i32⟩
  | 37 => ⟨S128x4x129x8x64, .f32⟩
  | 38 => ⟨S_, .i32⟩
  | 39 => ⟨S4x129, .i32⟩
  | 40 => ⟨S4x129, .i1⟩
  | 41 => ⟨S_, .i32⟩
  | 42 => ⟨S4x129, .i32⟩
  | 43 => ⟨S4x129, .i32⟩
  | 44 => ⟨S4x129, .i32⟩
  | 45 => ⟨S4x129x1, .i32⟩
  | 46 => ⟨S128x4x129x8x64, .f32⟩
  | 47 => ⟨S128x4x1x8x64, .f32⟩
  | 48 => ⟨S128x4x8x64, .f32⟩
  | 49 => ⟨S128x4x8x129, .f32⟩
  | 50 => ⟨S_, .f32⟩
  | 51 => ⟨S128x4x8x129, .f32⟩
  | 52 => ⟨S128x4x8x129, .f32⟩
  | 53 => ⟨S1x4x1x129, .i1⟩
  | 54 => ⟨S_, .f32⟩
  | 55 => ⟨S_, .f32⟩
  | 56 => ⟨S128x4x8x129, .i1⟩
  | 57 => ⟨S128x4x8x129, .f32⟩
  | 58 => ⟨S128x4x8x129, .f32⟩
  | 59 => ⟨S_, .f32⟩
  | 60 => ⟨S128x4x8, .f32⟩
  | 61 => ⟨S128x4x8x1, .f32⟩
  | 62 => ⟨S128x4x8x129, .f32⟩
  | 63 => ⟨S128x4x8x129, .f32⟩
  | 64 => ⟨S128x4x8x129, .f32⟩
  | 65 => ⟨S_, .f32⟩
  | 66 => ⟨S128x4x8, .f32⟩
  | 67 => ⟨S128x4x8, .f32⟩
  | 68 => ⟨S128x4x8, .f32⟩
  | 69 => ⟨S128x4x8x1, .f32⟩
  | 70 => ⟨S128x4x8x129, .f32⟩
  | 71 => ⟨S128x4x8x129, .f32⟩
  | 72 => ⟨S128x4x8x129, .f32⟩
  | 73 => ⟨S128x4x8x64, .f32⟩
  | 74 => ⟨S1x128x4x8, .f32⟩
  | 75 => ⟨S1x128x4x8, .f32⟩
  | 76 => ⟨S1x128x4x8, .f32⟩
  | 77 => ⟨S3x128x4x8, .f32⟩
  | 78 => ⟨S_, .f32⟩
  | 79 => ⟨S128x4x8, .f32⟩
  | 80 => ⟨S_, .f32⟩
  | 81 => ⟨S128x4x8, .f32⟩
  | 82 => ⟨S128x4x8, .f32⟩
  | 83 => ⟨S1x128x4x8, .f32⟩
  | 84 => ⟨S3x128x4x8, .f32⟩
  | 85 => ⟨S3x128x4x8, .f32⟩
  | 86 => ⟨S3x128x4x8, .f32⟩
  | 87 => ⟨S_, .f32⟩
  | 88 => ⟨S128x4x8, .f32⟩
  | 89 => ⟨S1x128x4x8, .f32⟩
  | 90 => ⟨S3x128x4x8, .f32⟩
  | 91 => ⟨S3x128x4x8, .f32⟩
  | 92 => ⟨S3x128x4x8x1, .f32⟩
  | 93 => ⟨S1x128x4x8x64, .f32⟩
  | 94 => ⟨S1x128x4x8x64, .f32⟩
  | 95 => ⟨S1x128x4x8x64, .f32⟩
  | 96 => ⟨S3x128x4x8x64, .f32⟩
  | 97 => ⟨S3x128x4x8x64, .f32⟩
  | 98 => ⟨S3x128x4x8x64, .f32⟩
  | 99 => ⟨S_, .f32⟩
  | 100 => ⟨S128x4x8x64, .f32⟩
  | 101 => ⟨S128x4x512, .f32⟩
  | _ => ⟨S128x4x1536, .f32⟩

abbrev hbmTy (i : Nat) : BufTy := match i / 128 with
  | 0 => hbmTy0_0 i
  | 1 => hbmTy0_1 i
  | _ => ⟨S128x4x1536, .f32⟩

abbrev bufTy : (tb : Table) → Fin (tcTables nBuf tb) → BufTy
  | .hbm, ⟨i, _⟩ => hbmTy i
  | _, _ => ⟨S128x4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_16 : Ref sig .tc := ⟨.hbm, 102, rfl⟩
abbrev main_v76 : Ref sig .tc := ⟨.hbm, 103, rfl⟩
abbrev main_v77 : Ref sig .tc := ⟨.hbm, 104, rfl⟩
abbrev main_c_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_21 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_22 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_23 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_24 : Ref sig .tc := ⟨.hbm, 151, rfl⟩
abbrev main_v114 : Ref sig .tc := ⟨.hbm, 152, rfl⟩
abbrev main_v115 : Ref sig .tc := ⟨.hbm, 153, rfl⟩
abbrev main_c_25 : Ref sig .tc := ⟨.hbm, 154, rfl⟩
abbrev main_v116 : Ref sig .tc := ⟨.hbm, 155, rfl⟩
abbrev main_v117 : Ref sig .tc := ⟨.hbm, 156, rfl⟩
abbrev main_c_26 : Ref sig .tc := ⟨.hbm, 157, rfl⟩
abbrev main_v118 : Ref sig .tc := ⟨.hbm, 158, rfl⟩
abbrev main_v119 : Ref sig .tc := ⟨.hbm, 159, rfl⟩
abbrev main_c_27 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_28 : Ref sig .tc := ⟨.hbm, 166, rfl⟩
abbrev main_v125 : Ref sig .tc := ⟨.hbm, 167, rfl⟩
abbrev main_v126 : Ref sig .tc := ⟨.hbm, 168, rfl⟩
abbrev main_c_29 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_30 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_31 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_v138 : Ref sig .tc := ⟨.hbm, 186, rfl⟩
abbrev main_cst_32 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_33 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_34 : Ref sig .tc := ⟨.hbm, 206, rfl⟩
abbrev main_v156 : Ref sig .tc := ⟨.hbm, 207, rfl⟩
abbrev main_cst_35 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_cst_36 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_37 : Ref sig .tc := ⟨.hbm, 227, rfl⟩
abbrev main_v174 : Ref sig .tc := ⟨.hbm, 228, rfl⟩
abbrev main_v175 : Ref sig .tc := ⟨.hbm, 229, rfl⟩

abbrev nD : Nat := 1
abbrev τ : Topo := Topo.v7x

variable {F : FTy → Type} [FloatOps F]
-- ==== DenseFfn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x1024, .f32⟩
  | .local _ .vmem, ⟨8, _⟩ => ⟨S256x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseFfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== MoeGu.lean ====
abbrev S37888x1024 : Shape := ⟨2, ![37888, 1024]⟩
abbrev S8x1024x7168 : Shape := ⟨3, ![8, 1024, 7168]⟩
abbrev S74 : Shape := ⟨1, ![74]⟩
abbrev S_ : Shape := ⟨0, ![]⟩
abbrev S1 : Shape := ⟨1, ![1]⟩
abbrev S73 : Shape := ⟨1, ![73]⟩
abbrev S37888x3584 : Shape := ⟨2, ![37888, 3584]⟩
abbrev S512x1024 : Shape := ⟨2, ![512, 1024]⟩
abbrev S1x1024x1792 : Shape := ⟨3, ![1, 1024, 1792]⟩
abbrev S512x1792 : Shape := ⟨2, ![512, 1792]⟩
abbrev S1024x1792 : Shape := ⟨2, ![1024, 1792]⟩

abbrev nBuf : Space → Nat
  | .hbm => 9
  | .vmem => 10
  | .smem => 3
  | _ => 0

abbrev bufTy : (tb : Table) → Fin (tcTables nBuf tb) → BufTy
  | .hbm, ⟨0, _⟩ => ⟨S37888x1024, .f32⟩
  | .hbm, ⟨1, _⟩ => ⟨S8x1024x7168, .f32⟩
  | .hbm, ⟨2, _⟩ => ⟨S_, .i32⟩
  | .hbm, ⟨3, _⟩ => ⟨S1, .i32⟩
  | .hbm, ⟨4, _⟩ => ⟨S73, .i32⟩
  | .hbm, ⟨5, _⟩ => ⟨S73, .i32⟩
  | .hbm, ⟨6, _⟩ => ⟨S73, .i1⟩
  | .hbm, ⟨7, _⟩ => ⟨S73, .i32⟩
  | .hbm, ⟨8, _⟩ => ⟨S37888x3584, .bf16⟩
  | .local _ .vmem, ⟨0, _⟩ => ⟨S512x1024, .f32⟩
  | .local _ .vmem, ⟨1, _⟩ => ⟨S512x1024, .f32⟩
  | .local _ .vmem, ⟨2, _⟩ => ⟨S1x1024x1792, .f32⟩
  | .local _ .vmem, ⟨3, _⟩ => ⟨S1x1024x1792, .f32⟩
  | .local _ .vmem, ⟨4, _⟩ => ⟨S1x1024x1792, .f32⟩
  | .local _ .vmem, ⟨5, _⟩ => ⟨S1x1024x1792, .f32⟩
  | .local _ .vmem, ⟨6, _⟩ => ⟨S512x1792, .bf16⟩
  | .local _ .vmem, ⟨7, _⟩ => ⟨S512x1792, .bf16⟩
  | .local _ .vmem, ⟨8, _⟩ => ⟨S1024x1792, .bf16⟩
  | .local _ .vmem, ⟨9, _⟩ => ⟨S1024x1792, .bf16⟩
  | .local _ .smem, ⟨0, _⟩ => ⟨S74, .i32⟩
  | .local _ .smem, ⟨1, _⟩ => ⟨S74, .i32⟩
  | .local _ .smem, ⟨2, _⟩ => ⟨S74, .i32⟩
  | _, _ => ⟨S37888x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_arg2 : Ref sig .tc := ⟨.smem, 0, rfl⟩
abbrev main_arg3 : Ref sig .tc := ⟨.smem, 1, rfl⟩
abbrev main_v5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 74], ![false, false]⟩

abbrev pre0 : Pipeline.Prefetch sig := ⟨3, ![main_arg2.idx, main_arg3.idx, main_v5.idx], fun | 0 => main_arg2.names | 1 => main_arg3.names | 2 => main_v5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v10 : Index := Scalar.indexCast arg1
  ![v10.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeGuRefIdeal.lean ====
abbrev S37888x1024 : Shape := ⟨2, ![37888, 1024]⟩
abbrev S8x1024x7168 : Shape := ⟨3, ![8, 1024, 7168]⟩
abbrev S74 : Shape := ⟨1, ![74]⟩
abbrev S74x512x1024 : Shape := ⟨3, ![74, 512, 1024]⟩
abbrev S_ : Shape := ⟨0, ![]⟩
abbrev S74x1 : Shape := ⟨2, ![74, 1]⟩
abbrev S74x1024x7168 : Shape := ⟨3, ![74, 1024, 7168]⟩
abbrev S74x512x7168 : Shape := ⟨3, ![74, 512, 7168]⟩
abbrev S74x512x3584 : Shape := ⟨3, ![74, 512, 3584]⟩
abbrev S74x1x1 : Shape := ⟨3, ![74, 1, 1]⟩
abbrev S37888x3584 : Shape := ⟨2, ![37888, 3584]⟩

abbrev nBuf : Space → Nat
  | .hbm => 38
  | .vmem => 0
  | .smem => 0
  | _ => 0

abbrev bufTy : (tb : Table) → Fin (tcTables nBuf tb) → BufTy
  | .hbm, ⟨0, _⟩ => ⟨S37888x1024, .f32⟩
  | .hbm, ⟨1, _⟩ => ⟨S8x1024x7168, .f32⟩
  | .hbm, ⟨2, _⟩ => ⟨S74, .i32⟩
  | .hbm, ⟨3, _⟩ => ⟨S74, .i32⟩
  | .hbm, ⟨4, _⟩ => ⟨S74x512x1024, .f32⟩
  | .hbm, ⟨5, _⟩ => ⟨S_, .i32⟩
  | .hbm, ⟨6, _⟩ => ⟨S74, .i32⟩
  | .hbm, ⟨7, _⟩ => ⟨S74, .i1⟩
  | .hbm, ⟨8, _⟩ => ⟨S_, .i32⟩
  | .hbm, ⟨9, _⟩ => ⟨S74, .i32⟩
  | .hbm, ⟨10, _⟩ => ⟨S74, .i32⟩
  | .hbm, ⟨11, _⟩ => ⟨S74, .i32⟩
  | .hbm, ⟨12, _⟩ => ⟨S74x1, .i32⟩
  | .hbm, ⟨13, _⟩ => ⟨S74x1024x7168, .f32⟩
  | .hbm, ⟨14, _⟩ => ⟨S74x512x7168, .f32⟩
  | .hbm, ⟨15, _⟩ => ⟨S74x512x3584, .f32⟩
  | .hbm, ⟨16, _⟩ => ⟨S74x512x3584, .f32⟩
  | .hbm, ⟨17, _⟩ => ⟨S74x1x1, .i32⟩
  | .hbm, ⟨18, _⟩ => ⟨S_, .i32⟩
  | .hbm, ⟨19, _⟩ => ⟨S74x1x1, .i32⟩
  | .hbm, ⟨20, _⟩ => ⟨S74x1x1, .i1⟩
  | .hbm, ⟨21, _⟩ => ⟨S74x512x3584, .f32⟩
  | .hbm, ⟨22, _⟩ => ⟨S74x512x3584, .f32⟩
  | .hbm, ⟨23, _⟩ => ⟨S_, .f32⟩
  | .hbm, ⟨24, _⟩ => ⟨S74x512x3584, .f32⟩
  | .hbm, ⟨25, _⟩ => ⟨S74x512x3584, .f32⟩
  | .hbm, ⟨26, _⟩ => ⟨S_, .f32⟩
  | .hbm, ⟨27, _⟩ => ⟨S74x512x3584, .f32⟩
  | .hbm, ⟨28, _⟩ => ⟨S74x512x3584, .f32⟩
  | .hbm, ⟨29, _⟩ => ⟨S74x512x3584, .f32⟩
  | .hbm, ⟨30, _⟩ => ⟨S74x512x3584, .f32⟩
  | .hbm, ⟨31, _⟩ => ⟨S_, .f32⟩
  | .hbm, ⟨32, _⟩ => ⟨S_, .f32⟩
  | .hbm, ⟨33, _⟩ => ⟨S74x512x3584, .i1⟩
  | .hbm, ⟨34, _⟩ => ⟨S74x512x3584, .f32⟩
  | .hbm, ⟨35, _⟩ => ⟨S74x512x3584, .f32⟩
  | .hbm, ⟨36, _⟩ => ⟨S37888x3584, .f32⟩
  | .hbm, ⟨37, _⟩ => ⟨S37888x3584, .bf16⟩
  | _, _ => ⟨S37888x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== MoeDown.lean ====
abbrev S37888x3584 : Shape := ⟨2, ![37888, 3584]⟩
abbrev S8x3584x1024 : Shape := ⟨3, ![8, 3584, 1024]⟩
abbrev S74 : Shape := ⟨1, ![74]⟩
abbrev S_ : Shape := ⟨0, ![]⟩
abbrev S1 : Shape := ⟨1, ![1]⟩
abbrev S73 : Shape := ⟨1, ![73]⟩
abbrev S37888x1024 : Shape := ⟨2, ![37888, 1024]⟩
abbrev S512x3584 : Shape := ⟨2, ![512, 3584]⟩
abbrev S1x3584x1024 : Shape := ⟨3, ![1, 3584, 1024]⟩
abbrev S512x1024 : Shape := ⟨2, ![512, 1024]⟩
abbrev S3584x1024 : Shape := ⟨2, ![3584, 1024]⟩

abbrev nBuf : Space → Nat
  | .hbm => 9
  | .vmem => 7
  | .smem => 3
  | _ => 0

abbrev bufTy : (tb : Table) → Fin (tcTables nBuf tb) → BufTy
  | .hbm, ⟨0, _⟩ => ⟨S37888x3584, .bf16⟩
  | .hbm, ⟨1, _⟩ => ⟨S8x3584x1024, .f32⟩
  | .hbm, ⟨2, _⟩ => ⟨S_, .i32⟩
  | .hbm, ⟨3, _⟩ => ⟨S1, .i32⟩
  | .hbm, ⟨4, _⟩ => ⟨S73, .i32⟩
  | .hbm, ⟨5, _⟩ => ⟨S73, .i32⟩
  | .hbm, ⟨6, _⟩ => ⟨S73, .i1⟩
  | .hbm, ⟨7, _⟩ => ⟨S73, .i32⟩
  | .hbm, ⟨8, _⟩ => ⟨S37888x1024, .f32⟩
  | .local _ .vmem, ⟨0, _⟩ => ⟨S512x3584, .bf16⟩
  | .local _ .vmem, ⟨1, _⟩ => ⟨S512x3584, .bf16⟩
  | .local _ .vmem, ⟨2, _⟩ => ⟨S1x3584x1024, .f32⟩
  | .local _ .vmem, ⟨3, _⟩ => ⟨S1x3584x1024, .f32⟩
  | .local _ .vmem, ⟨4, _⟩ => ⟨S512x1024, .f32⟩
  | .local _ .vmem, ⟨5, _⟩ => ⟨S512x1024, .f32⟩
  | .local _ .vmem, ⟨6, _⟩ => ⟨S3584x1024, .bf16⟩
  | .local _ .smem, ⟨0, _⟩ => ⟨S74, .i32⟩
  | .local _ .smem, ⟨1, _⟩ => ⟨S74, .i32⟩
  | .local _ .smem, ⟨2, _⟩ => ⟨S74, .i32⟩
  | _, _ => ⟨S37888x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_arg2 : Ref sig .tc := ⟨.smem, 0, rfl⟩
abbrev main_arg3 : Ref sig .tc := ⟨.smem, 1, rfl⟩
abbrev main_v5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 74], ![false, false]⟩

abbrev pre0 : Pipeline.Prefetch sig := ⟨3, ![main_arg2.idx, main_arg3.idx, main_v5.idx], fun | 0 => main_arg2.names | 1 => main_arg3.names | 2 => main_v5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v10 : Index := Scalar.indexCast arg1
  ![v10.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownRefIdeal.lean ====
abbrev S37888x3584 : Shape := ⟨2, ![37888, 3584]⟩
abbrev S8x3584x1024 : Shape := ⟨3, ![8, 3584, 1024]⟩
abbrev S74 : Shape := ⟨1, ![74]⟩
abbrev S74x512x3584 : Shape := ⟨3, ![74, 512, 3584]⟩
abbrev S_ : Shape := ⟨0, ![]⟩
abbrev S74x1 : Shape := ⟨2, ![74, 1]⟩
abbrev S74x3584x1024 : Shape := ⟨3, ![74, 3584, 1024]⟩
abbrev S74x512x1024 : Shape := ⟨3, ![74, 512, 1024]⟩
abbrev S74x1x1 : Shape := ⟨3, ![74, 1, 1]⟩
abbrev S37888x1024 : Shape := ⟨2, ![37888, 1024]⟩

abbrev nBuf : Space → Nat
  | .hbm => 26
  | .vmem => 0
  | .smem => 0
  | _ => 0

abbrev bufTy : (tb : Table) → Fin (tcTables nBuf tb) → BufTy
  | .hbm, ⟨0, _⟩ => ⟨S37888x3584, .bf16⟩
  | .hbm, ⟨1, _⟩ => ⟨S8x3584x1024, .f32⟩
  | .hbm, ⟨2, _⟩ => ⟨S74, .i32⟩
  | .hbm, ⟨3, _⟩ => ⟨S74, .i32⟩
  | .hbm, ⟨4, _⟩ => ⟨S37888x3584, .f32⟩
  | .hbm, ⟨5, _⟩ => ⟨S74x512x3584, .f32⟩
  | .hbm, ⟨6, _⟩ => ⟨S_, .i32⟩
  | .hbm, ⟨7, _⟩ => ⟨S74, .i32⟩
  | .hbm, ⟨8, _⟩ => ⟨S74, .i1⟩
  | .hbm, ⟨9, _⟩ => ⟨S_, .i32⟩
  | .hbm, ⟨10, _⟩ => ⟨S74, .i32⟩
  | .hbm, ⟨11, _⟩ => ⟨S74, .i32⟩
  | .hbm, ⟨12, _⟩ => ⟨S74, .i32⟩
  | .hbm, ⟨13, _⟩ => ⟨S74x1, .i32⟩
  | .hbm, ⟨14, _⟩ => ⟨S74x3584x1024, .f32⟩
  | .hbm, ⟨15, _⟩ => ⟨S74x512x1024, .f32⟩
  | .hbm, ⟨16, _⟩ => ⟨S74x1x1, .i32⟩
  | .hbm, ⟨17, _⟩ => ⟨S_, .i32⟩
  | .hbm, ⟨18, _⟩ => ⟨S74x1x1, .i32⟩
  | .hbm, ⟨19, _⟩ => ⟨S74x1x1, .i1⟩
  | .hbm, ⟨20, _⟩ => ⟨S_, .f32⟩
  | .hbm, ⟨21, _⟩ => ⟨S_, .f32⟩
  | .hbm, ⟨22, _⟩ => ⟨S74x512x1024, .i1⟩
  | .hbm, ⟨23, _⟩ => ⟨S74x512x1024, .f32⟩
  | .hbm, ⟨24, _⟩ => ⟨S74x512x1024, .f32⟩
  | .hbm, ⟨25, _⟩ => ⟨S37888x1024, .f32⟩
  | _, _ => ⟨S37888x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== QkvSample.lean ====
abbrev S128x4x1024 : Shape := ⟨3, ![128, 4, 1024]⟩
abbrev S1024 : Shape := ⟨1, ![1024]⟩
abbrev S1024x3072 : Shape := ⟨2, ![1024, 3072]⟩
abbrev S64 : Shape := ⟨1, ![64]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S1x64 : Shape := ⟨2, ![1, 64]⟩
abbrev S16x64 : Shape := ⟨2, ![16, 64]⟩
abbrev S3072 : Shape := ⟨1, ![3072]⟩
abbrev S512x1024 : Shape := ⟨2, ![512, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x3072 : Shape := ⟨2, ![1, 3072]⟩
abbrev S1024x512 : Shape := ⟨2, ![1024, 512]⟩
abbrev S1x512 : Shape := ⟨2, ![1, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 108
  | .vmem => 17
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S1x4, .i32⟩
  | .hbm, ⟨10, _⟩ => ⟨S128x4, .i32⟩
  | .hbm, ⟨11, _⟩ => ⟨S512, .i32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S512, .f32⟩
  | .hbm, ⟨23, _⟩ => ⟨S512x1, .f32⟩
  | .hbm, ⟨24, _⟩ => ⟨S1x8, .f32⟩
  | .hbm, ⟨25, _⟩ => ⟨S512x8, .f32⟩
  | .hbm, ⟨26, _⟩ => ⟨S512x8, .f32⟩
  | .hbm, ⟨27, _⟩ => ⟨S512x8, .f32⟩
  | .hbm, ⟨28, _⟩ => ⟨S512x8, .f32⟩
  | .hbm, ⟨29, _⟩ => ⟨S512x8, .f32⟩
  | .hbm, ⟨30, _⟩ => ⟨S_, .f32⟩
  | .hbm, ⟨31, _⟩ => ⟨S512x48, .f32⟩
  | .hbm, ⟨32, _⟩ => ⟨S_, .f32⟩
  | .hbm, ⟨33, _⟩ => ⟨S512x8, .f32⟩
  | .hbm, ⟨34, _⟩ => ⟨S_, .f32⟩
  | .hbm, ⟨35, _⟩ => ⟨S512x48, .f32⟩
  | .hbm, ⟨36, _⟩ => ⟨S512x64, .f32⟩
  | .hbm, ⟨37, _⟩ => ⟨S512x8, .f32⟩
  | .hbm, ⟨38, _⟩ => ⟨S512x64, .f32⟩
  | .hbm, ⟨39, _⟩ => ⟨S512x64, .f32⟩
  | .hbm, ⟨40, _⟩ => ⟨S1x512x1x64, .f32⟩
  | .hbm, ⟨41, _⟩ => ⟨S1x512x2x64, .f32⟩
  | .hbm, ⟨42, _⟩ => ⟨S512x128, .f32⟩
  | .hbm, ⟨43, _⟩ => ⟨S1x512x1x64, .f32⟩
  | .hbm, ⟨44, _⟩ => ⟨S1x512x2x64, .f32⟩
  | .hbm, ⟨45, _⟩ => ⟨S512x128, .f32⟩
  | .hbm, ⟨46, _⟩ => ⟨S1x512x1x64, .f32⟩
  | .hbm, ⟨47, _⟩ => ⟨S1x512x2x64, .f32⟩
  | .hbm, ⟨48, _⟩ => ⟨S512x128, .f32⟩
  | .hbm, ⟨49, _⟩ => ⟨S1x64, .f32⟩
  | .hbm, ⟨50, _⟩ => ⟨S16x64, .f32⟩
  | .hbm, ⟨51, _⟩ => ⟨S1024, .f32⟩
  | .hbm, ⟨52, _⟩ => ⟨S1x64, .f32⟩
  | .hbm, ⟨53, _⟩ => ⟨S16x64, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S3072, .f32⟩
  | .hbm, ⟨58, _⟩ => ⟨S512x1024, .f32⟩
  | .hbm, ⟨59, _⟩ => ⟨S256, .i32⟩
  | .hbm, ⟨60, _⟩ => ⟨S256x1, .i32⟩
  | .hbm, ⟨61, _⟩ => ⟨S_, .i32⟩
  | .hbm, ⟨62, _⟩ => ⟨S_, .i32⟩
  | .hbm, ⟨63, _⟩ => ⟨S256x1, .i32⟩
  | .hbm, ⟨64, _⟩ => ⟨S256x1, .i32⟩
  | .hbm, ⟨65, _⟩ => ⟨S256x1, .i32⟩
  | .hbm, ⟨66, _⟩ => ⟨S_, .i32⟩
  | .hbm, ⟨67, _⟩ => ⟨S256x1, .i32⟩
  | .hbm, ⟨68, _⟩ => ⟨S256x1, .i1⟩
  | .hbm, ⟨69, _⟩ => ⟨S256x1, .i32⟩
  | .hbm, ⟨70, _⟩ => ⟨S256x1, .i32⟩
  | .hbm, ⟨71, _⟩ => ⟨S_, .i32⟩
  | .hbm, ⟨72, _⟩ => ⟨S256x1, .i32⟩
  | .hbm, ⟨73, _⟩ => ⟨S256x1, .i1⟩
  | .hbm, ⟨74, _⟩ => ⟨S256x1, .i1⟩
  | .hbm, ⟨75, _⟩ => ⟨S_, .i32⟩
  | .hbm, ⟨76, _⟩ => ⟨S256x1, .i32⟩
  | .hbm, ⟨77, _⟩ => ⟨S256x1, .i32⟩
  | .hbm, ⟨78, _⟩ => ⟨S256x1, .i32⟩
  | .hbm, ⟨79, _⟩ => ⟨S256, .i32⟩
  | .hbm, ⟨80, _⟩ => ⟨S1x256, .i32⟩
  | .hbm, ⟨81, _⟩ => ⟨S_, .i32⟩
  | .hbm, ⟨82, _⟩ => ⟨S_, .i32⟩
  | .hbm, ⟨83, _⟩ => ⟨S1x256, .i32⟩
  | .hbm, ⟨84, _⟩ => ⟨S1x256, .i32⟩
  | .hbm, ⟨85, _⟩ => ⟨S1x256, .i32⟩
  | .hbm, ⟨86, _⟩ => ⟨S_, .i32⟩
  | .hbm, ⟨87, _⟩ => ⟨S1x256, .i32⟩
  | .hbm, ⟨88, _⟩ => ⟨S1x256, .i1⟩
  | .hbm, ⟨89, _⟩ => ⟨S1x256, .i32⟩
  | .hbm, ⟨90, _⟩ => ⟨S1x256, .i32⟩
  | .hbm, ⟨91, _⟩ => ⟨S_, .i32⟩
  | .hbm, ⟨92, _⟩ => ⟨S1x256, .i32⟩
  | .hbm, ⟨93, _⟩ => ⟨S1x256, .i1⟩
  | .hbm, ⟨94, _⟩ => ⟨S1x256, .i1⟩
  | .hbm, ⟨95, _⟩ => ⟨S_, .i32⟩
  | .hbm, ⟨96, _⟩ => ⟨S1x256, .i32⟩
  | .hbm, ⟨97, _⟩ => ⟨S1x256, .i32⟩
  | .hbm, ⟨98, _⟩ => ⟨S1x256, .i32⟩
  | .hbm, ⟨99, _⟩ => ⟨S256x256, .i32⟩
  | .hbm, ⟨100, _⟩ => ⟨S256x256, .i32⟩
  | .hbm, ⟨101, _⟩ => ⟨S256x256, .i1⟩
  | .hbm, ⟨102, _⟩ => ⟨S256x256, .bf16⟩
  | .hbm, ⟨103, _⟩ => ⟨S1x1024, .f32⟩
  | .hbm, ⟨104, _⟩ => ⟨S1x3072, .f32⟩
  | .hbm, ⟨105, _⟩ => ⟨S512x1024, .f32⟩
  | .hbm, ⟨106, _⟩ => ⟨S512x1024, .f32⟩
  | .hbm, ⟨107, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S256x256, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_7 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58_0 : Ref sig .tc := ⟨.hbm, 105, rfl⟩
abbrev main_v58_1 : Ref sig .tc := ⟨.hbm, 106, rfl⟩
abbrev main_v58_2 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c4_i32 : BitVec 32 := 4#32
  let v9 : BitVec 1 := Scalar.cmpi .slt arg1 c4_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c4_i32_5 : BitVec 32 := 4#32
  let v13 : BitVec 1 := Scalar.cmpi .sge arg1 c4_i32_5
  let c6_i32 : BitVec 32 := 6#32
  let v14 : BitVec 1 := Scalar.cmpi .slt arg1 c6_i32
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkvSampleRefIdeal.lean ====
abbrev S128x4x1024 : Shape := ⟨3, ![128, 4, 1024]⟩
abbrev S1024 : Shape := ⟨1, ![1024]⟩
abbrev S1024x3072 : Shape := ⟨2, ![1024, 3072]⟩
abbrev S64 : Shape := ⟨1, ![64]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x3072 : Shape := ⟨3, ![128, 4, 3072]⟩
abbrev S128x4x3x16x64 : Shape := ⟨5, ![128, 4, 3, 16, 64]⟩
abbrev S128x4x1x16x64 : Shape := ⟨5, ![128, 4, 1, 16, 64]⟩
abbrev S128x4x16x64 : Shape := ⟨4, ![128, 4, 16, 64]⟩
abbrev S128x4x16 : Shape := ⟨3, ![128, 4, 16]⟩
abbrev S128x4x16x1 : Shape := ⟨4, ![128, 4, 16, 1]⟩
abbrev S1x1x1x64 : Shape := ⟨4, ![1, 1, 1, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x16x8 : Shape := ⟨4, ![128, 4, 16, 8]⟩
abbrev S1x4x1x8 : Shape := ⟨4, ![1, 4, 1, 8]⟩
abbrev S128x4x16x48 : Shape := ⟨4, ![128, 4, 16, 48]⟩
abbrev S512x1024 : Shape := ⟨2, ![512, 1024]⟩

abbrev nBuf : Space → Nat
  | .hbm => 144
  | .vmem => 0
  | .smem => 0
  | _ => 0

abbrev hbmTy0_0 (i : Nat) : BufTy := match i % 128 with
  | 0 => ⟨S128x4x1024, .f32⟩
  | 1 => ⟨S1024, .f32⟩
  | 2 => ⟨S1024x3072, .f32⟩
  | 3 => ⟨S64, .f32⟩
  | 4 => ⟨S64, .f32⟩
  | 5 => ⟨S4, .i32⟩
  | 6 => ⟨S_, .i32⟩
  | 7 => ⟨S4, .i32⟩
  | 8 => ⟨S4, .i32⟩
  | 9 => ⟨S128x4x1024, .f32⟩
  | 10 => ⟨S_, .f32⟩
  | 11 => ⟨S128x4, .f32⟩
  | 12 => ⟨S128x4x1, .f32⟩
  | 13 => ⟨S_, .f32⟩
  | 14 => ⟨S128x4x1, .f32⟩
  | 15 => ⟨S128x4x1, .f32⟩
  | 16 => ⟨S_, .f32⟩
  | 17 => ⟨S128x4x1, .f32⟩
  | 18 => ⟨S128x4x1, .f32⟩
  | 19 => ⟨S128x4x1, .f32⟩
  | 20 => ⟨S128x4x1024, .f32⟩
  | 21 => ⟨S128x4x1024, .f32⟩
  | 22 => ⟨S1x1x1024, .f32⟩
  | 23 => ⟨S128x4x1024, .f32⟩
  | 24 => ⟨S128x4x1024, .f32⟩
  | 25 => ⟨S128x4x3072, .f32⟩
  | 26 => ⟨S128x4x3x16x64, .f32⟩
  | 27 => ⟨S128x4x1x16x64, .f32⟩
  | 28 => ⟨S128x4x16x64, .f32⟩
  | 29 => ⟨S128x4x16x64, .f32⟩
  | 30 => ⟨S_, .f32⟩
  | 31 => ⟨S128x4x16, .f32⟩
  | 32 => ⟨S128x4x16x1, .f32⟩
  | 33 => ⟨S_, .f32⟩
  | 34 => ⟨S128x4x16x1, .f32⟩
  | 35 => ⟨S128x4x16x1, .f32⟩
  | 36 => ⟨S_, .f32⟩
  | 37 => ⟨S128x4x16x1, .f32⟩
  | 38 => ⟨S128x4x16x1, .f32⟩
  | 39 => ⟨S128x4x16x1, .f32⟩
  | 40 => ⟨S128x4x16x64, .f32⟩
  | 41 => ⟨S128x4x16x64, .f32⟩
  | 42 => ⟨S1x1x1x64, .f32⟩
  | 43 => ⟨S128x4x16x64, .f32⟩
  | 44 => ⟨S128x4x16x64, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S4, .f32⟩
  | 56 => ⟨S4x1, .f32⟩
  | 57 => ⟨S1x8, .f32⟩
  | 58 => ⟨S4x8, .f32⟩
  | 59 => ⟨S4x8, .f32⟩
  | 60 => ⟨S4x8, .f32⟩
  | 61 => ⟨S4x8, .f32⟩
  | 62 => ⟨S4x1x8, .f32⟩
  | 63 => ⟨S4x8, .f32⟩
  | 64 => ⟨S4x1x8, .f32⟩
  | 65 => ⟨S128x4x16x8, .f32⟩
  | 66 => ⟨S128x4x16x8, .f32⟩
  | 67 => ⟨S1x4x1x8, .f32⟩
  | 68 => ⟨S128x4x16x8, .f32⟩
  | 69 => ⟨S128x4x16x8, .f32⟩
  | 70 => ⟨S1x4x1x8, .f32⟩
  | 71 => ⟨S128x4x16x8, .f32⟩
  | 72 => ⟨S128x4x16x8, .f32⟩
  | 73 => ⟨S128x4x16x8, .f32⟩
  | 74 => ⟨S1x4x1x8, .f32⟩
  | 75 => ⟨S128x4x16x8, .f32⟩
  | 76 => ⟨S128x4x16x8, .f32⟩
  | 77 => ⟨S1x4x1x8, .f32⟩
  | 78 => ⟨S128x4x16x8, .f32⟩
  | 79 => ⟨S128x4x16x8, .f32⟩
  | 80 => ⟨S128x4x16x8, .f32⟩
  | 81 => ⟨S128x4x16x48, .f32⟩
  | 82 => ⟨S128x4x16x64, .f32⟩
  | 83 => ⟨S128x4x1x16x64, .f32⟩
  | 84 => ⟨S128x4x16x64, .f32⟩
  | 85 => ⟨S128x4x16x64, .f32⟩
  | 86 => ⟨S_, .f32⟩
  | 87 => ⟨S128x4x16, .f32⟩
  | 88 => ⟨S128x4x16x1, .f32⟩
  | 89 => ⟨S_, .f32⟩
  | 90 => ⟨S128x4x16x1, .f32⟩
  | 91 => ⟨S128x4x16x1, .f32⟩
  | 92 => ⟨S_, .f32⟩
  | 93 => ⟨S128x4x16x1, .f32⟩
  | 94 => ⟨S128x4x16x1, .f32⟩
  | 95 => ⟨S128x4x16x1, .f32⟩
  | 96 => ⟨S128x4x16x64, .f32⟩
  | 97 => ⟨S128x4x16x64, .f32⟩
  | 98 => ⟨S1x1x1x64, .f32⟩
  | 99 => ⟨S128x4x16x64, .f32⟩
  | 100 => ⟨S128x4x16x64, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S4, .f32⟩
  | 112 => ⟨S4x1, .f32⟩
  | 113 => ⟨S1x8, .f32⟩
  | 114 => ⟨S4x8, .f32⟩
  | 115 => ⟨S4x8, .f32⟩
  | 116 => ⟨S4x8, .f32⟩
  | 117 => ⟨S4x8, .f32⟩
  | 118 => ⟨S4x1x8, .f32⟩
  | 119 => ⟨S4x8, .f32⟩
  | 120 => ⟨S4x1x8, .f32⟩
  | 121 => ⟨S128x4x16x8, .f32⟩
  | 122 => ⟨S128x4x16x8, .f32⟩
  | 123 => ⟨S1x4x1x8, .f32⟩
  | 124 => ⟨S128x4x16x8, .f32⟩
  | 125 => ⟨S128x4x16x8, .f32⟩
  | 126 => ⟨S1x4x1x8, .f32⟩
  | 127 => ⟨S128x4x16x8, .f32⟩
  | _ => ⟨S128x4x1024, .f32⟩

abbrev hbmTy0_1 (i : Nat) : BufTy := match i % 128 with
  | 0 => ⟨S128x4x16x8, .f32⟩
  | 1 => ⟨S128x4x16x8, .f32⟩
  | 2 => ⟨S1x4x1x8, .f32⟩
  | 3 => ⟨S128x4x16x8, .f32⟩
  | 4 => ⟨S128x4x16x8, .f32⟩
  | 5 => ⟨S1x4x1x8, .f32⟩
  | 6 => ⟨S128x4x16x8, .f32⟩
  | 7 => ⟨S128x4x16x8, .f32⟩
  | 8 => ⟨S128x4x16x8, .f32⟩
  | 9 => ⟨S128x4x16x48, .f32⟩
  | 10 => ⟨S128x4x16x64, .f32⟩
  | 11 => ⟨S128x4x1x16x64, .f32⟩
  | 12 => ⟨S128x4x16x64, .f32⟩
  | 13 => ⟨S512x1024, .f32⟩
  | 14 => ⟨S512x1024, .f32⟩
  | 15 => ⟨S512x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_cst_13 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩

abbrev nD : Nat := 1
abbrev τ : Topo := Topo.v7x

variable {F : FTy → Type} [FloatOps F]
-- ==== Proof.DsMath.lean ====
module

public import Idealize.ShloMosaic.Lib.Pointwise

@[expose] public section

/-! # Real and extended-real facts about masked scores -/

noncomputable section

namespace Cert.DsMath

open Idealize.ShloMosaic

/-- A finite sum of reals, coerced. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The running maximum of scores none of which is `⊤`, one of which is not `⊥`, is a real. -/
theorem fold_max_real {ι : Type} [Fintype ι] (f : ι → EReal) (ht : ∀ i, f i ≠ ⊤) (hb : ∃ i, f i ≠ ⊥) :
    ∃ m : ℝ, Finset.univ.fold max ⊥ f = (m : EReal) := by
  have h1 : Finset.univ.fold max ⊥ f ≠ ⊤ := by
    apply ne_of_lt
    rw [Finset.fold_max_lt]
    exact ⟨bot_lt_top, fun i _ => lt_top_iff_ne_top.mpr (ht i)⟩
  have h2 : Finset.univ.fold max ⊥ f ≠ ⊥ := by
    obtain ⟨i, hi⟩ := hb
    intro h
    have : f i ≤ Finset.univ.fold max ⊥ f := by
      rw [Finset.le_fold_max]
      exact .inr ⟨i, Finset.mem_univ i, le_refl _⟩
    rw [h] at this
    exact hi (le_bot_iff.mp this)
  exact ⟨_, (EReal.coe_toReal h1 h2).symm⟩

/-- The running maximum of scores none of which is `⊤` is not `⊤`. -/
theorem fold_max_ne_top {ι : Type} [Fintype ι] (f : ι → EReal) (ht : ∀ i, f i ≠ ⊤) :
    Finset.univ.fold max ⊥ f ≠ ⊤ := by
  apply ne_of_lt
  rw [Finset.fold_max_lt]
  exact ⟨bot_lt_top, fun i _ => lt_top_iff_ne_top.mpr (ht i)⟩

/-- A masked real is never `⊤`. -/
theorem msk_ne_top (p : Prop) [Decidable p] (a : ℝ) : (if p then (a : EReal) else ⊥) ≠ ⊤ := by
  split
  · exact EReal.coe_ne_top a
  · exact bot_ne_top

/-- The exponential of a masked score less a real: zero where the score is masked. -/
theorem exp_msk (p : Prop) [Decidable p] (a m : ℝ) :
    Ideal.exp ((if p then (a : EReal) else ⊥) - (m : EReal)) = ((if p then Real.exp (a - m) else 0 : ℝ) : EReal) := by
  split
  · rw [← EReal.coe_sub, Ideal.exp_coe]
  · rw [EReal.bot_sub, Ideal.exp_bot, EReal.coe_zero]

/-- A quotient of reals with a nonzero divisor. -/
theorem div_real {b : ℝ} (hb : b ≠ 0) (a : ℝ) : Ideal.div (a : EReal) (b : EReal) = ((a / b : ℝ) : EReal) := by
  rw [Ideal.div_coe hb, ← EReal.coe_mul, mul_one_div]

/-- The logarithm of a positive real. -/
theorem log_real {a : ℝ} (h : 0 < a) : Ideal.log (a : EReal) = (Real.log a : EReal) := by
  rw [Ideal.log_coe, if_neg (not_le.mpr h)]

/-- The pattern of one eighth. -/
theorem ofBits_eighth : Ideal.ofBits .f32 0x3E000000#32 = ((1 / 8 : ℝ) : EReal) := by
  simp [Ideal.ofBits, Ideal.ieee, -EReal.coe_mul]; norm_num

/-- The pattern of minus infinity. -/
theorem ofBits_ninf : Ideal.ofBits .f32 0xFF800000#32 = ⊥ := by
  simp [Ideal.ofBits, Ideal.ieee]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The stride of group `g`. -/
def dil (g : ℕ) : ℕ := if g = 0 then 1 else if g = 1 then 4 else 16

/-- The window of group `g`. -/
def win (g : ℕ) : ℕ := 128 * dil g

/-- The position query `i` of group `g` reads at step `j`. -/
def pos (g i j : ℕ) : ℕ := 2048 + i - j * dil g

/-- The positions that query `i` of group `g` sees. -/
def vis (g i t : ℕ) : Prop := t ≤ 2048 + i ∧ (2048 + i - t) % dil g = 0 ∧ 2048 + i - t ≤ win g

instance (g i t : ℕ) : Decidable (vis g i t) :=
  inferInstanceAs (Decidable (t ≤ 2048 + i ∧ (2048 + i - t) % dil g = 0 ∧ 2048 + i - t ≤ win g))

/-- The maximum of a real and a score that is not `⊤` is a real. -/
theorem max_real {a b : EReal} (ha : ∃ m : ℝ, a = m) (hb : b ≠ ⊤) : ∃ m : ℝ, max a b = (m : EReal) := by
  obtain ⟨m, rfl⟩ := ha
  rcases le_total (m : EReal) b with h | h
  · rw [max_eq_right h]
    have : b ≠ ⊥ := fun h0 => by rw [h0] at h; exact EReal.coe_ne_bot m (le_bot_iff.mp h)
    exact ⟨_, (EReal.coe_toReal hb this).symm⟩
  · rw [max_eq_left h]; exact ⟨m, rfl⟩

/-- The position sixteen steps back is seen by every group. -/
theorem vis_back (g i : ℕ) : vis g i (2032 + i) := by
  have hd : dil g = 1 ∨ dil g = 4 ∨ dil g = 16 := by
    unfold dil; split
    · exact .inl rfl
    · split
      · exact .inr (.inl rfl)
      · exact .inr (.inr rfl)
  unfold vis win
  rcases hd with h | h | h <;> rw [h] <;> omega

/-- A sum over the positions that a query sees is the sum over its 129 steps. -/
theorem sum_vis (g i : ℕ) (hg : g < 3) (hi : i < 4) (f : ℕ → ℝ) :
    ∑ t ∈ Finset.range 2052, (if vis g i t then f t else 0) = ∑ j ∈ Finset.range 129, f (pos g i j) := by
  rw [← Finset.sum_filter]
  have hd : dil g = 1 ∨ dil g = 4 ∨ dil g = 16 := by
    unfold dil; split
    · exact .inl rfl
    · split
      · exact .inr (.inl rfl)
      · exact .inr (.inr rfl)
  symm
  refine Finset.sum_nbij' (fun j => pos g i j) (fun t => (2048 + i - t) / dil g) ?_ ?_ ?_ ?_ ?_
  · intro j hj
    have hj := Finset.mem_range.mp hj
    refine Finset.mem_filter.mpr ⟨Finset.mem_range.mpr ?_, ?_⟩
    · unfold pos; omega
    · unfold vis pos win
      rcases hd with h | h | h <;> rw [h] <;> omega
  · intro t ht
    obtain ⟨-, h2⟩ := Finset.mem_filter.mp ht
    rw [Finset.mem_range]
    unfold vis win at h2
    rcases hd with h | h | h <;> rw [h] at h2 ⊢ <;> omega
  · intro j hj
    have hj := Finset.mem_range.mp hj
    unfold pos
    rcases hd with h | h | h <;> rw [h] <;> omega
  · intro t ht
    obtain ⟨-, h2⟩ := Finset.mem_filter.mp ht
    unfold vis win at h2
    unfold pos
    rcases hd with h | h | h <;> rw [h] at h2 ⊢ <;> omega
  · intro j _
    rfl

/-- The same with the positions cut into the 2048 cached ones and the four new ones. -/
theorem sum_vis_split (g i : ℕ) (hg : g < 3) (hi : i < 4) (f : ℕ → ℝ) :
    (∑ t : Fin 2048, if vis g i t then f t else 0) + (if vis g i (2048 + 0) then f (2048 + 0) else 0)
      + (if vis g i (2048 + 1) then f (2048 + 1) else 0) + (if vis g i (2048 + 2) then f (2048 + 2) else 0)
      + (if vis g i (2048 + 3) then f (2048 + 3) else 0) = ∑ j : Fin 129, f (pos g i j) := by
  rw [Fin.sum_univ_eq_sum_range (fun t => if vis g i t then f t else 0),
    Fin.sum_univ_eq_sum_range (fun j => f (pos g i j)), ← sum_vis g i hg hi f]
  simp only [Finset.sum_range_succ (n := 2051), Finset.sum_range_succ (n := 2050), Finset.sum_range_succ (n := 2049),
    Finset.sum_range_succ (n := 2048)]

/-- A sum over 512 lanes of which only head `h`'s count. -/
theorem sum_head (h : ℕ) (hh : h < 8) (f : ℕ → ℝ) :
    ∑ l : Fin 512, (if (l : ℕ) / 64 = h then f l else 0) = ∑ c : Fin 64, f (h * 64 + c) := by
  rw [Fin.sum_univ_eq_sum_range (fun l => if l / 64 = h then f l else 0),
    Fin.sum_univ_eq_sum_range (fun c => f (h * 64 + c)), ← Finset.sum_filter]
  symm
  refine Finset.sum_nbij' (fun c => h * 64 + c) (fun l => l - h * 64) ?_ ?_ ?_ ?_ ?_
  · intro c hc; simp only [Finset.mem_filter, Finset.mem_range] at hc ⊢; omega
  · intro c hc; simp only [Finset.mem_filter, Finset.mem_range] at hc ⊢; omega
  · intro c hc; simp only [Finset.mem_range] at hc ⊢; omega
  · intro c hc; simp only [Finset.mem_filter, Finset.mem_range] at hc ⊢; omega
  · intro c hc; rfl

/-- The score of query `i` of group `g`, head `h`, at position `t`. -/
def score (Q K : ℕ → ℕ → ℝ) (g i h t : ℕ) : ℝ :=
  (∑ c : Fin 64, Q i (g * 512 + (h * 64 + c)) * K (h * 64 + c) t) * (1 / 8)

/-- The denominator of a group: the sum of the exponentials over the positions it reads. -/
def den (Q K : ℕ → ℕ → ℝ) (g i h : ℕ) : ℝ := ∑ j : Fin 129, Real.exp (score Q K g i h (pos g i j))

/-- The numerator of a group at a lane. -/
def num (Q K V : ℕ → ℕ → ℝ) (g i x : ℕ) : ℝ :=
  ∑ j : Fin 129, Real.exp (score Q K g i (x / 64) (pos g i j)) * V x (pos g i j)

theorem den_pos (Q K : ℕ → ℕ → ℝ) (g i h : ℕ) : 0 < den Q K g i h :=
  Finset.sum_pos (fun _ _ => Real.exp_pos _) ⟨0, Finset.mem_univ _⟩

/-- The attention of query `i` at a lane: the three groups' numerators over their denominators. -/
def attn (Q K V : ℕ → ℕ → ℝ) (i x : ℕ) : ℝ :=
  (num Q K V 0 i x + num Q K V 1 i x + num Q K V 2 i x)
    / (den Q K 0 i (x / 64) + den Q K 1 i (x / 64) + den Q K 2 i (x / 64))

/-- The kernel's denominator: the exponentials less the row's maximum. -/
theorem kernel_den (Q K : ℕ → ℕ → ℝ) (g i h : ℕ) (hg : g < 3) (hi : i < 4) (m : ℝ) :
    (∑ t : Fin 2048, if vis g i t then Real.exp (score Q K g i h t - m) else 0)
      + (if vis g i (2048 + 0) then Real.exp (score Q K g i h (2048 + 0) - m) else 0)
      + (if vis g i (2048 + 1) then Real.exp (score Q K g i h (2048 + 1) - m) else 0)
      + (if vis g i (2048 + 2) then Real.exp (score Q K g i h (2048 + 2) - m) else 0)
      + (if vis g i (2048 + 3) then Real.exp (score Q K g i h (2048 + 3) - m) else 0)
      = den Q K g i h * Real.exp (-m) := by
  rw [sum_vis_split g i hg hi (fun t => Real.exp (score Q K g i h t - m)), den, Finset.sum_mul]
  refine Finset.sum_congr rfl fun j _ => ?_
  rw [← Real.exp_add, sub_eq_add_neg]

/-- The kernel's numerator. -/
theorem kernel_num (Q K V : ℕ → ℕ → ℝ) (g i x : ℕ) (hg : g < 3) (hi : i < 4) (m : ℝ) :
    (∑ t : Fin 2048, (if vis g i t then Real.exp (score Q K g i (x / 64) t - m) else 0) * V x t)
      + (if vis g i (2048 + 0) then Real.exp (score Q K g i (x / 64) (2048 + 0) - m) else 0) * V x (2048 + 0)
      + (if vis g i (2048 + 1) then Real.exp (score Q K g i (x / 64) (2048 + 1) - m) else 0) * V x (2048 + 1)
      + (if vis g i (2048 + 2) then Real.exp (score Q K g i (x / 64) (2048 + 2) - m) else 0) * V x (2048 + 2)
      + (if vis g i (2048 + 3) then Real.exp (score Q K g i (x / 64) (2048 + 3) - m) else 0) * V x (2048 + 3)
      = num Q K V g i x * Real.exp (-m) := by
  simp only [ite_mul, zero_mul]
  rw [sum_vis_split g i hg hi (fun t => Real.exp (score Q K g i (x / 64) t - m) * V x t), num, Finset.sum_mul]
  refine Finset.sum_congr rfl fun j _ => ?_
  rw [sub_eq_add_neg, Real.exp_add]
  ring

/-- Merging three groups by the exponentials of their log-denominators. -/
theorem merge (n0 n1 n2 d0 d1 d2 M : ℝ) (h0 : 0 < d0) (h1 : 0 < d1) (h2 : 0 < d2) :
    (Real.exp (Real.log d0 - M) * (n0 / d0) + Real.exp (Real.log d1 - M) * (n1 / d1)
        + Real.exp (Real.log d2 - M) * (n2 / d2))
      / (Real.exp (Real.log d0 - M) + Real.exp (Real.log d1 - M) + Real.exp (Real.log d2 - M))
      = (n0 + n1 + n2) / (d0 + d1 + d2) := by
  simp only [sub_eq_add_neg, Real.exp_add, Real.exp_log h0, Real.exp_log h1, Real.exp_log h2]
  have e := Real.exp_pos (-M)
  have hs : (0 : ℝ) < d0 + d1 + d2 := by positivity
  field_simp

end Cert.DsMath
-- ==== Proof.DsWords.lean ====
module

public import proofs.«01_k».proof.Proof.Gen.DilSampleIdeal.Frame
public import Idealize.ShloMosaic.Lib.Pointwise
public import proofs.«01_k».proof.Proof.DsMath

@[expose] public section

set_option maxRecDepth 16384

/-! # The integer words of the kernel: heads, groups, queries and masks -/

noncomputable section

namespace Cert.DsK

open Idealize.ShloMosaic Cert.DilSampleIdeal Cert.DilSampleIdeal.Gen Cert.DsMath

/-- The head of a lane, as the kernel computes it for the eight rows of one query. -/
theorem lane_head (h : Fin 8) (l : Fin 512) : k0_pay3 (ix2 h l) = BitVec.ofNat 32 (l / 64) := by
  pointwise [k0_pay3]
  revert l
  decide +kernel

theorem row_ids (r : Fin 96) : (iota .tc S96x1 32 [0] iota_S96x1_d0_w32 : IVec S96x1 32) (ix2 r 0) = BitVec.ofNat 32 r := by
  pointwise

/-- The group of a row. -/
theorem row_group (r : Fin 96) :
    k0_pay27 (iota .tc S96x1 32 [0] iota_S96x1_d0_w32) 32#32 k0_pay25 k0_pay26 (ix2 r 0) = BitVec.ofNat 32 (r / 32) := by
  pointwise [k0_pay27, k0_pay25, k0_pay26]
  revert r
  decide +kernel

/-- The query of a row. -/
theorem row_query (r : Fin 96) :
    k0_pay29 (k0_pay28 (iota .tc S96x1 32 [0] iota_S96x1_d0_w32)) 4#32 (Scalar.cmpi .eq 4#32 0#32) (ix2 r 0)
      = BitVec.ofNat 32 (r / 8 % 4) := by
  pointwise [k0_pay29, k0_pay28]
  revert r
  decide +kernel

/-- The window of a row's group. -/
theorem row_win (v : IVec S96x1 32) (r : Fin 96) (hv : v (ix2 r 0) = BitVec.ofNat 32 (r / 32)) :
    k0_pay30 v (ix2 r 0) = BitVec.ofNat 32 (win (r / 32)) := by
  pointwise [k0_pay30]
  rw [hv]
  clear hv
  revert r
  simp only [win, dil]
  decide +kernel

/-- The stride of a row's group less one. -/
theorem row_low (v : IVec S96x1 32) (r : Fin 96) (hv : v (ix2 r 0) = BitVec.ofNat 32 (r / 32)) :
    k0_pay31 v (ix2 r 0) = BitVec.ofNat 32 (dil (r / 32) - 1) := by
  pointwise [k0_pay31]
  rw [hv]
  clear hv
  revert r
  simp only [dil]
  decide +kernel

/-- The mask that keeps a row's own head among the lanes. -/
theorem own_head (r : Fin 96) (x : Fin 512) :
    k0_pay52 (iota .tc S96x512 32 [1] iota_S96x512_d1_w32) 64#32 k0_pay50 k0_pay51
      (Scalar.subi (Scalar.extui (Scalar.cmpi .sgt 64#32 0#32)) (Scalar.extui (Scalar.cmpi .slt 64#32 0#32))) (ix2 r x)
      = BitVec.ofBool (decide ((x : ℕ) / 64 = r % 8)) := by
  pointwise [k0_pay52, k0_pay50, k0_pay51]
  refine (congrArg₂ (IntOp.cmpi .eq) (?_ : _ = BitVec.ofNat 32 (x / 64)) (?_ : _ = BitVec.ofNat 32 (r % 8))).trans ?_
  · revert x; decide +kernel
  · revert r; decide +kernel
  · have hx : (x : ℕ) / 64 < 8 := by omega
    have hr : (r : ℕ) % 8 < 8 := by omega
    generalize (x : ℕ) / 64 = a at hx ⊢
    generalize (r : ℕ) % 8 = b at hr ⊢
    revert b
    revert a
    decide +kernel

/-- A selection by the bit of a proposition. -/
theorem sel_if {α : Type} (p : Prop) [Decidable p] (a b : α) :
    Scalar.select (BitVec.ofBool (decide p)) a b = if p then a else b := by
  by_cases h : p <;> simp [h, Scalar.select]

/-- A selection by the equality of two small words. -/
theorem sel_eq {α : Type} (m n : ℕ) (hm : m < 8) (hn : n < 8) (a b : α) :
    Scalar.select (IntOp.cmpi .eq (BitVec.ofNat 32 m) (BitVec.ofNat 32 n)) a b = if m = n then a else b := by
  rw [← sel_if]
  congr 1
  revert n
  revert m
  decide +kernel

/-- The mask of a cached position. -/
theorem mask_word : ∀ (g : Fin 3) (i : Fin 4) (t : Fin 2048),
    IntOp.andi (IntOp.cmpi .eq (IntOp.andi (IntOp.subi (IntOp.addi 2048#32 (BitVec.ofNat 32 i)) (BitVec.ofNat 32 t))
        (BitVec.ofNat 32 (dil g - 1))) 0#32)
      (IntOp.cmpi .sle (IntOp.subi (IntOp.addi 2048#32 (BitVec.ofNat 32 i)) (BitVec.ofNat 32 t)) (BitVec.ofNat 32 (win g)))
      = BitVec.ofBool (decide (vis g i t)) := by
  decide +kernel

/-- The mask of a new position. -/
theorem mask_new : ∀ (g : Fin 3) (i : Fin 4) (j : Fin 4),
    IntOp.andi (IntOp.andi (IntOp.cmpi .sge (BitVec.ofNat 32 i) (BitVec.ofNat 32 j))
        (IntOp.cmpi .eq (IntOp.andi (IntOp.subi (BitVec.ofNat 32 i) (BitVec.ofNat 32 j)) (BitVec.ofNat 32 (dil g - 1))) 0#32))
      (IntOp.cmpi .sle (IntOp.subi (BitVec.ofNat 32 i) (BitVec.ofNat 32 j)) (BitVec.ofNat 32 (win g)))
      = BitVec.ofBool (decide (vis g i (2048 + j))) := by
  decide +kernel

end Cert.DsK
-- ==== Proof.DsKernel.lean ====
module

public import proofs.«01_k».proof.Proof.DsWords

@[expose] public section

set_option maxRecDepth 16384

/-! # The kernel's block, stage by stage -/

noncomputable section

namespace Cert.DsK

open Idealize.ShloMosaic Cert.DilSampleIdeal Cert.DilSampleIdeal.Gen Cert.DsMath

variable (x0 : Vec Ideal S1x4x1536 .f32) (x1 x2 : Vec Ideal S1x4x512 .f32) (x3 x4 : Vec Ideal S1x512x2048 .f32)
variable (Q K V : ℕ → ℕ → ℝ)

/-- A masked query row at a lane: the query's own lane under its head, zero elsewhere. -/
def qrow (r l : ℕ) : ℝ := if l / 64 = r % 8 then Q (r / 8 % 4) (r / 32 * 512 + l) else 0

theorem dite_of {α : Type} {p : Prop} [Decidable p] {a : p → α} {b : ¬p → α} {c : α} (ha : ∀ h, a h = c)
    (hb : ∀ h, b h = c) : dite p a b = c := by
  by_cases h : p
  · rw [dif_pos h]; exact ha h
  · rw [dif_neg h]; exact hb h

theorem coe_if (p : Prop) [Decidable p] (a : ℝ) :
    (if p then (a : EReal) else 0) = ((if p then a else 0 : ℝ) : EReal) := by split <;> simp

variable (h0 : ∀ (i : Fin 4) (l : Fin 1536), x0 (ix3 0 i l) = ((Q i l : ℝ) : EReal))
include h0

/-- Query 0 of group 0, masked to each head. -/
theorem q0 (h : Fin 8) (l : Fin 512) :
    k0_pay67 x0 x1 x2 x3 x4 (ix2 h l) = ((if (l : ℕ) / 64 = h then Q 0 (0 * 512 + l) else 0 : ℝ) : EReal) := by
  pointwise [k0_pay67, k0_pay4, k0_pay2]
  rw [lane_head, sel_eq _ _ (by omega) (by omega), h0, ← coe_if]
  simp

/-- Query 1 of group 0, masked to each head. -/
theorem q1 (h : Fin 8) (l : Fin 512) :
    k0_pay68 x0 x1 x2 x3 x4 (ix2 h l) = ((if (l : ℕ) / 64 = h then Q 1 (0 * 512 + l) else 0 : ℝ) : EReal) := by
  pointwise [k0_pay68, k0_pay5, k0_pay2]
  rw [lane_head, sel_eq _ _ (by omega) (by omega), h0, ← coe_if]
  simp

/-- Query 2 of group 0, masked to each head. -/
theorem q2 (h : Fin 8) (l : Fin 512) :
    k0_pay69 x0 x1 x2 x3 x4 (ix2 h l) = ((if (l : ℕ) / 64 = h then Q 2 (0 * 512 + l) else 0 : ℝ) : EReal) := by
  pointwise [k0_pay69, k0_pay6, k0_pay2]
  rw [lane_head, sel_eq _ _ (by omega) (by omega), h0, ← coe_if]
  simp

/-- Query 3 of group 0, masked to each head. -/
theorem q3 (h : Fin 8) (l : Fin 512) :
    k0_pay70 x0 x1 x2 x3 x4 (ix2 h l) = ((if (l : ℕ) / 64 = h then Q 3 (0 * 512 + l) else 0 : ℝ) : EReal) := by
  pointwise [k0_pay70, k0_pay7, k0_pay2, k0_pay65, k0_pay66, k0_pay64]
  rw [lane_head, sel_eq _ _ (by omega) (by omega), h0, ← coe_if]
  simp

/-- Query 0 of group 1, masked to each head. -/
theorem q4 (h : Fin 8) (l : Fin 512) :
    k0_pay71 x0 x1 x2 x3 x4 (ix2 h l) = ((if (l : ℕ) / 64 = h then Q 0 (1 * 512 + l) else 0 : ℝ) : EReal) := by
  pointwise [k0_pay71, k0_pay8, k0_pay2, k0_pay65, k0_pay66, k0_pay64]
  rw [lane_head, sel_eq _ _ (by omega) (by omega), h0, ← coe_if]
  simp

/-- Query 1 of group 1, masked to each head. -/
theorem q5 (h : Fin 8) (l : Fin 512) :
    k0_pay72 x0 x1 x2 x3 x4 (ix2 h l) = ((if (l : ℕ) / 64 = h then Q 1 (1 * 512 + l) else 0 : ℝ) : EReal) := by
  pointwise [k0_pay72, k0_pay9, k0_pay2, k0_pay65, k0_pay66, k0_pay64]
  rw [lane_head, sel_eq _ _ (by omega) (by omega), h0, ← coe_if]
  simp

/-- Query 2 of group 1, masked to each head. -/
theorem q6 (h : Fin 8) (l : Fin 512) :
    k0_pay73 x0 x1 x2 x3 x4 (ix2 h l) = ((if (l : ℕ) / 64 = h then Q 2 (1 * 512 + l) else 0 : ℝ) : EReal) := by
  pointwise [k0_pay73, k0_pay10, k0_pay2, k0_pay65, k0_pay66, k0_pay64]
  rw [lane_head, sel_eq _ _ (by omega) (by omega), h0, ← coe_if]
  simp

/-- Query 3 of group 1, masked to each head. -/
theorem q7 (h : Fin 8) (l : Fin 512) :
    k0_pay74 x0 x1 x2 x3 x4 (ix2 h l) = ((if (l : ℕ) / 64 = h then Q 3 (1 * 512 + l) else 0 : ℝ) : EReal) := by
  pointwise [k0_pay74, k0_pay11, k0_pay2, k0_pay65, k0_pay66, k0_pay64]
  rw [lane_head, sel_eq _ _ (by omega) (by omega), h0, ← coe_if]
  simp

/-- Query 0 of group 2, masked to each head. -/
theorem q8 (h : Fin 8) (l : Fin 512) :
    k0_pay75 x0 x1 x2 x3 x4 (ix2 h l) = ((if (l : ℕ) / 64 = h then Q 0 (2 * 512 + l) else 0 : ℝ) : EReal) := by
  pointwise [k0_pay75, k0_pay12, k0_pay2, k0_pay65, k0_pay66, k0_pay64]
  rw [lane_head, sel_eq _ _ (by omega) (by omega), h0, ← coe_if]
  simp

/-- Query 1 of group 2, masked to each head. -/
theorem q9 (h : Fin 8) (l : Fin 512) :
    k0_pay76 x0 x1 x2 x3 x4 (ix2 h l) = ((if (l : ℕ) / 64 = h then Q 1 (2 * 512 + l) else 0 : ℝ) : EReal) := by
  pointwise [k0_pay76, k0_pay13, k0_pay2, k0_pay65, k0_pay66, k0_pay64]
  rw [lane_head, sel_eq _ _ (by omega) (by omega), h0, ← coe_if]
  simp

/-- Query 2 of group 2, masked to each head. -/
theorem q10 (h : Fin 8) (l : Fin 512) :
    k0_pay77 x0 x1 x2 x3 x4 (ix2 h l) = ((if (l : ℕ) / 64 = h then Q 2 (2 * 512 + l) else 0 : ℝ) : EReal) := by
  pointwise [k0_pay77, k0_pay14, k0_pay2, k0_pay65, k0_pay66, k0_pay64]
  rw [lane_head, sel_eq _ _ (by omega) (by omega), h0, ← coe_if]
  simp

/-- Query 3 of group 2, masked to each head. -/
theorem q11 (h : Fin 8) (l : Fin 512) :
    Scalar.select (k0_pay79 x0 x1 x2 x3 x4 (ix2 h l)) (k0_pay78 x0 x1 x2 x3 x4 (ix2 h l)) (0 : EReal)
      = ((if (l : ℕ) / 64 = h then Q 3 (2 * 512 + l) else 0 : ℝ) : EReal) := by
  pointwise [k0_pay79, k0_pay16, k0_pay66, k0_pay64, k0_pay78, k0_pay15, k0_pay65, k0_pay2]
  rw [lane_head, sel_eq _ _ (by omega) (by omega), h0, ← coe_if]
  simp

omit h0 in
/-- One row of a group's query, in the whole matrix's numbering. -/
theorem qpiece (r l g i h : ℕ) (hr : r = 32 * g + 8 * i + h) (hi : i < 4) (hh : h < 8) :
    ((if l / 64 = h then Q i (g * 512 + l) else 0 : ℝ) : EReal) = ((qrow Q r l : ℝ) : EReal) := by
  unfold qrow
  rw [show r % 8 = h by omega, show r / 8 % 4 = i by omega, show r / 32 = g by omega]

/-- The masked query matrix at a row and a lane. -/
theorem qf (r : Fin 96) (l : Fin 512) :
    k0_pay17 (k0_pay67 x0 x1 x2 x3 x4) (k0_pay68 x0 x1 x2 x3 x4) (k0_pay69 x0 x1 x2 x3 x4) (k0_pay70 x0 x1 x2 x3 x4) (k0_pay71 x0 x1 x2 x3 x4) (k0_pay72 x0 x1 x2 x3 x4) (k0_pay73 x0 x1 x2 x3 x4) (k0_pay74 x0 x1 x2 x3 x4) (k0_pay75 x0 x1 x2 x3 x4) (k0_pay76 x0 x1 x2 x3 x4) (k0_pay77 x0 x1 x2 x3 x4) (k0_pay78 x0 x1 x2 x3 x4) (k0_pay79 x0 x1 x2 x3 x4) (ix2 r l) = ((qrow Q r l : ℝ) : EReal) := by
  pointwise [k0_pay17]
  refine dite_of (fun h => ?_) (fun h => ?_)
  · rw [q0 x0 x1 x2 x3 x4 Q h0]
    exact qpiece Q _ _ _ _ _ (by dsimp only; omega) (by omega) (by dsimp only; omega)
  refine dite_of (fun h => ?_) (fun h => ?_)
  · rw [q1 x0 x1 x2 x3 x4 Q h0]
    exact qpiece Q _ _ _ _ _ (by dsimp only; omega) (by omega) (by dsimp only; omega)
  refine dite_of (fun h => ?_) (fun h => ?_)
  · rw [q2 x0 x1 x2 x3 x4 Q h0]
    exact qpiece Q _ _ _ _ _ (by dsimp only; omega) (by omega) (by dsimp only; omega)
  refine dite_of (fun h => ?_) (fun h => ?_)
  · rw [q3 x0 x1 x2 x3 x4 Q h0]
    exact qpiece Q _ _ _ _ _ (by dsimp only; omega) (by omega) (by dsimp only; omega)
  refine dite_of (fun h => ?_) (fun h => ?_)
  · rw [q4 x0 x1 x2 x3 x4 Q h0]
    exact qpiece Q _ _ _ _ _ (by dsimp only; omega) (by omega) (by dsimp only; omega)
  refine dite_of (fun h => ?_) (fun h => ?_)
  · rw [q5 x0 x1 x2 x3 x4 Q h0]
    exact qpiece Q _ _ _ _ _ (by dsimp only; omega) (by omega) (by dsimp only; omega)
  refine dite_of (fun h => ?_) (fun h => ?_)
  · rw [q6 x0 x1 x2 x3 x4 Q h0]
    exact qpiece Q _ _ _ _ _ (by dsimp only; omega) (by omega) (by dsimp only; omega)
  refine dite_of (fun h => ?_) (fun h => ?_)
  · rw [q7 x0 x1 x2 x3 x4 Q h0]
    exact qpiece Q _ _ _ _ _ (by dsimp only; omega) (by omega) (by dsimp only; omega)
  refine dite_of (fun h => ?_) (fun h => ?_)
  · rw [q8 x0 x1 x2 x3 x4 Q h0]
    exact qpiece Q _ _ _ _ _ (by dsimp only; omega) (by omega) (by dsimp only; omega)
  refine dite_of (fun h => ?_) (fun h => ?_)
  · rw [q9 x0 x1 x2 x3 x4 Q h0]
    exact qpiece Q _ _ _ _ _ (by dsimp only; omega) (by omega) (by dsimp only; omega)
  refine dite_of (fun h => ?_) (fun h => ?_)
  · rw [q10 x0 x1 x2 x3 x4 Q h0]
    exact qpiece Q _ _ _ _ _ (by dsimp only; omega) (by omega) (by dsimp only; omega)
  · rw [q11 x0 x1 x2 x3 x4 Q h0]
    exact qpiece Q _ _ _ _ _ (by dsimp only; omega) (by omega) (by dsimp only; omega)

omit h0 in
theorem w85 (r : Fin 96) : k0_pay85 x0 x1 x2 x3 x4 (ix2 r 0) = BitVec.ofNat 32 (r / 8 % 4) := by
  unfold k0_pay85 k0_pay80; exact row_query r

omit h0 in
theorem w86 (r : Fin 96) : k0_pay86 x0 x1 x2 x3 x4 (ix2 r 0) = BitVec.ofNat 32 (win (r / 32)) := by
  unfold k0_pay86 k0_pay84 k0_pay80; exact row_win _ r (row_group r)

omit h0 in
theorem w87 (r : Fin 96) : k0_pay87 x0 x1 x2 x3 x4 (ix2 r 0) = BitVec.ofNat 32 (dil (r / 32) - 1) := by
  unfold k0_pay87 k0_pay84 k0_pay80; exact row_low _ r (row_group r)

omit h0 in
/-- The lanes of a masked query row against a key: the head's own 64 lanes. -/
theorem score_eq (r : Fin 96) (t : ℕ) :
    (∑ l : Fin 512, qrow Q r l * K l t) * (1 / 8) = score Q K (r / 32) (r / 8 % 4) (r % 8) t := by
  unfold score qrow
  congr 1
  simp only [ite_mul, zero_mul]
  exact sum_head _ (by omega) (fun l => Q (r / 8 % 4) (r / 32 * 512 + l) * K l t)

variable (h3 : ∀ (l : Fin 512) (t : Fin 2048), x3 (ix3 0 l t) = ((K l t : ℝ) : EReal))
include h3

/-- The masked score of a row at a cached position. -/
theorem scores (r : Fin 96) (t : Fin 2048) :
    k0_pay88 x0 x1 x2 x3 x4 (ix2 r t)
      = if vis (r / 32) (r / 8 % 4) t then ((score Q K (r / 32) (r / 8 % 4) (r % 8) t : ℝ) : EReal) else ⊥ := by
  pointwise [k0_pay88, k0_pay32, k0_pay18]
  rw [w85, w86, w87]
  have hm := mask_word ⟨r / 32, by omega⟩ ⟨r / 8 % 4, by omega⟩ t
  dsimp only at hm
  rw [hm, sel_if, ofBits_ninf]
  congr 1
  rw [← score_eq, Finset.sum_mul, ← coe_sum]
  refine Finset.sum_congr rfl fun l _ => ?_
  rw [qf x0 x1 x2 x3 x4 Q h0, h3, ofBits_eighth, ← EReal.coe_mul, ← EReal.coe_mul, mul_right_comm]

omit h3
variable (h1 : ∀ (j : Fin 4) (l : Fin 512), x1 (ix3 0 j l) = ((K l (2048 + j) : ℝ) : EReal))
include h1

/-- The masked score of a row at the new position 0. -/
theorem new0 (r : Fin 96) :
    k0_pay89 x0 x1 x2 x3 x4 (ix2 r 0) = if vis (r / 32) (r / 8 % 4) (2048 + 0)
      then ((score Q K (r / 32) (r / 8 % 4) (r % 8) (2048 + 0) : ℝ) : EReal) else ⊥ := by
  pointwise [k0_pay89, k0_pay33, k0_pay21, k0_pay19]
  rw [w85, w86, w87]
  have hm := mask_new ⟨r / 32, by omega⟩ ⟨r / 8 % 4, by omega⟩ 0
  dsimp only at hm
  refine (congrArg (fun w => Scalar.select w _ _) hm).trans ?_
  rw [sel_if, ofBits_ninf]
  congr 1
  rw [← score_eq, EReal.coe_mul, ← coe_sum, ofBits_eighth]
  congr 1
  refine Finset.sum_congr rfl fun l _ => ?_
  rw [qf x0 x1 x2 x3 x4 Q h0, h1, ← EReal.coe_mul]
  rfl

/-- The masked score of a row at the new position 1. -/
theorem new1 (r : Fin 96) :
    k0_pay91 x0 x1 x2 x3 x4 (ix2 r 0) = if vis (r / 32) (r / 8 % 4) (2048 + 1)
      then ((score Q K (r / 32) (r / 8 % 4) (r % 8) (2048 + 1) : ℝ) : EReal) else ⊥ := by
  pointwise [k0_pay91, k0_pay35, k0_pay22, k0_pay19, k0_pay81, k0_pay90, k0_pay34]
  rw [w85, w86, w87]
  have hm := mask_new ⟨r / 32, by omega⟩ ⟨r / 8 % 4, by omega⟩ 1
  dsimp only at hm
  refine (congrArg (fun w => Scalar.select w _ _) hm).trans ?_
  rw [sel_if, ofBits_ninf]
  congr 1
  rw [← score_eq, EReal.coe_mul, ← coe_sum, ofBits_eighth]
  congr 1
  refine Finset.sum_congr rfl fun l _ => ?_
  rw [qf x0 x1 x2 x3 x4 Q h0, h1, ← EReal.coe_mul]
  rfl

/-- The masked score of a row at the new position 2. -/
theorem new2 (r : Fin 96) :
    k0_pay92 x0 x1 x2 x3 x4 (ix2 r 0) = if vis (r / 32) (r / 8 % 4) (2048 + 2)
      then ((score Q K (r / 32) (r / 8 % 4) (r % 8) (2048 + 2) : ℝ) : EReal) else ⊥ := by
  pointwise [k0_pay92, k0_pay36, k0_pay23, k0_pay19, k0_pay82]
  rw [w85, w86, w87]
  have hm := mask_new ⟨r / 32, by omega⟩ ⟨r / 8 % 4, by omega⟩ 2
  dsimp only at hm
  refine (congrArg (fun w => Scalar.select w _ _) hm).trans ?_
  rw [sel_if, ofBits_ninf]
  congr 1
  rw [← score_eq, EReal.coe_mul, ← coe_sum, ofBits_eighth]
  congr 1
  refine Finset.sum_congr rfl fun l _ => ?_
  rw [qf x0 x1 x2 x3 x4 Q h0, h1, ← EReal.coe_mul]
  rfl

/-- The masked score of a row at the new position 3. -/
theorem new3 (r : Fin 96) :
    k0_pay93 x0 x1 x2 x3 x4 (ix2 r 0) = if vis (r / 32) (r / 8 % 4) (2048 + 3)
      then ((score Q K (r / 32) (r / 8 % 4) (r % 8) (2048 + 3) : ℝ) : EReal) else ⊥ := by
  pointwise [k0_pay93, k0_pay37, k0_pay24, k0_pay19, k0_pay83]
  rw [w85, w86, w87]
  have hm := mask_new ⟨r / 32, by omega⟩ ⟨r / 8 % 4, by omega⟩ 3
  dsimp only at hm
  refine (congrArg (fun w => Scalar.select w _ _) hm).trans ?_
  rw [sel_if, ofBits_ninf]
  congr 1
  rw [← score_eq, EReal.coe_mul, ← coe_sum, ofBits_eighth]
  congr 1
  refine Finset.sum_congr rfl fun l _ => ?_
  rw [qf x0 x1 x2 x3 x4 Q h0, h1, ← EReal.coe_mul]
  rfl

include h3

omit h0 h1 h3 in
/-- The literal of a masked score. -/
theorem of_bits : FloatOps.ofBits (F := Ideal) FTy.f32 4286578688#32 = Ideal.ofBits FTy.f32 4286578688#32 := rfl

/-- Every row has a real maximum. -/
theorem row_max (r : Fin 96) : ∃ m : ℝ, k0_pay94 x0 x1 x2 x3 x4 (ix2 r 0) = ((m : ℝ) : EReal) := by
  pointwise [k0_pay94, k0_pay38]
  have e1 := new1 x0 x1 x2 x3 x4 Q K h0 h1 r
  have e2 := new2 x0 x1 x2 x3 x4 Q K h0 h1 r
  have e3 := new3 x0 x1 x2 x3 x4 Q K h0 h1 r
  unfold k0_pay91 at e1
  rw [of_bits] at e1
  unfold k0_pay92 at e2
  unfold k0_pay93 at e3
  simp only [scores x0 x1 x2 x3 x4 Q K h0 h3, new0 x0 x1 x2 x3 x4 Q K h0 h1]
  rw [e1, e2, e3, ofBits_ninf]
  refine max_real (max_real (max_real (max_real (fold_max_real _ ?_ ?_) ?_) ?_) ?_) ?_
  · intro t; exact msk_ne_top _ _
  · refine ⟨⟨2032 + r / 8 % 4, by omega⟩, ?_⟩
    rw [if_pos (vis_back _ _)]
    exact EReal.coe_ne_bot _
  all_goals exact msk_ne_top _ _

/-- The exponential of a cached position's score less the row's maximum. -/
theorem probs (r : Fin 96) (t : Fin 2048) (m : ℝ) (hm : k0_pay94 x0 x1 x2 x3 x4 (ix2 r 0) = ((m : ℝ) : EReal)) :
    k0_pay39 (k0_pay81 x0 x1 x2 x3 x4) (k0_pay82 x0 x1 x2 x3 x4) (k0_pay83 x0 x1 x2 x3 x4) (k0_pay85 x0 x1 x2 x3 x4) (k0_pay86 x0 x1 x2 x3 x4) (k0_pay87 x0 x1 x2 x3 x4) (k0_pay88 x0 x1 x2 x3 x4) (k0_pay89 x0 x1 x2 x3 x4) (k0_pay90 x0 x1 x2 x3 x4) (Ideal.ofBits FTy.f32 4286578688#32)
      (ix2 r t) = ((if vis (r / 32) (r / 8 % 4) t
        then Real.exp (score Q K (r / 32) (r / 8 % 4) (r % 8) t - m) else 0 : ℝ) : EReal) := by
  unfold k0_pay94 at hm
  rw [of_bits] at hm
  pointwise [k0_pay39]
  rw [scores x0 x1 x2 x3 x4 Q K h0 h3, hm, exp_msk]

/-- A row's denominator. -/
theorem den_row (r : Fin 96) (m : ℝ) (hm : k0_pay94 x0 x1 x2 x3 x4 (ix2 r 0) = ((m : ℝ) : EReal)) :
    k0_pay47 (k0_pay89 x0 x1 x2 x3 x4) (k0_pay91 x0 x1 x2 x3 x4) (k0_pay92 x0 x1 x2 x3 x4) (k0_pay93 x0 x1 x2 x3 x4)
      (k0_pay94 x0 x1 x2 x3 x4) (k0_pay95 x0 x1 x2 x3 x4) (ix2 r 0)
      = ((den Q K (r / 32) (r / 8 % 4) (r % 8) * Real.exp (-m) : ℝ) : EReal) := by
  pointwise [k0_pay47, k0_pay43, k0_pay44, k0_pay45, k0_pay46, k0_pay95, k0_pay40]
  simp only [probs x0 x1 x2 x3 x4 Q K h0 h3 h1 _ _ m hm]
  rw [hm, new0 x0 x1 x2 x3 x4 Q K h0 h1, new1 x0 x1 x2 x3 x4 Q K h0 h1, new2 x0 x1 x2 x3 x4 Q K h0 h1,
    new3 x0 x1 x2 x3 x4 Q K h0 h1, exp_msk, exp_msk, exp_msk, exp_msk, coe_sum, ← EReal.coe_add, ← EReal.coe_add,
    ← EReal.coe_add, ← EReal.coe_add, kernel_den Q K _ _ _ (by omega) (by omega)]

variable (h2 : ∀ (j : Fin 4) (l : Fin 512), x2 (ix3 0 j l) = ((V l (2048 + j) : ℝ) : EReal))
variable (h4 : ∀ (l : Fin 512) (t : Fin 2048), x4 (ix3 0 l t) = ((V l t : ℝ) : EReal))
include h2 h4

/-- A row's output at a lane of its own head. -/
theorem out_row (r : Fin 96) (x : Fin 512) (hx : (x : ℕ) / 64 = r % 8) :
    k0_pay97 x0 x1 x2 x3 x4 (ix2 r x)
      = ((num Q K V (r / 32) (r / 8 % 4) x / den Q K (r / 32) (r / 8 % 4) (x / 64) : ℝ) : EReal) := by
  obtain ⟨m, hm⟩ := row_max x0 x1 x2 x3 x4 Q K h0 h3 h1 r
  pointwise [k0_pay97, k0_pay48, k0_pay43, k0_pay44, k0_pay45, k0_pay46, k0_pay20, k0_pay41, k0_pay42]
  simp only [probs x0 x1 x2 x3 x4 Q K h0 h3 h1 _ _ m hm, h2, h4]
  rw [den_row x0 x1 x2 x3 x4 Q K h0 h3 h1 r m hm, hm, new0 x0 x1 x2 x3 x4 Q K h0 h1, new1 x0 x1 x2 x3 x4 Q K h0 h1,
    new2 x0 x1 x2 x3 x4 Q K h0 h1, new3 x0 x1 x2 x3 x4 Q K h0 h1, exp_msk, exp_msk, exp_msk, exp_msk]
  simp only [← EReal.coe_mul, coe_sum, ← EReal.coe_add]
  rw [div_real (by have := den_pos Q K (r / 32) (r / 8 % 4) (r % 8); positivity)]
  rw [← hx]
  have hk := kernel_num Q K V (r / 32) (r / 8 % 4) x (by omega) (by omega) m
  refine congrArg _ (.trans (congrArg (· / _) hk) ?_)
  rw [mul_div_mul_right _ _ (Real.exp_pos _).ne']

omit h2 h4
/-- A row's log-denominator, the same at every lane. -/
theorem lse_row (r : Fin 96) (x : Fin 512) :
    k0_pay98 x0 x1 x2 x3 x4 (ix2 r x) = ((Real.log (den Q K (r / 32) (r / 8 % 4) (r % 8)) : ℝ) : EReal) := by
  obtain ⟨m, hm⟩ := row_max x0 x1 x2 x3 x4 Q K h0 h3 h1 r
  pointwise [k0_pay98, k0_pay49]
  have hd := den_pos Q K (r / 32) (r / 8 % 4) (r % 8)
  rw [den_row x0 x1 x2 x3 x4 Q K h0 h3 h1 r m hm, hm, log_real (by positivity), ← EReal.coe_add,
    Real.log_mul hd.ne' (Real.exp_pos _).ne', Real.log_exp]
  exact congrArg _ (by ring)

end Cert.DsK
-- ==== Proof.DsMerge.lean ====
module

public import proofs.«01_k».proof.Proof.DsKernel
public import Idealize.ShloMosaic.Lib.Pipeline.ValueKit

@[expose] public section

set_option maxRecDepth 16384

noncomputable section

namespace Cert.DsK

open Idealize.ShloMosaic Cert.DilSampleIdeal Cert.DilSampleIdeal.Gen Cert.DsMath

variable (x0 : Vec Ideal S1x4x1536 .f32) (x1 x2 : Vec Ideal S1x4x512 .f32) (x3 x4 : Vec Ideal S1x512x2048 .f32)

/-- The scalar word that the head test reads. -/
def w0 : BitVec 32 := Scalar.subi (Scalar.extui (Scalar.cmpi .sgt 64#32 0#32)) (Scalar.extui (Scalar.cmpi .slt 64#32 0#32))

/-- The sum over a row block's eight heads of the entries at their own heads' lanes is the entry of the lane's head. -/
theorem head_sum (v : FVec Ideal S96x512 .f32) (a : Fin 12) (x : Fin 512) :
    k0_pay53 v (k0_pay96 x0 x1 x2 x3 x4) 64#32 (k0_pay99 x0 x1 x2 x3 x4) (k0_pay100 x0 x1 x2 x3 x4) w0 (ix2 a x)
      = v (ix2 ⟨8 * a + x / 64, by omega⟩ x) := by
  pointwise [k0_pay53, k0_pay96, k0_pay99, k0_pay100, w0]
  have hx : (x : ℕ) / 64 < 8 := by omega
  refine (Finset.sum_congr rfl fun h _ => ?_).trans
    (Finset.sum_ite_eq' Finset.univ (⟨x / 64, hx⟩ : Fin 8) fun _ => v (ix2 ⟨8 * a + x / 64, by omega⟩ x)) |>.trans ?_
  · rw [own_head, sel_if]
    by_cases e : (x : ℕ) / 64 = h
    · have : h = ⟨x / 64, hx⟩ := Fin.ext e.symm
      rw [if_pos this, if_pos (by dsimp only; omega)]
      congr 2
      exact Fin.ext (by dsimp only; omega)
    · rw [if_neg (fun q => e (by dsimp only at q; omega)), if_neg (fun q => e (by rw [q]))]
  · rw [if_pos (Finset.mem_univ _)]

/-- The same sum over the log-denominators. -/
theorem head_sum' (v : FVec Ideal S96x512 .f32) (a : Fin 12) (x : Fin 512) :
    k0_pay54 v (k0_pay96 x0 x1 x2 x3 x4) 64#32 (k0_pay99 x0 x1 x2 x3 x4) (k0_pay100 x0 x1 x2 x3 x4) w0 (ix2 a x)
      = v (ix2 ⟨8 * a + x / 64, by omega⟩ x) := head_sum x0 x1 x2 x3 x4 v a x

variable (Q K V : ℕ → ℕ → ℝ)
variable (h0 : ∀ (i : Fin 4) (l : Fin 1536), x0 (ix3 0 i l) = ((Q i l : ℝ) : EReal))
variable (h3 : ∀ (l : Fin 512) (t : Fin 2048), x3 (ix3 0 l t) = ((K l t : ℝ) : EReal))
variable (h1 : ∀ (j : Fin 4) (l : Fin 512), x1 (ix3 0 j l) = ((K l (2048 + j) : ℝ) : EReal))
variable (h2 : ∀ (j : Fin 4) (l : Fin 512), x2 (ix3 0 j l) = ((V l (2048 + j) : ℝ) : EReal))
variable (h4 : ∀ (l : Fin 512) (t : Fin 2048), x4 (ix3 0 l t) = ((V l t : ℝ) : EReal))
include h0 h3 h1

/-- Block `a` of the log-denominators at a lane: group `a / 4`, query `a % 4`, the lane's head. -/
theorem lse_block (a : Fin 12) (x : Fin 512) :
    k0_pay54 (k0_pay98 x0 x1 x2 x3 x4) (k0_pay96 x0 x1 x2 x3 x4) 64#32 (k0_pay99 x0 x1 x2 x3 x4)
        (k0_pay100 x0 x1 x2 x3 x4) w0 (ix2 a x)
      = ((Real.log (den Q K (a / 4) (a % 4) (x / 64)) : ℝ) : EReal) := by
  rw [head_sum', lse_row x0 x1 x2 x3 x4 Q K h0 h3 h1]
  have e1 : (8 * (a : ℕ) + x / 64) / 32 = a / 4 := by omega
  have e2 : (8 * (a : ℕ) + x / 64) / 8 % 4 = a % 4 := by omega
  have e3 : (8 * (a : ℕ) + x / 64) % 8 = x / 64 := by omega
  dsimp only
  rw [e1, e2, e3]

include h2 h4

/-- Block `a` of the group outputs at a lane. -/
theorem out_block (a : Fin 12) (x : Fin 512) :
    k0_pay53 (k0_pay97 x0 x1 x2 x3 x4) (k0_pay96 x0 x1 x2 x3 x4) 64#32 (k0_pay99 x0 x1 x2 x3 x4)
        (k0_pay100 x0 x1 x2 x3 x4) w0 (ix2 a x)
      = ((num Q K V (a / 4) (a % 4) x / den Q K (a / 4) (a % 4) (x / 64) : ℝ) : EReal) := by
  rw [head_sum, out_row x0 x1 x2 x3 x4 Q K V h0 h3 h1 h2 h4 _ _ (by dsimp only; omega)]
  have e1 : (8 * (a : ℕ) + x / 64) / 32 = a / 4 := by omega
  have e2 : (8 * (a : ℕ) + x / 64) / 8 % 4 = a % 4 := by omega
  dsimp only
  rw [e1, e2]

/-- The block the kernel writes is the attention of the block's queries. -/
theorem block_eq (i : Fin 4) (x : Fin 512) :
    out0_5 x0 x1 x2 x3 x4 (ix3 0 i x) = ((attn Q K V i x : ℝ) : EReal) := by
  have o := out_block x0 x1 x2 x3 x4 Q K V h0 h3 h1 h2 h4
  have l := lse_block x0 x1 x2 x3 x4 Q K h0 h3 h1
  have a0 : ((i : ℕ) / 4) = 0 := by omega
  have a1 : ((4 + (i : ℕ)) / 4) = 1 := by omega
  have a2 : ((8 + (i : ℕ)) / 4) = 2 := by omega
  have b0 : ((i : ℕ) % 4) = i := by omega
  have b1 : ((4 + (i : ℕ)) % 4) = i := by omega
  have b2 : ((8 + (i : ℕ)) % 4) = i := by omega
  have hs : out0_5 x0 x1 x2 x3 x4 (ix3 0 i x) = k0_pay1
      (k0_pay55 (k0_pay97 x0 x1 x2 x3 x4) (k0_pay96 x0 x1 x2 x3 x4) 64#32 (k0_pay99 x0 x1 x2 x3 x4) (k0_pay100 x0 x1 x2 x3 x4) w0)
      (k0_pay56 (k0_pay97 x0 x1 x2 x3 x4) (k0_pay96 x0 x1 x2 x3 x4) 64#32 (k0_pay99 x0 x1 x2 x3 x4) (k0_pay100 x0 x1 x2 x3 x4) w0)
      (k0_pay57 (k0_pay97 x0 x1 x2 x3 x4) (k0_pay96 x0 x1 x2 x3 x4) 64#32 (k0_pay99 x0 x1 x2 x3 x4) (k0_pay100 x0 x1 x2 x3 x4) w0)
      (k0_pay60 (k0_pay98 x0 x1 x2 x3 x4) (k0_pay96 x0 x1 x2 x3 x4) 64#32 (k0_pay99 x0 x1 x2 x3 x4) (k0_pay100 x0 x1 x2 x3 x4) w0)
      (k0_pay61 (k0_pay98 x0 x1 x2 x3 x4) (k0_pay96 x0 x1 x2 x3 x4) 64#32 (k0_pay99 x0 x1 x2 x3 x4) (k0_pay100 x0 x1 x2 x3 x4) w0)
      (k0_pay62 (k0_pay98 x0 x1 x2 x3 x4) (k0_pay96 x0 x1 x2 x3 x4) 64#32 (k0_pay99 x0 x1 x2 x3 x4) (k0_pay100 x0 x1 x2 x3 x4) w0)
      (k0_pay63 (k0_pay98 x0 x1 x2 x3 x4) (k0_pay96 x0 x1 x2 x3 x4) 64#32 (k0_pay99 x0 x1 x2 x3 x4) (k0_pay100 x0 x1 x2 x3 x4) w0)
      (ix3 0 i x) := by
    unfold out0_5
    exact congrFun (View.canon_unit_zero (by decide) _ _) _
  rw [hs]
  pointwise [k0_pay1, k0_pay62, k0_pay63, k0_pay61, k0_pay58, k0_pay59, k0_pay60, k0_pay55, k0_pay56, k0_pay57]
  simp only [o, l]
  simp only [a0, a1, a2, b0, b1, b2, coe_max, ← EReal.coe_sub, Ideal.exp_coe, ← EReal.coe_mul, ← EReal.coe_add]
  rw [div_real (by positivity), merge _ _ _ _ _ _ _ (den_pos ..) (den_pos ..) (den_pos ..), attn]

end Cert.DsK
-- ==== Proof.DsRef.lean ====
module

public import proofs.«01_k».proof.Proof.DsMath
public import proofs.«01_k».proof.Proof.Gen.DilSampleRefIdeal.Run
public import Idealize.ShloMosaic.Lib.Pipeline.ValueKit

@[expose] public section

set_option maxRecDepth 16384

/-! # The reference, index by index -/

noncomputable section

namespace Cert.DsR

open Idealize.ShloMosaic Cert.DilSampleRefIdeal Cert.DilSampleRefIdeal.Gen Cert.DsMath

/-- The rows a query's index words name, read at an index. -/
theorem gather_ctx {α : Type} (x : S128x2052x8x64.Idx → α) (idx : IVec S4x129x1 32) (b : Fin 128) (i : Fin 4)
    (j : Fin 129) (h : Fin 8) (c : Fin 64) (p : Fin 2052) (hp : (idx (ix3 i j 0)).toInt.toNat = p) :
    Host.gather gather_S128x2052x8x64_S4x129x1_S128x4x129x8x64_034_1_n_n_1_2_1281864 x idx (ix5 b i j h c) = x (ix4 b p h c) := by
  unfold Host.gather
  congr 1
  funext a
  refine Fin.ext ?_
  show GatherDims.start gather_S128x2052x8x64_S4x129x1_S128x4x129x8x64_034_1_n_n_1_2_1281864 (ix5 b i j h c) idx a
      + GatherDims.batchCoord gather_S128x2052x8x64_S4x129x1_S128x4x129x8x64_034_1_n_n_1_2_1281864 (ix5 b i j h c) a
      + GatherDims.offCoord gather_S128x2052x8x64_S4x129x1_S128x4x129x8x64_034_1_n_n_1_2_1281864 (ix5 b i j h c) a = _
  rw [GatherDims.batchCoord_eq_zero _ _ _ List.not_mem_nil]
  have ha : a = 0 ∨ a = 1 ∨ a = 2 ∨ a = 3 := by revert a; decide
  rcases ha with rfl | rfl | rfl | rfl
  · unfold GatherDims.start
    rw [dif_neg (by decide)]
    unfold GatherDims.offCoord
    rw [dif_pos (by decide)]
    simp only [Nat.zero_add]
    rfl
  · rw [GatherDims.offCoord_eq_zero _ _ _ (by decide)]
    unfold GatherDims.start
    rw [dif_pos (by decide)]
    have hsi : GatherDims.siIdx gather_S128x2052x8x64_S4x129x1_S128x4x129x8x64_034_1_n_n_1_2_1281864 (ix5 b i j h c) ⟨List.idxOf (1 : Fin 4) gather_S128x2052x8x64_S4x129x1_S128x4x129x8x64_034_1_n_n_1_2_1281864.startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    simp only [Nat.add_zero]
    refine (congrArg (fun w : BitVec 32 => min w.toInt.toNat 2051) (congrArg idx hsi)).trans ?_
    show min (idx (ix3 i j 0)).toInt.toNat 2051 = p
    rw [hp]; omega
  · unfold GatherDims.start
    rw [dif_neg (by decide)]
    unfold GatherDims.offCoord
    rw [dif_pos (by decide)]
    simp only [Nat.zero_add]
    rfl
  · unfold GatherDims.start
    rw [dif_neg (by decide)]
    unfold GatherDims.offCoord
    rw [dif_pos (by decide)]
    simp only [Nat.zero_add]
    rfl

/-- The index words of a group as the gather takes them. -/
def starts (w : IVec S4x129 32) : IVec S4x129x1 32 :=
  broadcastInDim S4x129x1 ![0, 1] bcast_S4x129_S4x129x1_0_1 (select (cmpi .slt w (broadcastInDim S4x129 ![] bcast_S_S4x129 (constantI S_ 32 0#32))) (addi w (broadcastInDim S4x129 ![] bcast_S_S4x129 (constantI S_ 32 2052#32))) w)

/-- The index words of a group, clamped at zero. -/
def clamp0 (w : IVec S4x129 32) : IVec S4x129 32 := maxsi w (broadcastInDim S4x129 ![] bcast_S_S4x129 (constantI S_ 32 0#32))

/-- The index words of a group of stride `d`. -/
def rows (d : BitVec 32) : IVec S4x129 32 :=
  subi (broadcastInDim S4x129 ![0, 1] bcast_S4x1_S4x129_0_1 (addi (broadcastInDim S4x1 ![] bcast_S_S4x1 (constantI S_ 32 2048#32)) (broadcastInDim S4x1 ![0] bcast_S4_S4x1_0 (iotaInDim S4 32 0)))) (broadcastInDim S4x129 ![0, 1] bcast_S1x129_S4x129_0_1 (muli (broadcastInDim S1x129 ![1] bcast_S129_S1x129_1 (iotaInDim S129 32 0)) (broadcastInDim S1x129 ![] bcast_S_S1x129 (constantI S_ 32 d))))

/-- The stride word of a group. -/
def dw (g : ℕ) : BitVec 32 := BitVec.ofNat 32 (dil g)

/-- A position is one of the 2052 of the context. -/
theorem pos_lt (g i j : ℕ) (hi : i < 4) : pos g i j < 2052 := by unfold pos; omega

/-- The start word of a step is its position. -/
theorem starts_at (g : Fin 3) (i : Fin 4) (j : Fin 129) :
    (starts (clamp0 (rows (dw g))) (ix3 i j 0)).toInt.toNat = pos g i j := by
  pointwise [starts, clamp0, rows, dw]
  revert j
  revert i
  revert g
  decide +kernel

/-- Every step's word is nonnegative. -/
theorem valid_at (g : Fin 3) (i : Fin 4) (j : Fin 129) :
    IntOp.cmpi .sge (rows (dw g) (ix2 i j)) 0#32 = 1#1 := by
  pointwise [rows, dw]
  revert j
  revert i
  revert g
  decide +kernel

/-- A group's scores of gathered keys. -/
def scoresR (qg : FVec Ideal S128x4x8x64 .f32) (w : IVec S4x129 32) (kc : FVec Ideal S128x2052x8x64 .f32) : FVec Ideal S128x4x8x129 .f32 :=
  select (broadcastInDim S128x4x8x129 ![0, 1, 2, 3] bcast_S1x4x1x129_S128x4x8x129_0_1_2_3 (broadcastInDim S1x4x1x129 ![1, 3] bcast_S4x129_S1x4x1x129_1_3 (cmpi .sge w (broadcastInDim S4x129 ![] bcast_S_S4x129 (constantI S_ 32 0#32))))) (mulf (Host.dotGeneral dot_S128x4x8x64_S128x4x129x8x64_S128x4x8x129_3_4_n_2_012_013 none qg (Host.gather gather_S128x2052x8x64_S4x129x1_S128x4x129x8x64_034_1_n_n_1_2_1281864 kc (starts (clamp0 w)))) (broadcastInDim S128x4x8x129 ![] bcast_S_S128x4x8x129 (constant S_ .f32 0x3E000000#32))) (broadcastInDim S128x4x8x129 ![] bcast_S_S128x4x8x129 (id (constant S_ .f32 0xFF800000#32)))

/-- A group's maxima. -/
def maxR (s : FVec Ideal S128x4x8x129 .f32) : FVec Ideal S128x4x8 .f32 :=
  Host.reduce FloatOps.maximumf s (constant S_ .f32 0xFF800000#32) reducesTo_S128x4x8x129_S128x4x8_d3 h_S_

/-- A group's log-denominators. -/
def lseR (s : FVec Ideal S128x4x8x129 .f32) : FVec Ideal S128x4x8 .f32 :=
  addf (Host.log (Host.reduceAdd (Host.exp (subf s (broadcastInDim S128x4x8x129 ![0, 1, 2, 3] bcast_S128x4x8x1_S128x4x8x129_0_1_2_3 (broadcastInDim S128x4x8x1 ![0, 1, 2] bcast_S128x4x8_S128x4x8x1_0_1_2 (maxR s))))) (constant S_ .f32 0x00000000#32) reducesTo_S128x4x8x129_S128x4x8_d3 h_S_)) (maxR s)

/-- A group's outputs. -/
def outR (s : FVec Ideal S128x4x8x129 .f32) (w : IVec S4x129 32) (vc : FVec Ideal S128x2052x8x64 .f32) : FVec Ideal S128x4x8x64 .f32 :=
  Host.dotGeneral dot_S128x4x8x129_S128x4x129x8x64_S128x4x8x64_3_2_n_4_012_013 none (Host.exp (subf s (broadcastInDim S128x4x8x129 ![0, 1, 2, 3] bcast_S128x4x8x1_S128x4x8x129_0_1_2_3 (broadcastInDim S128x4x8x1 ![0, 1, 2] bcast_S128x4x8_S128x4x8x1_0_1_2 (lseR s))))) (Host.gather gather_S128x2052x8x64_S4x129x1_S128x4x129x8x64_034_1_n_n_1_2_1281864 vc (starts (clamp0 w)))

section
variable (Q K V : ℕ → ℕ → ℝ) (b : Fin 128) (g : Fin 3)
variable (qg : FVec Ideal S128x4x8x64 .f32) (kc vc : FVec Ideal S128x2052x8x64 .f32)
variable (hq : ∀ (i : Fin 4) (h : Fin 8) (c : Fin 64), qg (ix4 b i h c) = ((Q i (g * 512 + (h * 64 + c)) : ℝ) : EReal))
variable (hk : ∀ (t : Fin 2052) (h : Fin 8) (c : Fin 64), kc (ix4 b t h c) = ((K (h * 64 + c) t : ℝ) : EReal))
variable (hv : ∀ (t : Fin 2052) (h : Fin 8) (c : Fin 64), vc (ix4 b t h c) = ((V (h * 64 + c) t : ℝ) : EReal))
include hq hk

/-- A score of the reference. -/
theorem score_at (i : Fin 4) (h : Fin 8) (j : Fin 129) :
    scoresR qg (rows (dw g)) kc (ix4 b i h j) = ((score Q K g i h (pos g i j) : ℝ) : EReal) := by
  have hva := valid_at g i j
  pointwise [scoresR]
  have hg := fun c => gather_ctx kc _ b i j h c ⟨pos g i j, pos_lt _ _ _ i.2⟩ (starts_at g i j)
  simp only [hg, hq, hk, ofBits_eighth, ← EReal.coe_mul, coe_sum, hva, Scalar.select, if_true]
  rfl

/-- A group's maximum is real. -/
theorem max_at (i : Fin 4) (h : Fin 8) : ∃ m : ℝ, maxR (scoresR qg (rows (dw g)) kc) (ix3 b i h) = ((m : ℝ) : EReal) := by
  pointwise [maxR]
  simp only [score_at Q K b g qg kc hq hk]
  rw [ofBits_ninf]
  exact fold_max_real _ (fun _ => EReal.coe_ne_top _) ⟨0, EReal.coe_ne_bot _⟩

/-- A group's log-denominator. -/
theorem lse_at (i : Fin 4) (h : Fin 8) :
    lseR (scoresR qg (rows (dw g)) kc) (ix3 b i h) = ((Real.log (den Q K g i h) : ℝ) : EReal) := by
  obtain ⟨m, hm⟩ := max_at Q K b g qg kc hq hk i h
  pointwise [lseR]
  rw [hm]
  simp only [score_at Q K b g qg kc hq hk, hm, ← EReal.coe_sub, Ideal.exp_coe, coe_sum]
  have hd := den_pos Q K g i h
  have e : (∑ j : Fin 129, Real.exp (score Q K g i h (pos g i j) - m)) = den Q K g i h * Real.exp (-m) := by
    rw [den, Finset.sum_mul]
    exact Finset.sum_congr rfl fun j _ => by rw [← Real.exp_add, sub_eq_add_neg]
  rw [congrArg (fun y : ℝ => Ideal.log (y : EReal)) e, log_real (by positivity), ← EReal.coe_add, Real.log_mul hd.ne' (Real.exp_pos _).ne', Real.log_exp]
  exact congrArg _ (by ring)

include hv

/-- A group's output. -/
theorem out_at (i : Fin 4) (h : Fin 8) (c : Fin 64) :
    outR (scoresR qg (rows (dw g)) kc) (rows (dw g)) vc (ix4 b i h c)
      = ((num Q K V g i (h * 64 + c) / den Q K g i h : ℝ) : EReal) := by
  pointwise [outR]
  have hg := fun j => gather_ctx vc _ b i j h c ⟨pos g i j, pos_lt _ _ _ i.2⟩ (starts_at g i j)
  have hd := den_pos Q K g i h
  simp only [hg, hv, score_at Q K b g qg kc hq hk, lse_at Q K b g qg kc hq hk, ← EReal.coe_sub, Ideal.exp_coe,
    ← EReal.coe_mul, coe_sum]
  refine congrArg _ ?_
  rw [num, Finset.sum_div, show ((h : ℕ) * 64 + c) / 64 = h by omega]
  refine Finset.sum_congr rfl fun j _ => ?_
  rw [Real.exp_sub, Real.exp_log hd]
  ring

end

/-- The stacked log-denominators. -/
def stackR (l0 l1 l2 : FVec Ideal S128x4x8 .f32) : FVec Ideal S3x128x4x8 .f32 :=
  concatenate S3x128x4x8 0 [⟨S1x128x4x8, broadcastInDim S1x128x4x8 ![1, 2, 3] bcast_S128x4x8_S1x128x4x8_1_2_3 l0⟩, ⟨S1x128x4x8, broadcastInDim S1x128x4x8 ![1, 2, 3] bcast_S128x4x8_S1x128x4x8_1_2_3 l1⟩, ⟨S1x128x4x8, broadcastInDim S1x128x4x8 ![1, 2, 3] bcast_S128x4x8_S1x128x4x8_1_2_3 l2⟩] concatenates_S1x128x4x8_S1x128x4x8_S1x128x4x8_S3x128x4x8_d0

/-- The stacked outputs. -/
def stackO (o0 o1 o2 : FVec Ideal S128x4x8x64 .f32) : FVec Ideal S3x128x4x8x64 .f32 :=
  concatenate S3x128x4x8x64 0 [⟨S1x128x4x8x64, broadcastInDim S1x128x4x8x64 ![1, 2, 3, 4] bcast_S128x4x8x64_S1x128x4x8x64_1_2_3_4 o0⟩, ⟨S1x128x4x8x64, broadcastInDim S1x128x4x8x64 ![1, 2, 3, 4] bcast_S128x4x8x64_S1x128x4x8x64_1_2_3_4 o1⟩, ⟨S1x128x4x8x64, broadcastInDim S1x128x4x8x64 ![1, 2, 3, 4] bcast_S128x4x8x64_S1x128x4x8x64_1_2_3_4 o2⟩] concatenates_S1x128x4x8x64_S1x128x4x8x64_S1x128x4x8x64_S3x128x4x8x64_d0

/-- The unnormalised group weights. -/
def expR (l : FVec Ideal S3x128x4x8 .f32) : FVec Ideal S3x128x4x8 .f32 :=
  Host.exp (subf l (broadcastInDim S3x128x4x8 ![0, 1, 2, 3] bcast_S1x128x4x8_S3x128x4x8_0_1_2_3 (broadcastInDim S1x128x4x8 ![1, 2, 3] bcast_S128x4x8_S1x128x4x8_1_2_3 (maximumf (broadcastInDim S128x4x8 ![] bcast_S_S128x4x8 (constant S_ .f32 0xFF800000#32)) (Host.reduce FloatOps.maximumf l (constant S_ .f32 0xFF800000#32) reducesTo_S3x128x4x8_S128x4x8_d0 h_S_)))))

/-- The weighted sum of the groups' outputs. -/
def mixR (e : FVec Ideal S3x128x4x8 .f32) (o : FVec Ideal S3x128x4x8x64 .f32) : FVec Ideal S128x4x512 .f32 :=
  shapeCast _ (Host.reduceAdd (mulf (broadcastInDim S3x128x4x8x64 ![0, 1, 2, 3, 4] bcast_S3x128x4x8x1_S3x128x4x8x64_0_1_2_3_4 (broadcastInDim S3x128x4x8x1 ![0, 1, 2, 3] bcast_S3x128x4x8_S3x128x4x8x1_0_1_2_3 (Host.divf e (broadcastInDim S3x128x4x8 ![0, 1, 2, 3] bcast_S1x128x4x8_S3x128x4x8_0_1_2_3 (broadcastInDim S1x128x4x8 ![1, 2, 3] bcast_S128x4x8_S1x128x4x8_1_2_3 (Host.reduceAdd e (constant S_ .f32 0x00000000#32) reducesTo_S3x128x4x8_S128x4x8_d0 h_S_)))))) o) (constant S_ .f32 0x00000000#32) reducesTo_S3x128x4x8x64_S128x4x8x64_d0 h_S_) shapeCasts_S128x4x8x64_S128x4x512

/-- The mixture of three groups, from their log-denominators and outputs. -/
theorem mix_at (Q K V : ℕ → ℕ → ℝ) (b : Fin 128) (i : Fin 4) (x : Fin 512)
    (l0 l1 l2 : FVec Ideal S128x4x8 .f32) (o0 o1 o2 : FVec Ideal S128x4x8x64 .f32)
    (hl0 : ∀ h : Fin 8, l0 (ix3 b i h) = ((Real.log (den Q K 0 i h) : ℝ) : EReal))
    (hl1 : ∀ h : Fin 8, l1 (ix3 b i h) = ((Real.log (den Q K 1 i h) : ℝ) : EReal))
    (hl2 : ∀ h : Fin 8, l2 (ix3 b i h) = ((Real.log (den Q K 2 i h) : ℝ) : EReal))
    (ho0 : ∀ (h : Fin 8) (c : Fin 64), o0 (ix4 b i h c) = ((num Q K V 0 i (h * 64 + c) / den Q K 0 i h : ℝ) : EReal))
    (ho1 : ∀ (h : Fin 8) (c : Fin 64), o1 (ix4 b i h c) = ((num Q K V 1 i (h * 64 + c) / den Q K 1 i h : ℝ) : EReal))
    (ho2 : ∀ (h : Fin 8) (c : Fin 64), o2 (ix4 b i h c) = ((num Q K V 2 i (h * 64 + c) / den Q K 2 i h : ℝ) : EReal)) :
    mixR (expR (stackR l0 l1 l2)) (stackO o0 o1 o2) (ix3 b i x) = ((attn Q K V i x : ℝ) : EReal) := by
  have s0 : ∀ h : Fin 8, stackR l0 l1 l2 (ix4 0 b i h) = ((Real.log (den Q K 0 i h) : ℝ) : EReal) := fun h => by
    pointwise [stackR]; exact hl0 h
  have s1 : ∀ h : Fin 8, stackR l0 l1 l2 (ix4 1 b i h) = ((Real.log (den Q K 1 i h) : ℝ) : EReal) := fun h => by
    pointwise [stackR]; exact hl1 h
  have s2 : ∀ h : Fin 8, stackR l0 l1 l2 (ix4 2 b i h) = ((Real.log (den Q K 2 i h) : ℝ) : EReal) := fun h => by
    pointwise [stackR]; exact hl2 h
  have t0 : ∀ (h : Fin 8) (c : Fin 64), stackO o0 o1 o2 (ix5 0 b i h c) = ((num Q K V 0 i (h * 64 + c) / den Q K 0 i h : ℝ) : EReal) := fun h c => by
    pointwise [stackO]; exact ho0 h c
  have t1 : ∀ (h : Fin 8) (c : Fin 64), stackO o0 o1 o2 (ix5 1 b i h c) = ((num Q K V 1 i (h * 64 + c) / den Q K 1 i h : ℝ) : EReal) := fun h c => by
    pointwise [stackO]; exact ho1 h c
  have t2 : ∀ (h : Fin 8) (c : Fin 64), stackO o0 o1 o2 (ix5 2 b i h c) = ((num Q K V 2 i (h * 64 + c) / den Q K 2 i h : ℝ) : EReal) := fun h c => by
    pointwise [stackO]; exact ho2 h c
  have hM : ∀ h : Fin 8, ∃ M : ℝ, ∀ g : Fin 3, expR (stackR l0 l1 l2) (ix4 g b i h) = Ideal.exp (stackR l0 l1 l2 (ix4 g b i h) - (M : EReal)) := by
    intro h
    obtain ⟨M, hM⟩ := fold_max_real (fun g : Fin 3 => stackR l0 l1 l2 (ix4 g b i h))
      (fun g => by
        fin_cases g
        · exact (s0 h).trans_ne (EReal.coe_ne_top _)
        · exact (s1 h).trans_ne (EReal.coe_ne_top _)
        · exact (s2 h).trans_ne (EReal.coe_ne_top _))
      ⟨0, (s0 h).trans_ne (EReal.coe_ne_bot _)⟩
    refine ⟨M, fun g => ?_⟩
    pointwise [expR]
    rw [ofBits_ninf, hM]
    simp
  pointwise [mixR]
  obtain ⟨M, hM⟩ := hM ⟨x / 64, by omega⟩
  simp only [Fin.sum_univ_three, hM, s0, s1, s2, t0, t1, t2, ← EReal.coe_sub, Ideal.exp_coe, ← EReal.coe_add, ← EReal.coe_mul]
  rw [div_real (by positivity), div_real (by positivity), div_real (by positivity)]
  simp only [← EReal.coe_add, ← EReal.coe_mul]
  refine congrArg _ ?_
  rw [attn, ← merge _ _ _ _ _ _ M (den_pos ..) (den_pos ..) (den_pos ..), show (x : ℕ) / 64 * 64 + x % 64 = x by omega]
  ring

end Cert.DsR
-- ==== Proof.DsTop.lean ====
module

public import proofs.«01_k».proof.Proof.DsMerge
public import proofs.«01_k».proof.Proof.DsRef
public import proofs.«01_k».proof.Proof.Gen.DilSampleIdeal.Value
public import proofs.«01_k».proof.Proof.Gen.Pre_ds_finite
public import Idealize.ShloMosaic.Lib.ReduceAll

@[expose] public section

set_option maxRecDepth 16384

/-! # The dilated attention of the sampled tokens: both programs give the same array -/

noncomputable section

namespace Cert.DsTop

open Idealize.ShloMosaic Cert.DilSampleIdeal Cert.DilSampleIdeal.Gen Cert.DsMath

/-- Batch `b`'s queries as reals. -/
def Qf (a0 : FVec Ideal S128x4x1536 .f32) (b : Fin 128) (i l : ℕ) : ℝ :=
  if h : i < 4 ∧ l < 1536 then (a0 (ix3 b ⟨i, h.1⟩ ⟨l, h.2⟩)).toReal else 0

/-- Batch `b`'s keys (or values) as reals, the cached positions before the new ones. -/
def Kf (new : FVec Ideal S128x4x512 .f32) (cache : FVec Ideal S128x2048x8x64 .f32) (b : Fin 128) (l t : ℕ) : ℝ :=
  if h : l < 512 ∧ t < 2048 then (cache (ix4 b ⟨t, h.2⟩ ⟨l / 64, by omega⟩ ⟨l % 64, by omega⟩)).toReal
  else if h : l < 512 ∧ t - 2048 < 4 then (new (ix3 b ⟨t - 2048, h.2⟩ ⟨l, h.1⟩)).toReal else 0

/-- The attention of every batch. -/
def G (a0 : FVec Ideal S128x4x1536 .f32) (a1 a2 : FVec Ideal S128x4x512 .f32) (a3 a4 : FVec Ideal S128x2048x8x64 .f32) : FVec Ideal S128x4x512 .f32 :=
  fun y => ((attn (Qf a0 (y 0)) (Kf a1 a3 (y 0)) (Kf a2 a4 (y 0)) (y 1) (y 2) : ℝ) : EReal)

/-- A number whose absolute value is below infinity is a real. -/
theorem real_of_lt {x : Ideal .f32} (h : FloatOps.cmpf .olt (FloatOps.absf x) (FloatOps.ofBits .f32 0x7F800000#32) = 1#1) : x = ((EReal.toReal x : ℝ) : EReal) := by
  have e : (FloatOps.ofBits .f32 0x7F800000#32 : Ideal .f32) = (⊤ : EReal) := by
    show Ideal.ofBits .f32 0x7F800000#32 = _
    simp [Ideal.ofBits, Ideal.ieee]
  rw [e] at h
  have h : max x (-x) < (⊤ : EReal) := by
    by_contra hn
    have : FloatOps.cmpf .olt (FloatOps.absf x) (⊤ : EReal) = 0#1 := by
      show BitVec.ofBool (decide (max x (-x) < (⊤ : EReal))) = 0#1
      rw [decide_eq_false hn]; rfl
    exact absurd (this.symm.trans h) (by decide)
  obtain ⟨h1, h2⟩ := max_lt_iff.mp h
  refine (EReal.coe_toReal h1.ne ?_).symm
  rintro rfl
  exact absurd h2 (by simp)

section
variable (a0 : FVec Ideal S128x4x1536 .f32) (a1 a2 : FVec Ideal S128x4x512 .f32) (a3 a4 : FVec Ideal S128x2048x8x64 .f32)

/-- The arrays' entries are reals. -/
def Fin5 : Prop :=
  (∀ j, a0 j = ((a0 j).toReal : EReal)) ∧ (∀ j, a1 j = ((a1 j).toReal : EReal)) ∧ (∀ j, a2 j = ((a2 j).toReal : EReal))
    ∧ (∀ j, a3 j = ((a3 j).toReal : EReal)) ∧ (∀ j, a4 j = ((a4 j).toReal : EReal))

attribute [local instance] Cert.Pre_ds_finite.Gen.facts in
/-- The precondition says that every entry is a real. -/
theorem fin5 (h : Cert.Pre_ds_finite.fn (F := Ideal) a0 a1 a2 a3 a4 = fun _ => 1#1) : Fin5 a0 a1 a2 a3 a4 := by
  have h := congrFun h ix0
  dsimp only [Cert.Pre_ds_finite.fn, Cert.Pre_ds_finite.fn_part1] at h
  obtain ⟨h, e4⟩ := IntOp.andi_eq_one.mp h
  obtain ⟨h, e3⟩ := IntOp.andi_eq_one.mp h
  obtain ⟨h, e2⟩ := IntOp.andi_eq_one.mp h
  obtain ⟨e0, e1⟩ := IntOp.andi_eq_one.mp h
  refine ⟨fun j => ?_, fun j => ?_, fun j => ?_, fun j => ?_, fun j => ?_⟩
  · have := Host.reduce_andi_all _ _ _ _ _ e0 j
    exact real_of_lt this
  · have := Host.reduce_andi_all _ _ _ _ _ e1 j
    exact real_of_lt this
  · have := Host.reduce_andi_all _ _ _ _ _ e2 j
    exact real_of_lt this
  · have := Host.reduce_andi_all _ _ _ _ _ e3 j
    exact real_of_lt this
  · have := Host.reduce_andi_all _ _ _ _ _ e4 j
    exact real_of_lt this

end

section
variable (m : (ℓ : Loc nD τ sig) → Buf (Elt Ideal) ℓ) (c : Dev nD)

/-- The transposed key cache the kernel reads. -/
theorem V_k (b : Fin 128) (l : Fin 512) (t : Fin 2048) :
    V m c main_v1 (ix3 b l t) = m ((c.tc : Thread nD τ).loc main_arg3) (ix4 b t ⟨l / 64, by omega⟩ ⟨l % 64, by omega⟩) := by
  unfold_abbrev_sides
  after_results
  pointwise

/-- The transposed value cache the kernel reads. -/
theorem V_v (b : Fin 128) (l : Fin 512) (t : Fin 2048) :
    V m c main_v3 (ix3 b l t) = m ((c.tc : Thread nD τ).loc main_arg4) (ix4 b t ⟨l / 64, by omega⟩ ⟨l % 64, by omega⟩) := by
  unfold_abbrev_sides
  after_results
  pointwise

/-- The block indices of a grid point. -/
theorem idx : ∀ t : Fin grid0.N, win0_0.index t = ![(t : ℕ), 0, 0] ∧ win0_1.index t = ![(t : ℕ), 0, 0] ∧ win0_2.index t = ![(t : ℕ), 0, 0]
    ∧ win0_3.index t = ![(t : ℕ), 0, 0] ∧ win0_4.index t = ![(t : ℕ), 0, 0] ∧ win0_5.index t = ![(t : ℕ), 0, 0] := by decide +kernel

/-- A grid point's batch. -/
def bat (t : Fin cfg0.N) : Fin 128 := ⟨t, t.isLt⟩

/-- The block of queries. -/
theorem blk0 (t : Fin cfg0.N) (i : Fin 4) (l : Fin 1536) : iblk m c 0 t (ix3 0 i l) = m ((c.tc : Thread nD τ).loc main_arg0) (ix3 (bat t) i l) := by
  unfold bat
  blk_ext [iblk, V, idx t]
theorem blk1 (t : Fin cfg0.N) (i : Fin 4) (l : Fin 512) : iblk m c 1 t (ix3 0 i l) = m ((c.tc : Thread nD τ).loc main_arg1) (ix3 (bat t) i l) := by
  unfold bat
  blk_ext [iblk, V, idx t]
theorem blk2 (t : Fin cfg0.N) (i : Fin 4) (l : Fin 512) : iblk m c 2 t (ix3 0 i l) = m ((c.tc : Thread nD τ).loc main_arg2) (ix3 (bat t) i l) := by
  unfold bat
  blk_ext [iblk, V, idx t]
theorem blk3 (t : Fin cfg0.N) (l : Fin 512) (s : Fin 2048) : iblk m c 3 t (ix3 0 l s) = V m c main_v1 (ix3 (bat t) l s) := by
  unfold bat
  blk_ext [iblk, idx t]
theorem blk4 (t : Fin cfg0.N) (l : Fin 512) (s : Fin 2048) : iblk m c 4 t (ix3 0 l s) = V m c main_v3 (ix3 (bat t) l s) := by
  unfold bat
  blk_ext [iblk, idx t]
theorem emb5 (t : Fin cfg0.N) (i : Fin 4) (x : Fin 512) : (win0_5.blk t).view.emb (ix3 0 i x) = ix3 (bat t) i x := by
  unfold bat
  blk_ext [idx t]

/-- The kernel's output array. -/
theorem kernel_arr (hf : Fin5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    (dats m 0 c).arrAt 5 cfg0.N = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hfl y => ?_
  blk_simp
  rw [after0_5]
  obtain ⟨f0, f1, f2, f3, f4⟩ := hf
  obtain ⟨u, i, x, rfl⟩ : ∃ (u : Fin 1) (i : Fin 4) (x : Fin 512), y = ix3 u i x := ⟨y 0, y 1, y 2, ValueIdx.eq_ix3 y⟩
  obtain rfl : u = 0 := Subsingleton.elim _ _
  refine (DsK.block_eq _ _ _ _ _ (Qf (m ((c.tc : Thread nD τ).loc main_arg0)) (bat t))
    (Kf (m ((c.tc : Thread nD τ).loc main_arg1)) (m ((c.tc : Thread nD τ).loc main_arg3)) (bat t))
    (Kf (m ((c.tc : Thread nD τ).loc main_arg2)) (m ((c.tc : Thread nD τ).loc main_arg4)) (bat t)) ?_ ?_ ?_ ?_ ?_ i x).trans ?_
  · intro i l
    rw [blk0, f0, Qf, dif_pos ⟨i.2, l.2⟩]
  · intro l s
    rw [blk3, V_k, f3, Kf, dif_pos ⟨l.2, s.2⟩]
  · intro j l
    rw [blk1, f1, Kf, dif_neg (by omega), dif_pos ⟨l.2, by omega⟩]
    congr 4
    exact Fin.ext (by simp)
  · intro j l
    rw [blk2, f2, Kf, dif_neg (by omega), dif_pos ⟨l.2, by omega⟩]
    congr 4
    exact Fin.ext (by simp)
  · intro l s
    rw [blk4, V_v, f4, Kf, dif_pos ⟨l.2, s.2⟩]
  · rw [emb5]
    rfl

end

end Cert.DsTop
-- ==== Proof.DsArr.lean ====
module

public import proofs.«01_k».proof.Proof.DsTop

@[expose] public section

set_option maxRecDepth 16384

/-! # The reference's array -/

noncomputable section

namespace Cert.DsTop

open Idealize.ShloMosaic Cert.DilSampleRefIdeal Cert.DilSampleRefIdeal.Gen Cert.DsMath Cert.DsR

section
variable (a0 : FVec Ideal S128x4x1536 .f32) (a1 a2 : FVec Ideal S128x4x512 .f32) (a3 a4 : FVec Ideal S128x2048x8x64 .f32)

/-- The queries split into groups and heads. -/
def qs : FVec Ideal S128x4x3x8x64 .f32 := shapeCast _ a0 shapeCasts_S128x4x1536_S128x4x3x8x64
/-- The queries of the first group. -/
def q0 : FVec Ideal S128x4x8x64 .f32 := shapeCast _ (extractStridedSlice S128x4x1x8x64 ![0, 0, 0, 0, 0] (qs a0) slices_S128x4x3x8x64_S128x4x1x8x64_0_0_0_0_0) shapeCasts_S128x4x1x8x64_S128x4x8x64
/-- The queries of the second group. -/
def q1 : FVec Ideal S128x4x8x64 .f32 := shapeCast _ (extractStridedSlice S128x4x1x8x64 ![0, 0, 1, 0, 0] (qs a0) slices_S128x4x3x8x64_S128x4x1x8x64_0_0_1_0_0) shapeCasts_S128x4x1x8x64_S128x4x8x64
/-- The queries of the third group. -/
def q2 : FVec Ideal S128x4x8x64 .f32 := shapeCast _ (extractStridedSlice S128x4x1x8x64 ![0, 0, 2, 0, 0] (qs a0) slices_S128x4x3x8x64_S128x4x1x8x64_0_0_2_0_0) shapeCasts_S128x4x1x8x64_S128x4x8x64
/-- The cached positions before the new ones. -/
def ctx (new : FVec Ideal S128x4x512 .f32) (cache : FVec Ideal S128x2048x8x64 .f32) : FVec Ideal S128x2052x8x64 .f32 :=
  concatenate S128x2052x8x64 1 [⟨S128x2048x8x64, cache⟩, ⟨S128x4x8x64, shapeCast _ new shapeCasts_S128x4x512_S128x4x8x64⟩] concatenates_S128x2048x8x64_S128x4x8x64_S128x2052x8x64_d1

/-- The reference's result. -/
def refA : FVec Ideal S128x4x512 .f32 :=
  mixR (expR (stackR (lseR (scoresR (q0 a0) (rows (dw (0 : Fin 3))) (ctx a1 a3))) (lseR (scoresR (q1 a0) (rows (dw (1 : Fin 3))) (ctx a1 a3))) (lseR (scoresR (q2 a0) (rows (dw (2 : Fin 3))) (ctx a1 a3)))))
    (stackO (outR (scoresR (q0 a0) (rows (dw (0 : Fin 3))) (ctx a1 a3)) (rows (dw (0 : Fin 3))) (ctx a2 a4)) (outR (scoresR (q1 a0) (rows (dw (1 : Fin 3))) (ctx a1 a3)) (rows (dw (1 : Fin 3))) (ctx a2 a4)) (outR (scoresR (q2 a0) (rows (dw (2 : Fin 3))) (ctx a1 a3)) (rows (dw (2 : Fin 3))) (ctx a2 a4)))

variable (hf : ∀ j, a0 j = ((a0 j).toReal : EReal))
include hf

theorem q0_at (b : Fin 128) (i : Fin 4) (h : Fin 8) (c : Fin 64) :
    q0 a0 (ix4 b i h c) = ((Qf a0 b i ((0 : Fin 3) * 512 + (h * 64 + c)) : ℝ) : EReal) := by
  unfold Qf
  rw [dif_pos ⟨i.2, by dsimp; omega⟩, ← hf]
  pointwise [q0, qs]

theorem q1_at (b : Fin 128) (i : Fin 4) (h : Fin 8) (c : Fin 64) :
    q1 a0 (ix4 b i h c) = ((Qf a0 b i ((1 : Fin 3) * 512 + (h * 64 + c)) : ℝ) : EReal) := by
  unfold Qf
  rw [dif_pos ⟨i.2, by dsimp; omega⟩, ← hf]
  pointwise [q1, qs]
  exact congrArg a0 (congrArg _ (Fin.ext (by dsimp only; omega)))

theorem q2_at (b : Fin 128) (i : Fin 4) (h : Fin 8) (c : Fin 64) :
    q2 a0 (ix4 b i h c) = ((Qf a0 b i ((2 : Fin 3) * 512 + (h * 64 + c)) : ℝ) : EReal) := by
  unfold Qf
  rw [dif_pos ⟨i.2, by dsimp; omega⟩, ← hf]
  pointwise [q2, qs]
  exact congrArg a0 (congrArg _ (Fin.ext (by dsimp only; omega)))

end

theorem ctx_at (new : FVec Ideal S128x4x512 .f32) (cache : FVec Ideal S128x2048x8x64 .f32)
    (hn : ∀ j, new j = ((new j).toReal : EReal)) (hc : ∀ j, cache j = ((cache j).toReal : EReal))
    (b : Fin 128) (t : Fin 2052) (h : Fin 8) (c : Fin 64) :
    ctx new cache (ix4 b t h c) = ((Kf new cache b (h * 64 + c) t : ℝ) : EReal) := by
  unfold Kf
  by_cases ht : (t : ℕ) < 2048
  · rw [dif_pos ⟨by omega, ht⟩, ← hc]
    pointwise [ctx]
    rw [dif_pos ht]
    congr 2 <;> exact Fin.ext (by dsimp only; omega)
  · rw [dif_neg (by omega), dif_pos ⟨by omega, by omega⟩, ← hn]
    pointwise [ctx]
    rw [dif_neg ht]

/-- The reference's result is the attention. -/
theorem refA_eq (a0 : FVec Ideal S128x4x1536 .f32) (a1 a2 : FVec Ideal S128x4x512 .f32) (a3 a4 : FVec Ideal S128x2048x8x64 .f32)
    (hf : Fin5 a0 a1 a2 a3 a4) : refA a0 a1 a2 a3 a4 = G a0 a1 a2 a3 a4 := by
  obtain ⟨f0, f1, f2, f3, f4⟩ := hf
  funext y
  obtain ⟨b, i, x, rfl⟩ : ∃ (b : Fin 128) (i : Fin 4) (x : Fin 512), y = ix3 b i x := ⟨y 0, y 1, y 2, ValueIdx.eq_ix3 y⟩
  have hk := ctx_at a1 a3 f1 f3 b
  have hv := ctx_at a2 a4 f2 f4 b
  exact mix_at (Qf a0 b) (Kf a1 a3 b) (Kf a2 a4 b) b i x _ _ _ _ _ _
    (fun h => lse_at _ _ b 0 _ _ (q0_at a0 f0 b) hk i h) (fun h => lse_at _ _ b 1 _ _ (q1_at a0 f0 b) hk i h)
    (fun h => lse_at _ _ b 2 _ _ (q2_at a0 f0 b) hk i h)
    (fun h c => out_at _ _ _ b 0 _ _ _ (q0_at a0 f0 b) hk hv i h c) (fun h c => out_at _ _ _ b 1 _ _ _ (q1_at a0 f0 b) hk hv i h c)
    (fun h c => out_at _ _ _ b 2 _ _ _ (q2_at a0 f0 b) hk hv i h c)

/-- The reference's run ends with its result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v175) = refA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.DilSampleRefIdeal.Value.run m ρ

end Cert.DsTop
-- ==== Proof.FfKernel.lean ====
module

public import proofs.«01_k».proof.Proof.Gen.DenseFfnIdeal.Value
public import Idealize.ShloMosaic.Lib.Pipeline.ValueKit
public import Idealize.ShloMosaic.Lib.Pipeline.ReadBack

@[expose] public section

set_option maxRecDepth 16384

/-! # The dense feed-forward call: what each step leaves -/

noncomputable section

namespace Cert.FfK

open Idealize.ShloMosaic Cert.DenseFfnIdeal Cert.DenseFfnIdeal.Gen

section
variable (x : FVec Ideal S16384x1024 .f32) (g : FVec Ideal S1024 .f32) (w : FVec Ideal S1024x5632 .f32) (wd : FVec Ideal S2816x1024 .f32)

/-- A normalised row's entry. -/
def H (r : Fin 16384) (l : Fin 1024) : EReal :=
  x (ix2 r l) * Ideal.rsqrt (Ideal.div (∑ k, x (ix2 r k) * x (ix2 r k)) (Ideal.ofBits FTy.f32 1149239296#32) + Ideal.ofBits FTy.f32 897988541#32) * g (ix1 l)

/-- A normalised row times a column of the first matrix. -/
def P (r : Fin 16384) (f : Fin 5632) : EReal := ∑ l, H x g r l * w (ix2 l f)

/-- A gated hidden value. -/
def A (r : Fin 16384) (f : Fin 2816) : EReal :=
  P x g w r ⟨f, by omega⟩ * Ideal.logistic (P x g w r ⟨f, by omega⟩) * P x g w r ⟨2816 + f, by omega⟩

/-- A hidden value's part of the result, over all naturals. -/
def T (r : Fin 16384) (j : Fin 1024) (f : ℕ) : EReal :=
  if h : f < 2816 then A x g w r ⟨f, h⟩ * wd (ix2 ⟨f, h⟩ j) else 0

/-- The result over the first columns. -/
def U (r : Fin 16384) (j : Fin 1024) (n : ℕ) : EReal := x (ix2 r j) + ∑ f ∈ Finset.range n, T x g w wd r j f

/-- The result. -/
def G : FVec Ideal S16384x1024 .f32 := fun y => x y + ∑ f, A x g w (y 0) f * wd (ix2 f (y 1))

theorem T_sum (r : Fin 16384) (j : Fin 1024) : ∑ f ∈ Finset.range 2816, T x g w wd r j f = ∑ f, A x g w r f * wd (ix2 f j) := by
  rw [Finset.sum_range]
  exact Finset.sum_congr rfl fun f _ => dif_pos f.2

end

section
variable (m : (ℓ : Loc nD τ sig) → Buf (Elt Ideal) ℓ) (c : Dev nD)

/-- The first step of a row block leaves the normalised rows and the first partial result. -/
theorem step_first (t : Fin cfg0.N) (h : t.val % 11 = 0) :
    outsAt0 m c t.val t.isLt = (k0_pay2 (k0_pay1 (iblk m c 0 t) (iblk m c 1 t)) (iblk m c 2 t) (iblk m c 3 t) (iblk m c 0 t) (iblk m c 4 t),
      k0_pay1 (iblk m c 0 t) (iblk m c 1 t)) := by
  rw [outsAt0_A m c t h]
  refine Prod.ext ?_ ?_
  · dsimp only
    frame_out
  · dsimp only
    frame_out

/-- A later step adds its part to the result and keeps the normalised rows. -/
theorem step_next (t : Fin cfg0.N) (h : ¬t.val % 11 = 0) :
    outsAt0 m c t.val t.isLt = (k0_pay2 (outsAt0 m c (t.val - 1) (Nat.lt_of_le_of_lt (Nat.sub_le _ _) t.isLt)).2 (iblk m c 2 t) (iblk m c 3 t) (outsAt0 m c (t.val - 1) (Nat.lt_of_le_of_lt (Nat.sub_le _ _) t.isLt)).1 (iblk m c 4 t),
      (outsAt0 m c (t.val - 1) (Nat.lt_of_le_of_lt (Nat.sub_le _ _) t.isLt)).2) := by
  rw [outsAt0_B m c t h]
  refine Prod.ext ?_ ?_
  · dsimp only
    frame_out
    rw [read_unread_whole]
  · rfl

theorem idx : ∀ t : Fin grid0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![t.val / 11, 0] := by decide +kernel

/-- The row of the whole array at a row of step `t`'s block. -/
def row (t : Fin cfg0.N) (a : Fin 1024) : Fin 16384 := ⟨1024 * (t.val / 11) + a, by have := t.2; have : cfg0.N = 176 := rfl; omega⟩
/-- The column of the whole array at a column of step `t`'s block. -/
def col (t : Fin cfg0.N) (f : Fin 256) : Fin 2816 := ⟨256 * (t.val % 11) + f, by omega⟩

theorem blk0 (t : Fin cfg0.N) (a l : Fin 1024) :
    iblk m c 0 t (ix2 a l) = m ((c.tc : Thread nD τ).loc main_arg0) (ix2 (row t a) l) := by
  unfold row
  blk_ext [iblk, V, idx t]

/-- The gains as the kernel reads them. -/
theorem V_g (l : Fin 1024) : V m c main_v0 (ix2 0 l) = m ((c.tc : Thread nD τ).loc main_arg1) (ix1 l) := by
  unfold_abbrev_sides
  after_results
  pointwise

theorem blk1 (t : Fin cfg0.N) (l : Fin 1024) :
    iblk m c 1 t (ix2 0 l) = m ((c.tc : Thread nD τ).loc main_arg1) (ix1 l) := by
  have e : iblk m c 1 t (ix2 0 l) = V m c main_v0 (ix2 0 l) := by
    blk_ext [iblk, V, idx t]
  rw [e, V_g]

theorem blk2 (t : Fin cfg0.N) (k : Fin 1024) (f : Fin 256) :
    iblk m c 2 t (ix2 k f) = m ((c.tc : Thread nD τ).loc main_arg2) (ix2 k ⟨col t f, by omega⟩) := by
  unfold col
  blk_ext [iblk, V, idx t]

theorem blk3 (t : Fin cfg0.N) (k : Fin 1024) (f : Fin 256) :
    iblk m c 3 t (ix2 k f) = m ((c.tc : Thread nD τ).loc main_arg2) (ix2 k ⟨2816 + col t f, by omega⟩) := by
  unfold col
  blk_ext [iblk, V, idx t]

theorem blk4 (t : Fin cfg0.N) (f : Fin 256) (j : Fin 1024) :
    iblk m c 4 t (ix2 f j) = m ((c.tc : Thread nD τ).loc main_arg3) (ix2 (col t f) j) := by
  unfold col
  blk_ext [iblk, V, idx t]

/-- Step `t`'s normalised rows. -/
theorem pay1_at (t : Fin cfg0.N) (a l : Fin 1024) :
    k0_pay1 (iblk m c 0 t) (iblk m c 1 t) (ix2 a l)
      = H (m ((c.tc : Thread nD τ).loc main_arg0)) (m ((c.tc : Thread nD τ).loc main_arg1)) (row t a) l := by
  unfold H
  pointwise [k0_pay1]
  simp only [blk0, blk1]

/-- Step `t`'s part of the result, added to what was there. -/
theorem pay2_at (t : Fin cfg0.N) (h : Vec Ideal S1024x1024 .bf16) (o : Vec Ideal S1024x1024 .f32)
    (hh : ∀ a l, h (ix2 a l) = H (m ((c.tc : Thread nD τ).loc main_arg0)) (m ((c.tc : Thread nD τ).loc main_arg1)) (row t a) l) (a j : Fin 1024) :
    k0_pay2 h (iblk m c 2 t) (iblk m c 3 t) o (iblk m c 4 t) (ix2 a j)
      = o (ix2 a j) + ∑ f ∈ Finset.range 256, T (m ((c.tc : Thread nD τ).loc main_arg0)) (m ((c.tc : Thread nD τ).loc main_arg1)) (m ((c.tc : Thread nD τ).loc main_arg2)) (m ((c.tc : Thread nD τ).loc main_arg3)) (row t a) j (256 * (t.val % 11) + f) := by
  rw [Finset.sum_range]
  pointwise [k0_pay2]
  refine congrArg (o (ix2 a j) + ·) (Finset.sum_congr rfl fun f _ => ?_)
  unfold T
  rw [dif_pos (show 256 * (t.val % 11) + f.val < 2816 by omega)]
  unfold A P
  simp only [hh, blk2, blk3, blk4]
  rfl

/-- After step `t`: the normalised rows of its block, and the result over the columns seen so far. -/
theorem acc (n : ℕ) (hn : n < cfg0.N) :
    (∀ a l, (outsAt0 m c n hn).2 (ix2 a l) = H (m ((c.tc : Thread nD τ).loc main_arg0)) (m ((c.tc : Thread nD τ).loc main_arg1)) (row ⟨n, hn⟩ a) l)
    ∧ ∀ a j, (outsAt0 m c n hn).1 (ix2 a j) = U (m ((c.tc : Thread nD τ).loc main_arg0)) (m ((c.tc : Thread nD τ).loc main_arg1)) (m ((c.tc : Thread nD τ).loc main_arg2)) (m ((c.tc : Thread nD τ).loc main_arg3)) (row ⟨n, hn⟩ a) j (256 * (n % 11 + 1)) := by
  induction n with
  | zero =>
    have e := step_first m c ⟨0, hn⟩ rfl
    dsimp only at e
    rw [e]
    refine ⟨fun a l => pay1_at m c _ a l, fun a j => ?_⟩
    refine (pay2_at m c ⟨0, hn⟩ _ _ (fun a l => pay1_at m c _ a l) a j).trans ?_
    rw [blk0, U]
    simp
  | succ n ih =>
    by_cases h : (n + 1) % 11 = 0
    · have e := step_first m c ⟨n + 1, hn⟩ h
      dsimp only at e
      rw [e]
      refine ⟨fun a l => pay1_at m c _ a l, fun a j => ?_⟩
      refine (pay2_at m c ⟨n + 1, hn⟩ _ _ (fun a l => pay1_at m c _ a l) a j).trans ?_
      rw [blk0, U]
      simp [h]
    · have e := step_next m c ⟨n + 1, hn⟩ h
      dsimp only [Nat.add_sub_cancel] at e
      obtain ⟨i1, i2⟩ := ih (by omega)
      have er : ∀ a, row ⟨n, by omega⟩ a = row ⟨n + 1, hn⟩ a := fun a => Fin.ext (by unfold row; dsimp only; omega)
      simp only [er] at i1 i2
      rw [e]
      refine ⟨i1, fun a j => ?_⟩
      refine (pay2_at m c ⟨n + 1, hn⟩ _ _ i1 a j).trans ?_
      refine (congrArg (· + _) (i2 a j)).trans ?_
      dsimp only
      rw [U, U, add_assoc, show 256 * (n % 11 + 1) = 256 * ((n + 1) % 11) by omega, ← Finset.sum_range_add]
      rw [show 256 * ((n + 1) % 11) + 256 = 256 * ((n + 1) % 11 + 1) by omega]

theorem kernel_arr : (dats m 0 c).arrAt 5 cfg0.N = G (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have ht : t.val % 11 = 10 := (flush0_5 t).mp hf
  blk_simp
  rw [after0_5]
  obtain ⟨a, j, rfl⟩ : ∃ (a j : Fin 1024), y = ix2 a j := ⟨y 0, y 1, ValueIdx.eq_ix2 y⟩
  refine ((acc m c t.val t.isLt).2 a j).trans ?_
  rw [ht, U, T_sum]
  have e : (win0_5.blk t).view.emb (ix2 a j) = ix2 (row t a) j := by
    unfold row
    blk_ext [idx t]
  rw [e]
  rfl

end

end Cert.FfK
-- ==== Proof.FfRef.lean ====
module

public import proofs.«01_k».proof.Proof.Gen.DenseFfnRefIdeal.Run
public import proofs.«01_k».proof.Proof.FfKernel

@[expose] public section

set_option maxRecDepth 16384

/-! # The dense feed-forward call: the reference's array -/

noncomputable section

namespace Cert.FfR

open Idealize.ShloMosaic Cert.DenseFfnRefIdeal Cert.DenseFfnRefIdeal.Gen Cert.FfK

variable (x : FVec Ideal S16384x1024 .f32) (g : FVec Ideal S1024 .f32) (w : FVec Ideal S1024x5632 .f32) (wd : FVec Ideal S2816x1024 .f32)

/-- The normalised rows. -/
def nrm : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The gates and the values before them. -/
def prj : FVec Ideal S16384x5632 .f32 := Host.dotGeneral dot_S16384x1024_S1024x5632_S16384x5632_1_0_0_1_n_n none (nrm x g) w

/-- The result. -/
def refA : FVec Ideal S16384x1024 .f32 :=
  addf x (Host.dotGeneral dot_S16384x2816_S2816x1024_S16384x1024_1_0_0_1_n_n none (mulf (mulf (extractStridedSlice S16384x2816 ![0, 0] (prj x g w) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (prj x g w) slices_S16384x5632_S16384x2816_0_0)))))) (extractStridedSlice S16384x2816 ![0, 2816] (prj x g w) slices_S16384x5632_S16384x2816_0_2816)) wd)

theorem nrm_at (r : Fin 16384) (l : Fin 1024) : nrm x g (ix2 r l) = H x g r l := by
  unfold H
  pointwise [nrm]

/-- The reference's result is the kernel's. -/
theorem ref_eq : refA x g w wd = G x g w wd := by
  funext y
  obtain ⟨r, j, rfl⟩ : ∃ (r : Fin 16384) (j : Fin 1024), y = ix2 r j := ⟨y 0, y 1, ValueIdx.eq_ix2 y⟩
  pointwise [refA, prj]
  simp only [nrm_at]
  rfl

end Cert.FfR
-- ==== Proof.MgRun.lean ====
module

public import proofs.«01_k».proof.Proof.Gen.MoeGuIdeal.Launch
public import proofs.«01_k».proof.Proof.Gen.MoeGuIdeal.Skeleton
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim
public import Idealize.ShloMosaic.Lib.Pointwise

@[expose] public section

set_option maxRecDepth 16384

/-! # The experts' gate and up call: the run of its steps -/

noncomputable section

namespace Cert.MgK

open Cert.MoeGuIdeal Cert.MoeGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (F) in
/-- The resources the run is stated over. -/
abbrev Rs : Type := MT nD τ sig Unit (Elt F) ℕ (UR sig nD τ) ℕ

/-- A table's buffer type on core `c`, -/
abbrev TbBuf (c : Dev nD) {S : Shape} {e : EltTy} (M : Memref sig .tc .smem S e) : Type := Buf (Elt F) (M.view.loc (c : Thread nD τ))
/-- and the half of it the body reads. -/
abbrev tbPt (c : Dev nD) {S : Shape} {e : EltTy} (M : Memref sig .tc .smem S e) (f : TbBuf (F := F) c M) : sProp (Rs F) :=
  M.view.loc (c : Thread nD τ) ↦{fullShare.right} f

abbrev tb0 : Memref sig .tc .smem S74 .i32 := Memref.whole main_arg2
abbrev tb1 : Memref sig .tc .smem S74 .i32 := Memref.whole main_arg3
abbrev tb2 : Memref sig .tc .smem S74 .i32 := Memref.whole main_v5

/-- The word of a table the kernel reads at a grid point. -/
def wordAt (f : S74.Idx → BitVec 32) (i : grid0.Coords) : BitVec 32 := f (ix1 (i 1))

theorem point_eq (i : grid0.Coords) (h : S1.numel = 1) :
    (Rect.unit (s := S74) (k0_off1 i) S1.size (k0_off1_inb i)).emb (Shape.Idx.first (h.symm ▸ Nat.one_pos)) = ix1 (i 1) := by
  funext a
  match a with
  | ⟨0, _⟩ =>
    apply Fin.ext
    show k0_off1 i 0 + 1 * 0 = (i 1).val
    rw [k0_off1_eq]
    simp

/-- A condition on a word, as the kernel computes it. -/
theorem cond_iff (w k : BitVec 32) : (Scalar.cmpi .ne (Scalar.extui (Scalar.cmpi .eq w k) : BitVec 32) 0#32 = 1#1) ↔ w = k := by
  have h0 : (BitVec.ofBool ((BitVec.setWidth 32 (BitVec.ofBool (w == k))) != 0#32) = 1#1) ↔ w = k := by
    by_cases h : w = k
    · subst h; simp
    · have : (w == k) = false := by simpa using h
      rw [this]; simp [h]
  exact h0

/-- A store of all of a buffer is what's read of it. -/
theorem read_full {sig : RefSig} {sp : Space} {s : Shape} {e : EltTy} (v : View sig .tc sp s e) (off : Fin s.rank → ℕ) (h0 : ∀ a, off a = 0)
    (inb : ∀ a, off a + s.size a ≤ s.size a) (f : v.ty.Contents (Elt F)) (w : s.Idx → Elt F e) (L : List (View.Piece (Elt F) s e)) :
    v.read (Elt F) (v.writes (Elt F) f (⟨Rect.unit off s.size inb, w⟩ :: L)) = w := by
  funext y
  have hy : (Rect.unit off s.size inb).emb y = y := by
    funext a; apply Fin.ext; show off a + 1 * (y a).val = (y a).val; rw [h0 a]; omega
  have := View.read_writes_cons_emb v f (Rect.unit off s.size inb) w L y
  rwa [hy] at this

/-- A load of all of a buffer is what's read of it. -/
theorem load_full {sig : RefSig} {sp : Space} {s : Shape} {e : EltTy} (v : View sig .tc sp s e) (off : Fin s.rank → ℕ) (h0 : ∀ a, off a = 0)
    (inb : ∀ a, off a + s.size a ≤ s.size a) (f : v.ty.Contents (Elt F)) :
    v.readAt (Elt F) (Rect.unit off s.size inb).toLoadRect f = v.read (Elt F) f := by
  funext y
  have hy : (Rect.unit off s.size inb).emb y = y := by
    funext a; apply Fin.ext; show off a + 1 * (y a).val = (y a).val; rw [h0 a]; omega
  exact congrArg (v.read (Elt F) f) hy

theorem zero2 : ∀ a : Fin 2, (![0, 0] : Fin 2 → ℕ) a = 0 := by decide
theorem zero3 : ∀ a : Fin 3, (![0, 0, 0] : Fin 3 → ℕ) a = 0 := by decide

/-- Scratch stored into where a word says so and holding the stored contents already where it doesn't. -/
theorem kept {M : Memref sig .tc .vmem S1024x1792 .bf16} (hM : M.IsWhole) {P : Prop} [Decidable P] {d p w : Vec F S1024x1792 .bf16}
    (hd : ¬P → d = p) (hw : w = p) :
    M.view.read (Elt F) (if _ : P then M.view.writes (Elt F) (hM.unread d) [⟨Rect.unit (s := S1024x1792) ![0, 0] S1024x1792.size inb_S1024x1792_S1024x1792_0_0, w⟩]
      else hM.unread d) = p := by
  by_cases h : P
  · rw [dif_pos h]; exact (read_full M.view _ zero2 _ _ _ _).trans hw
  · rw [dif_neg h, hM.read_unread]; exact hd h

theorem load1 {M : Memref sig .tc .vmem S1x1024x1792 .f32} (hM : M.IsWhole) (w : Vec F S1x1024x1792 .f32) :
    k0_pay1 (View.readAt (Elt F) M.view (Rect.unit (s := S1x1024x1792) ![0, 0, 0] S1x1024x1792.size inb_S1x1024x1792_S1x1024x1792_0_0_0).toLoadRect (hM.unread w)) = k0_pay1 w :=
  congrArg k0_pay1 ((load_full M.view _ zero3 _ _).trans (hM.read_unread _))
theorem load2 {M : Memref sig .tc .vmem S1x1024x1792 .f32} (hM : M.IsWhole) (w : Vec F S1x1024x1792 .f32) :
    k0_pay2 (View.readAt (Elt F) M.view (Rect.unit (s := S1x1024x1792) ![0, 0, 0] S1x1024x1792.size inb_S1x1024x1792_S1x1024x1792_0_0_0).toLoadRect (hM.unread w)) = k0_pay2 w :=
  congrArg k0_pay2 ((load_full M.view _ zero3 _ _).trans (hM.read_unread _))

set_option maxHeartbeats 1600000 in
/-- One step: from scratch that holds the step's weights unless it's told to load them, the step leaves
    its weights in the scratch and its tile of the result in the output. -/
theorem body_run (c : Dev nD) (i : grid0.Coords) (arg5 : Memref sig .tc .vmem S512x1024 .f32) (harg5 : arg5.IsWhole)
    (arg6 : Memref sig .tc .vmem S1x1024x1792 .f32) (harg6 : arg6.IsWhole) (arg7 : Memref sig .tc .vmem S1x1024x1792 .f32) (harg7 : arg7.IsWhole)
    (arg8 : Memref sig .tc .vmem S512x1792 .bf16) (harg8 : arg8.IsWhole) (arg9 : Memref sig .tc .vmem S1024x1792 .bf16) (harg9 : arg9.IsWhole)
    (arg10 : Memref sig .tc .vmem S1024x1792 .bf16) (harg10 : arg10.IsWhole)
    (f0 : TbBuf (F := F) c tb0) (f1 : TbBuf (F := F) c tb1) (f2 : TbBuf (F := F) c tb2)
    (x : Vec F S512x1024 .f32) (wg wu : Vec F S1x1024x1792 .f32) (d9 d10 : Vec F S1024x1792 .bf16)
    (hF : ¬wordAt f2 i = 1#32 → d9 = k0_pay1 wg ∧ d10 = k0_pay2 wu) (hV : wordAt f1 i = 0#32 ∨ wordAt f1 i = 1#32) (E : Set ℕ) (K : PUnit → sProp (Rs F)) :
    iprop(owns (c : Thread nD τ) arg5 fullShare x ∗ owns (c : Thread nD τ) arg6 fullShare wg ∗ owns (c : Thread nD τ) arg7 fullShare wu
      ∗ (∃ d, owns (c : Thread nD τ) arg8 fullShare d) ∗ owns (c : Thread nD τ) arg9 fullShare d9 ∗ owns (c : Thread nD τ) arg10 fullShare d10
      ∗ tbPt c tb0 f0 ∗ tbPt c tb1 f1 ∗ tbPt c tb2 f2
      ∗ (iprop(owns (c : Thread nD τ) arg5 fullShare x ∗ owns (c : Thread nD τ) arg6 fullShare wg ∗ owns (c : Thread nD τ) arg7 fullShare wu
          ∗ owns (c : Thread nD τ) arg8 fullShare (if wordAt f1 i = 1#32 then k0_pay3 x (k0_pay1 wg) (k0_pay2 wu) else k0_pay4)
          ∗ owns (c : Thread nD τ) arg9 fullShare (k0_pay1 wg) ∗ owns (c : Thread nD τ) arg10 fullShare (k0_pay2 wu)
          ∗ tbPt c tb0 f0 ∗ tbPt c tb1 f1 ∗ tbPt c tb2 f2) -∗ K ⟨⟩))
      ⊢ wp frame (wpE (defs₀ (F := F)) Variants.none c none) E (cc0_moe_gate_up i tb0 (Memref.isWhole_whole _) tb1 (Memref.isWhole_whole _) tb2 (Memref.isWhole_whole _) arg5 harg5 arg6 harg6 arg7 harg7 arg8 harg8 arg9 harg9 arg10 harg10) K := by
  rw [cc0_moe_gate_up_eq_skeleton]; unfold cc0_moe_gate_up_skel
  unfold owns
  iintro ⟨⟨%g5, %h5, H5⟩, ⟨%g6, %h6, H6⟩, ⟨%g7, %h7, H7⟩, ⟨%d8, %g8, %h8, H8⟩, ⟨%g9, %h9, H9⟩, ⟨%g10, %h10, H10⟩, T0, T1, T2, Hk⟩
  obtain rfl := harg5.eq_unread h5
  obtain rfl := harg6.eq_unread h6
  obtain rfl := harg7.eq_unread h7
  obtain rfl := harg8.eq_unread h8
  obtain rfl := harg9.eq_unread h9
  obtain rfl := harg10.eq_unread h10
  sl_exec
  have ht (f : TbBuf (F := F) c tb2) (h : S1.numel = 1) : View.readAt (Elt F) tb2.view (Rect.unit (s := S74) (k0_off1 i) S1.size (k0_off1_inb i)).toLoadRect f (Shape.Idx.first (h.symm ▸ Nat.one_pos)) = wordAt f i :=
    congrArg f (point_eq i h)
  have hs (f : TbBuf (F := F) c tb1) (h : S1.numel = 1) : View.readAt (Elt F) tb1.view (Rect.unit (s := S74) (k0_off1 i) S1.size (k0_off1_inb i)).toLoadRect f (Shape.Idx.first (h.symm ▸ Nat.one_pos)) = wordAt f i :=
    congrArg f (point_eq i h)
  have e4 : body_run.sl.v4 c i f2 = 1#1 ↔ wordAt f2 i = 1#32 := by
    have h : body_run.sl.v4 c i f2 = Scalar.cmpi .ne (Scalar.extui (Scalar.cmpi .eq (wordAt f2 i) 1#32) : BitVec 32) 0#32 :=
      congrArg (fun w => Scalar.cmpi .ne (Scalar.extui (Scalar.cmpi .eq w 1#32) : BitVec 32) 0#32) (ht f2 numel1_S1)
    rw [h]; exact cond_iff _ _
  have e2 : k0_cond2 (body_run.sl.r_1 c i f1) = 1#1 ↔ wordAt f1 i = 1#32 := by
    have h : k0_cond2 (body_run.sl.r_1 c i f1) = k0_cond2 (wordAt f1 i) := congrArg k0_cond2 (hs f1 numel1_S1)
    rw [h]; exact cond_iff _ _
  have e3 : k0_cond3 (body_run.sl.r_2 c i f1) = 1#1 ↔ wordAt f1 i = 0#32 := by
    have h : k0_cond3 (body_run.sl.r_2 c i f1) = k0_cond3 (wordAt f1 i) := congrArg k0_cond3 (hs f1 numel1_S1)
    rw [h]; exact cond_iff _ _
  unfold body_run.sl.v17 body_run.sl.v19
  simp only [e4, e2, e3]
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    rcases hV with hV | hV
    · have hn : ¬wordAt f1 i = 1#32 := by rw [hV]; decide
      rw [dif_pos hV, if_neg hn]
      exact read_full arg8.view _ zero2 _ _ _ _
    · have hn : ¬wordAt f1 i = 0#32 := by rw [hV]; decide
      rw [dif_neg hn, dif_pos hV, if_pos hV]
      exact (read_full arg8.view _ zero2 _ _ _ _).trans (congr (congr (congrArg k0_pay3 ((load_full arg5.view _ zero2 _ _).trans (harg5.read_unread _)))
        ((load_full arg9.view _ zero2 _ _).trans (kept harg9 (fun h => (hF h).1) (load1 harg6 wg)))) ((load_full arg10.view _ zero2 _ _).trans (kept harg10 (fun h => (hF h).2) (load2 harg7 wu))))
  isplitl [H9]
  · iexists _; isplitr; swap; · iexact H9
    ipureintro
    exact kept harg9 (fun h => (hF h).1) (load1 harg6 wg)
  isplitl [H10]
  · iexists _; isplitr; swap; · iexact H10
    ipureintro
    exact kept harg10 (fun h => (hF h).2) (load2 harg7 wu)
  isplitl [T0]; · iexact T0
  isplitl [T1]; · iexact T1
  iexact T2

end Cert.MgK

end
-- ==== Proof.MgLaunch.lean ====
module

public import proofs.«01_k».proof.Proof.MgRun
public import proofs.«01_k».proof.Proof.Gen.MoeGuIdeal.Launch
public import proofs.«01_k».proof.Proof.Gen.MoeGuIdeal.Skeleton
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim
public import Idealize.ShloMosaic.Lib.Pointwise

@[expose] public section

set_option maxRecDepth 16384

/-! # The experts' gate and up call: the launch -/

noncomputable section

namespace Cert.MgK

open Cert.MoeGuIdeal Cert.MoeGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers when the pipeline starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The tables -/

/-- Each tile's expert, -/
def expOf : S74.Idx → BitVec 32 := m (((0 : Dev nD) : Thread nD τ).loc main_arg2)
/-- whether it holds tokens, -/
def validOf : S74.Idx → BitVec 32 := m (((0 : Dev nD) : Thread nD τ).loc main_arg3)
/-- and whether it's the first of its expert, as the host code finds it. -/
def firstOf (e : IVec S74 32) : IVec S74 32 :=
  concatenate S74 0 [⟨S1, broadcastInDim S1 ![] bcast_S_S1 (constantI S_ 32 1#32)⟩,
    ⟨S73, extui 32 (cmpi .ne (extractStridedSlice S73 ![1] e slices_S74_S73_1) (extractStridedSlice S73 ![0] e slices_S74_S73_0)) natLt_1_32⟩] concatenates_S1_S73_S74_d0

/-- What's asked of the tables: the experts exist and the tiles hold tokens or don't. -/
structure Good : Prop where
  e : ∀ j : Fin 74, (expOf m (ix1 j)).toNat < 8
  v : ∀ j : Fin 74, validOf m (ix1 j) = 0#32 ∨ validOf m (ix1 j) = 1#32

def tbl : pre0.Contents (Elt F) := fun j => V m (0 : Dev nD) (pre0.ref j)
theorem V_pre (c : Dev nD) (j : Fin 3) : V m c (pre0.ref j) = tbl m j := by
  obtain rfl : c = 0 := Subsingleton.elim _ _; rfl

theorem tbl_0 : tbl m 0 = expOf m := V_arg2 m 0
theorem tbl_1 : tbl m 1 = validOf m := V_arg3 m 0
theorem tbl_2 : tbl m 2 = firstOf (expOf m) := by
  show V m 0 main_v5 = firstOf (m (((0 : Dev nD) : Thread nD τ).loc main_arg2))
  unfold V firstOf
  after_results

theorem at1 (i : grid0.Coords) : cc0_transform_1 k0_off1_inb numel1_S1 (tbl m) i = ![(expOf m (ix1 (i 1))).toNat, 0, (i 0).val] := by
  have h0 : (i 0).val < 2 := (i 0).isLt
  show ![(tbl m 0 ((Rect.unit (s := S74) (k0_off1 i) S1.size (k0_off1_inb i)).emb (Shape.Idx.first (numel1_S1.symm ▸ Nat.one_pos)))).toNat, 0, (BitVec.ofNat 32 (i 0).val).toNat] = _
  rw [point_eq, tbl_0, BitVec.toNat_ofNat, Nat.mod_eq_of_lt (by omega)]
  · rfl
  · exact numel1_S1
theorem at2 (i : grid0.Coords) : cc0_transform_2 k0_off1_inb numel1_S1 (tbl m) i = ![(expOf m (ix1 (i 1))).toNat, 0, 2 + (i 0).val] := by
  have h0 : (i 0).val < 2 := (i 0).isLt
  show ![(tbl m 0 ((Rect.unit (s := S74) (k0_off1 i) S1.size (k0_off1_inb i)).emb (Shape.Idx.first (numel1_S1.symm ▸ Nat.one_pos)))).toNat, 0, (2#32 + BitVec.ofNat 32 (i 0).val).toNat] = _
  rw [point_eq, tbl_0, BitVec.toNat_add, BitVec.toNat_ofNat, BitVec.toNat_ofNat]
  · congr 3
    omega
  · exact numel1_S1

abbrev Ok : Prop := ok0 (F := F) (tbl m)
theorem ok_of_good (hG : Good m) : Ok m := by
  unfold Ok ok0
  refine ⟨fun i => ⟨?_, .inl rfl⟩, fun i => ⟨?_, .inl rfl⟩⟩
  · rw [at1]
    have h0 : (i 0).val < 2 := (i 0).isLt
    have h1 := hG.e (i 1)
    intro a
    match a with
    | ⟨0, _⟩ => show ((expOf m (ix1 (i 1))).toNat + 1) * 1 ≤ 8; omega
    | ⟨1, _⟩ => show (0 + 1) * 1024 ≤ 1024; omega
    | ⟨2, _⟩ => show ((i 0).val + 1) * 1792 ≤ 7168; omega
  · rw [at2]
    have h0 : (i 0).val < 2 := (i 0).isLt
    have h1 := hG.e (i 1)
    intro a
    match a with
    | ⟨0, _⟩ => show ((expOf m (ix1 (i 1))).toNat + 1) * 1 ≤ 8; omega
    | ⟨1, _⟩ => show (0 + 1) * 1024 ≤ 1024; omega
    | ⟨2, _⟩ => show (2 + (i 0).val + 1) * 1792 ≤ 7168; omega
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp (Rs F)) = iprop(tbPt c tb0 (tbl m 0) ∗ tbPt c tb1 (tbl m 1) ∗ tbPt c tb2 (tbl m 2)) := by
  unfold Pipeline.ΦT Pipeline.prefHeld
  rw [bigSep_univ_eq_bigSepL [(0 : Fin 3), (1 : Fin 3), (2 : Fin 3)] (by decide) (by decide)]
  rfl

abbrev sc0 : Memref sig .tc .vmem S1024x1792 .bf16 := Memref.whole cc0_scratch0
abbrev sc1 : Memref sig .tc .vmem S1024x1792 .bf16 := Memref.whole cc0_scratch1
theorem PhiA_eq (c : Dev nD) :
    (Pipeline.ΦA spec0 c : sProp (Rs F)) = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The blocks and the proof data -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))
/-- A tile's tokens, and its weights' two blocks. -/
def xB (hO : Ok m) (c : Dev nD) (t : Fin (cfgM m hO).N) : Vec F S512x1024 .f32 := iblk m hO c 0 t
def gB (hO : Ok m) (c : Dev nD) (t : Fin (cfgM m hO).N) : Vec F S1x1024x1792 .f32 := iblk m hO c 1 t
def uB (hO : Ok m) (c : Dev nD) (t : Fin (cfgM m hO).N) : Vec F S1x1024x1792 .f32 := iblk m hO c 2 t

/-- What a step leaves in the output. -/
def outB (hO : Ok m) (c : Dev nD) (t : Fin (cfgM m hO).N) : Vec F S512x1792 .bf16 :=
  if wordAt (validOf m) (grid0.coords t) = 1#32 then k0_pay3 (xB m hO c t) (k0_pay1 (gB m hO c t)) (k0_pay2 (uB m hO c t)) else k0_pay4

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outB m hO c t
    | ⟨_ + 4, h⟩ => absurd h (Nat.not_lt.2 (Nat.le_add_left _ _))
  Φ t := match t with
    | ⟨0, _⟩ => iprop(Pipeline.ΦA spec0 c ∗ Pipeline.ΦT pre0 (tbl m) c)
    | ⟨n + 1, h⟩ => iprop(iprop(iprop(owns (c : Thread nD τ) sc0 fullShare (k0_pay1 (gB m hO c ⟨n, Nat.lt_of_succ_lt_succ h⟩))
        ∗ owns (c : Thread nD τ) sc1 fullShare (k0_pay2 (uB m hO c ⟨n, Nat.lt_of_succ_lt_succ h⟩))) ∗ (∃ r, prngReg c r)) ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (hO : Ok m) (c : Dev nD) (t : Fin (cfgM m hO).N) : (dats m hO 0 c).after 1 t = iblk m hO c 1 t := by dsimp only [dats]; try rfl
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (hO : Ok m) (c : Dev nD) (t : Fin (cfgM m hO).N) : (dats m hO 0 c).after 2 t = iblk m hO c 2 t := by dsimp only [dats]; try rfl
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (hO : Ok m) (c : Dev nD) (t : Fin (cfgM m hO).N) : (dats m hO 0 c).after 3 t = outB m hO c t := by dsimp only [dats]; try rfl

/-! ## Tiles of one expert -/

theorem first_0 (e : IVec S74 32) : firstOf e (ix1 0) = 1#32 := by
  unfold firstOf
  pointwise

theorem first_succ (e : IVec S74 32) (n : ℕ) (h : n + 1 < 74) (hf : ¬firstOf e (ix1 ⟨n + 1, h⟩) = 1#32) :
    e (ix1 ⟨n + 1, h⟩) = e (ix1 ⟨n, by omega⟩) := by
  have he : firstOf e (ix1 ⟨n + 1, h⟩) = BitVec.setWidth 32 (BitVec.ofBool (e (ix1 ⟨n + 1, h⟩) != e (ix1 ⟨n, by omega⟩))) := by
    unfold firstOf
    pointwise
    rw [dif_neg (by omega)]
    have h1 (p : 1 + (n + 1 - 1) < 74) : (⟨1 + (n + 1 - 1), p⟩ : Fin 74) = ⟨n + 1, h⟩ := Fin.ext (by show 1 + (n + 1 - 1) = n + 1; omega)
    rw [h1]
    rfl
  rw [he] at hf
  by_contra hne
  apply hf
  have : (e (ix1 ⟨n + 1, h⟩) != e (ix1 ⟨n, by omega⟩)) = true := by simpa using hne
  rw [this]; decide

theorem same_block (hO : Ok m) (c : Dev nD) (t t' : Fin (cfgM m hO).N) (h0 : grid0.coords t 0 = grid0.coords t' 0)
    (he : expOf m (ix1 (grid0.coords t 1)) = expOf m (ix1 (grid0.coords t' 1))) :
    gB m hO c t = gB m hO c t' ∧ uB m hO c t = uB m hO c t' := by
  have f1 (t : Fin (cfgM m hO).N) (d) : (dats m hO 0 c).fetched 1 t d = iblk m hO c 1 t := by
    unfold Dat.fetched Dat.blockOf iblk; rw [A_eq]; try rfl
  have f2 (t : Fin (cfgM m hO).N) (d) : (dats m hO 0 c).fetched 2 t d = iblk m hO c 2 t := by
    unfold Dat.fetched Dat.blockOf iblk; rw [A_eq]; try rfl
  have i1 : ((cfgM m hO).win 1).index t = ((cfgM m hO).win 1).index t' :=
    (at1 m (grid0.coords t)).trans (Eq.trans (by rw [he, h0]) (at1 m (grid0.coords t')).symm)
  have i2 : ((cfgM m hO).win 2).index t = ((cfgM m hO).win 2).index t' :=
    (at2 m (grid0.coords t)).trans (Eq.trans (by rw [he, h0]) (at2 m (grid0.coords t')).symm)
  have d1 : ((cfgM m hO).win 1).block.Idx → Elt F ((cfgM m hO).win 1).elt := fun _ => Classical.arbitrary _
  have d2 : ((cfgM m hO).win 2).block.Idx → Elt F ((cfgM m hO).win 2).elt := fun _ => Classical.arbitrary _
  exact ⟨(f1 t d1).symm.trans (((dats m hO 0 c).fetched_congr 1 i1 rfl d1).trans (f1 t' d1)),
    (f2 t d2).symm.trans (((dats m hO 0 c).fetched_congr 2 i2 rfl d2).trans (f2 t' d2))⟩

theorem coords_0 (t : Fin grid0.N) : (grid0.coords t 0).val = t.val / 74 % 2 := Pipeline.Grid.coords_val t 0 (by decide) rfl
theorem coords_1 (t : Fin grid0.N) : (grid0.coords t 1).val = t.val / 1 % 74 := Pipeline.Grid.coords_val t 1 (by decide) rfl

/-- A step told to keep the scratch is after a step with the same weights. -/
theorem keep_step (hO : Ok m) (c : Dev nD) (n : ℕ) (h : n + 1 < (cfgM m hO).N) (hf : ¬wordAt (tbl m 2) (grid0.coords ⟨n + 1, h⟩) = 1#32) :
    gB m hO c ⟨n, Nat.lt_of_succ_lt h⟩ = gB m hO c ⟨n + 1, h⟩ ∧ uB m hO c ⟨n, Nat.lt_of_succ_lt h⟩ = uB m hO c ⟨n + 1, h⟩ := by
  have hN : n + 1 < 148 := Nat.lt_of_lt_of_eq h N_0
  rw [tbl_2] at hf
  unfold wordAt at hf
  have e1 := coords_1 ⟨n + 1, h⟩
  have e1' := coords_1 ⟨n, Nat.lt_of_succ_lt h⟩
  have e0 := coords_0 ⟨n + 1, h⟩
  have e0' := coords_0 ⟨n, Nat.lt_of_succ_lt h⟩
  dsimp only at e1 e1' e0 e0'
  have hne : (n + 1) % 74 ≠ 0 := by
    intro hz
    apply hf
    rw [show grid0.coords ⟨n + 1, h⟩ 1 = (0 : Fin 74) from Fin.ext (by rw [e1]; show (n + 1) / 1 % 74 = 0; omega)]
    exact first_0 _
  have hm : n % 74 + 1 < 74 := by omega
  rw [show grid0.coords ⟨n + 1, h⟩ 1 = (⟨n % 74 + 1, hm⟩ : Fin 74) from Fin.ext (by rw [e1]; show (n + 1) / 1 % 74 = n % 74 + 1; omega)] at hf
  have hs := first_succ _ _ _ hf
  refine same_block m hO c _ _ (Fin.ext (by rw [e0, e0']; omega)) ?_
  rw [show grid0.coords ⟨n + 1, h⟩ 1 = (⟨n % 74 + 1, hm⟩ : Fin 74) from Fin.ext (by rw [e1]; show (n + 1) / 1 % 74 = n % 74 + 1; omega),
    show grid0.coords ⟨n, Nat.lt_of_succ_lt h⟩ 1 = (⟨n % 74, by omega⟩ : Fin 74) from Fin.ext (by rw [e1']; show n / 1 % 74 = n % 74; omega)]
  exact hs.symm

/-! ## The steps -/

/-- What a step finds in the scratch. -/
theorem Phi_pre (hO : Ok m) (c : Dev nD) (t : Fin (cfgM m hO).N) :
    (dats m hO 0 c).Φ t.castSucc ⊢ iprop(∃ d9, ∃ d10, ⌜¬wordAt (tbl m 2) (grid0.coords t) = 1#32 → d9 = k0_pay1 (gB m hO c t) ∧ d10 = k0_pay2 (uB m hO c t)⌝
      ∗ owns (c : Thread nD τ) sc0 fullShare d9 ∗ owns (c : Thread nD τ) sc1 fullShare d10 ∗ (∃ r, prngReg c r) ∗ Pipeline.ΦT pre0 (tbl m) c) := by
  obtain ⟨n, h⟩ := t
  cases n with
  | zero =>
    rw [show (dats m hO 0 c).Φ (Fin.castSucc ⟨0, h⟩) = iprop(Pipeline.ΦA spec0 c ∗ Pipeline.ΦT pre0 (tbl m) c) from rfl, PhiA_eq]
    iintro ⟨⟨⟨⟨%d9, H9⟩, ⟨%d10, H10⟩⟩, Hg⟩, HT⟩
    iexists d9; iexists d10
    isplitr
    · ipureintro
      intro hf
      exact absurd (by
        rw [tbl_2]; unfold wordAt
        rw [show grid0.coords ⟨0, h⟩ 1 = (0 : Fin 74) from Fin.ext ((coords_1 ⟨0, h⟩).trans (by show 0 / 1 % 74 = 0; omega))]
        exact first_0 _) hf
    isplitl [H9]; · iexact H9
    isplitl [H10]; · iexact H10
    isplitl [Hg]; · iexact Hg
    iexact HT
  | succ n =>
    rw [show (dats m hO 0 c).Φ (Fin.castSucc ⟨n + 1, h⟩) = iprop(iprop(iprop(owns (c : Thread nD τ) sc0 fullShare (k0_pay1 (gB m hO c ⟨n, Nat.lt_of_succ_lt h⟩))
        ∗ owns (c : Thread nD τ) sc1 fullShare (k0_pay2 (uB m hO c ⟨n, Nat.lt_of_succ_lt h⟩))) ∗ (∃ r, prngReg c r)) ∗ Pipeline.ΦT pre0 (tbl m) c) from rfl]
    iintro ⟨⟨⟨H9, H10⟩, Hg⟩, HT⟩
    iexists _; iexists _
    isplitr
    swap
    · isplitl [H9]; · iexact H9
      isplitl [H10]; · iexact H10
      isplitl [Hg]; · iexact Hg
      iexact HT
    ipureintro
    intro hf
    have := keep_step m hO c n h hf
    exact ⟨congrArg k0_pay1 this.1, congrArg k0_pay2 this.2⟩

theorem Phi_succ (hO : Ok m) (c : Dev nD) (t : Fin (cfgM m hO).N) :
    (dats m hO 0 c).Φ t.succ = iprop(iprop(iprop(owns (c : Thread nD τ) sc0 fullShare (k0_pay1 (gB m hO c t))
        ∗ owns (c : Thread nD τ) sc1 fullShare (k0_pay2 (uB m hO c t))) ∗ (∃ r, prngReg c r)) ∗ Pipeline.ΦT pre0 (tbl m) c) := rfl

theorem live_3 (hO : Ok m) (hG : Good m) (t : Fin (cfgM m hO).N) : (cfgM m hO).idle 3 (grid0.coords t) = false := by
  have hd : (tbl m).atD 1 (k0_off2 (grid0.coords t)) = validOf m (ix1 (grid0.coords t 1)) := by
    have ho : k0_off2 (grid0.coords t) = ![(grid0.coords t 1).val] := k0_off1_eq _
    have hb : ∀ a, k0_off2 (grid0.coords t) a + 1 ≤ S74.size a := by
      intro a
      match a with
      | ⟨0, _⟩ =>
        rw [ho]
        show (grid0.coords t 1).val + 1 ≤ 74
        exact (grid0.coords t 1).isLt
    have hd' : (tbl m).atD 1 (k0_off2 (grid0.coords t)) = tbl m 1 (fun a => ⟨k0_off2 (grid0.coords t) a, hb a⟩) := dif_pos hb
    rw [hd', tbl_1]
    refine congrArg (validOf m) (funext fun a => ?_)
    match a with
    | ⟨0, _⟩ => exact Fin.ext (by show k0_off2 (grid0.coords t) 0 = (grid0.coords t 1).val; rw [ho]; rfl)
  show (!(k0_cond2 ((tbl m).atD 1 (k0_off2 (grid0.coords t))) == 1#1) && !(k0_cond3 ((tbl m).atD 1 (k0_off2 (grid0.coords t))) == 1#1)) = false
  rw [hd]
  rcases hG.v (grid0.coords t 1) with h | h
  · rw [h]; decide
  · rw [h]; decide

abbrev ms_0 (hO : Ok m) (t : Fin (cfgM m hO).N) : Memref sig .tc .vmem S512x1024 .f32 := spec0_0.stage ((cfgM m hO).slots t 0)
abbrev ms_1 (hO : Ok m) (t : Fin (cfgM m hO).N) : Memref sig .tc .vmem S1x1024x1792 .f32 := spec0_1.stage ((cfgM m hO).slots t 1)
abbrev ms_2 (hO : Ok m) (t : Fin (cfgM m hO).N) : Memref sig .tc .vmem S1x1024x1792 .f32 := spec0_2.stage ((cfgM m hO).slots t 2)
abbrev ms_3 (hO : Ok m) (t : Fin (cfgM m hO).N) : Memref sig .tc .vmem S512x1792 .bf16 := spec0_3.stage ((cfgM m hO).slots t 3)

/-- The kernel's step as the pipeline calls it. -/
abbrev bodyAt (hO : Ok m) (t : Fin (cfgM m hO).N) : Prog (TpuEff nD τ sig (Elt F) Λ₀ .tc) PUnit :=
  cc0_moe_gate_up (grid0.coords t) tb0 (Memref.isWhole_whole _) tb1 (Memref.isWhole_whole _) tb2 (Memref.isWhole_whole _)
    (ms_0 m hO t) (hstage0_0 (((cfgM m hO).slots t 0).cast nbuf0_0)) (ms_1 m hO t) (hstage0_1 (((cfgM m hO).slots t 1).cast nbuf0_1))
    (ms_2 m hO t) (hstage0_2 (((cfgM m hO).slots t 2).cast nbuf0_2)) (ms_3 m hO t) (hstage0_3 (((cfgM m hO).slots t 3).cast nbuf0_3))
    sc0 (Memref.isWhole_whole _) sc1 (Memref.isWhole_whole _)

def bodyPre (hO : Ok m) (c : Dev nD) (t : Fin (cfgM m hO).N) : sProp (Rs F) :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d)))
def bodyPost (hO : Ok m) (c : Dev nD) (t : Fin (cfgM m hO).N) : sProp (Rs F) :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t)

set_option maxHeartbeats 1600000 in
theorem sound_body (hO : Ok m) (hG : Good m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).owesAt () t.succ = (dats m hO 0 c).owesAt () t.castSucc from rfl, Phi_succ]
  rw [show (dats m hO 0 c).leavesExact 0 t = owns (c : Thread nD τ) (ms_0 m hO t) fullShare (xB m hO c t) from by
      unfold Dat.leavesExact; rw [show (cfgM m hO).idle 0 (grid0.coords t) = false from rfl]; try rfl]
  rw [show (dats m hO 0 c).leavesExact 1 t = owns (c : Thread nD τ) (ms_1 m hO t) fullShare (gB m hO c t) from by
      unfold Dat.leavesExact; rw [show (cfgM m hO).idle 1 (grid0.coords t) = false from rfl]; try rfl]
  rw [show (dats m hO 0 c).leavesExact 2 t = owns (c : Thread nD τ) (ms_2 m hO t) fullShare (uB m hO c t) from by
      unfold Dat.leavesExact; rw [show (cfgM m hO).idle 2 (grid0.coords t) = false from rfl]; try rfl]
  rw [show (dats m hO 0 c).leavesExact 3 t = owns (c : Thread nD τ) (ms_3 m hO t) fullShare (outB m hO c t) from by
      unfold Dat.leavesExact; rw [live_3 m hO hG t]; try rfl]
  refine BIBase.Entails.trans (sep_mono (Phi_pre m hO c t) .rfl) ?_
  rw [PhiT_eq]
  iintro ⟨⟨%d9, %d10, %hk, H9, H10, Hg, T0, T1, T2⟩, Ho, ⟨%e0, H0⟩, ⟨%e1, H1⟩, ⟨%e2, H2⟩, ⟨%e3, H3⟩⟩
  have hv : wordAt (tbl m 1) (grid0.coords t) = 0#32 ∨ wordAt (tbl m 1) (grid0.coords t) = 1#32 := by
    rw [tbl_1]; exact hG.v _
  iapply (body_run c (grid0.coords t) (ms_0 m hO t) _ (ms_1 m hO t) _ (ms_2 m hO t) _ (ms_3 m hO t) _ sc0 _ sc1 _ (tbl m 0) (tbl m 1) (tbl m 2)
    (xB m hO c t) (gB m hO c t) (uB m hO c t) d9 d10 hk hv Set.univ _)
  isplitl [H0]; · iexact H0
  isplitl [H1]; · iexact H1
  isplitl [H2]; · iexact H2
  isplitl [H3]; · iexists _; iexact H3
  isplitl [H9]; · iexact H9
  isplitl [H10]; · iexact H10
  isplitl [T0]; · iexact T0
  isplitl [T1]; · iexact T1
  isplitl [T2]; · iexact T2
  rw [show (if wordAt (tbl m 1) (grid0.coords t) = 1#32 then k0_pay3 (xB m hO c t) (k0_pay1 (gB m hO c t)) (k0_pay2 (uB m hO c t)) else k0_pay4) = outB m hO c t from by
    rw [tbl_1]; rfl]
  iintro ⟨H0, H1, H2, H3, H9, H10, T0, T1, T2⟩
  isplitl [H9 H10 Hg T0 T1 T2]
  · isplitl [H9 H10 Hg]
    · isplitl [H9 H10]
      · isplitl [H9]; · iexact H9
        iexact H10
      iexact Hg
    isplitl [T0]; · iexact T0
    isplitl [T1]; · iexact T1
    iexact T2
  isplitl [Ho]; · iexact Ho
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (hG : Good m) (c : Dev nD) : BodyObligation (dats (F := F) m hO 0 c) (defs₀ (F := F)) Variants.none () Set.univ := fun t => by
  rw [bigSep_W0, bigSep_W0, defs₀_row m hO]
  exact triple_restated (sound_body m hO hG c t) rfl .rfl fun _ => .rfl

/-! ## The run -/

theorem Phi_last (hO : Ok m) (c : Dev nD) : (dats m hO 0 c).Φ (Fin.last (cfgM m hO).N) ⊢ Pipeline.ΦA spec0 c := by
  rw [PhiA_eq]
  have h : 147 < (cfgM m hO).N := Nat.lt_of_lt_of_eq (by decide) N_0.symm
  rw [show (Fin.last (cfgM m hO).N) = Fin.succ ⟨147, h⟩ from Fin.ext N_0, Phi_succ]
  iintro ⟨⟨⟨H9, H10⟩, Hg⟩, -⟩
  isplitl [H9 H10]
  · isplitl [H9]; · iexists _; iexact H9
    iexists _; iexact H10
  iexact Hg

set_option backward.isDefEq.respectTransparency.types false in
/-- Every run ends with the arrays the proof data names and the counters at zero. -/
theorem run_main (hO : Ok m) (hG : Good m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO hG c).loose) (hq := fun _ _ _ => rfl)
    (howed := fun _ _ => rfl) (V := V m) (hmain := hmain m Variants.none) (hA := A_eq m hO) (hpf := V_pre m)
    (hin := fun _ => .rfl) (hout := fun c => Phi_last m hO c)

/-- What a run leaves: the arguments as they were, the output as the steps wrote it. -/
theorem run_post (hO : Ok m) (hG : Good m) : θ_run defs (onTc (τ := τ) (main (F := F))) ⟨m, fun _ => 0, ρ⟩ (fun r => (∀ c : Dev nD,
      r.2.mem ((c.tc : Thread nD τ).loc main_v6) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 3,
      ((h.1 c).1 0).trans (((dats m hO 0 c).arrAt_in 0 rfl _).trans ((A_eq m hO c 0).trans (V_arg0 m c))),
      ((h.1 c).1 1).trans (((dats m hO 0 c).arrAt_in 1 rfl _).trans ((A_eq m hO c 1).trans (V_arg1 m c))),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩, h.2⟩) (run_main m ρ hO hG)

/-- The frame: every run ends, with the arguments as they were and the counters at zero. -/
theorem frame_of_good (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_post m ρ (ok_of_good m hG) hG)

end Cert.MgK

end
-- ==== Proof.MgPre.lean ====
module

public import proofs.«01_k».proof.Proof.MgLaunch
public import proofs.«01_k».proof.Proof.Gen.Pre_moe_gu_tiles
public import proofs.«01_k».proof.Proof.Gen.MoeGu
public import proofs.«01_k».proof.Defs
public import Idealize.ShloMosaic.Lib.StableHlo.Predicate

@[expose] public section

set_option maxRecDepth 16384

/-! # The experts' gate and up call: what the precondition says of the tables -/

noncomputable section

namespace Cert.MgP

open Idealize.ShloMosaic Idealize.ShloMosaic.TcCoe

variable {F : FTy → Type} [FloatOps F]

theorem expert_lt (e : BitVec 32) (h0 : IntOp.cmpi .sge e 0#32 = 1#1) (h1 : IntOp.cmpi .slt e 8#32 = 1#1) : e.toNat < 8 := by
  simp only [IntOp.cmpi] at h0 h1
  have h0 : (0#32).sle e = true := by
    cases hb : (0#32).sle e
    · rw [hb] at h0; exact absurd h0 (by decide)
    · rfl
  have h1 : e.slt 8#32 = true := by
    cases hb : e.slt 8#32
    · rw [hb] at h1; exact absurd h1 (by decide)
    · rfl
  rw [BitVec.sle, decide_eq_true_eq] at h0
  rw [BitVec.slt, decide_eq_true_eq] at h1
  have e0 : (0#32).toInt = 0 := by decide
  have e8 : (8#32).toInt = 8 := by decide
  rw [e0] at h0
  rw [e8] at h1
  have := BitVec.toInt_eq_toNat_cond e
  have hl := e.isLt
  split at this <;> omega

theorem valid_or (v : BitVec 32) (h0 : IntOp.cmpi .sge v 0#32 = 1#1) (h1 : IntOp.cmpi .sle v 1#32 = 1#1) : v = 0#32 ∨ v = 1#32 := by
  simp only [IntOp.cmpi] at h0 h1
  have h0 : (0#32).sle v = true := by
    cases hb : (0#32).sle v
    · rw [hb] at h0; exact absurd h0 (by decide)
    · rfl
  have h1 : v.sle 1#32 = true := by
    cases hb : v.sle 1#32
    · rw [hb] at h1; exact absurd h1 (by decide)
    · rfl
  rw [BitVec.sle, decide_eq_true_eq] at h0 h1
  have e0 : (0#32).toInt = 0 := by decide
  have e1 : (1#32).toInt = 1 := by decide
  rw [e0] at h0
  rw [e1] at h1
  have := BitVec.toInt_eq_toNat_cond v
  have hl := v.isLt
  have : v.toNat = 0 ∨ v.toNat = 1 := by
    split at this <;> omega
  rcases this with h | h
  · exact Or.inl (BitVec.eq_of_toNat_eq h)
  · exact Or.inr (BitVec.eq_of_toNat_eq h)

attribute [local instance] Cert.Pre_moe_gu_tiles.Gen.facts in
/-- The precondition of the tables: experts 0 to 7, tiles marked 0 or 1. -/
theorem tables {s : FVec F Cert.MoeGuIdeal.S37888x1024 .f32} {w : FVec F Cert.MoeGuIdeal.S8x1024x7168 .f32} {e v : IVec Cert.MoeGuIdeal.S74 32}
    (h : Cert.Pre_moe_gu_tiles.fn (F := F) s w e v = fun _ => 1#1) (j : Fin 74) :
    (e (ix1 j)).toNat < 8 ∧ (v (ix1 j) = 0#32 ∨ v (ix1 j) = 1#32) := by
  have h := congrFun h (ix1 j)
  dsimp only [Cert.Pre_moe_gu_tiles.fn] at h
  obtain ⟨h, h3⟩ := IntOp.andi_eq_one.mp h
  obtain ⟨h, h2⟩ := IntOp.andi_eq_one.mp h
  obtain ⟨h0, h1⟩ := IntOp.andi_eq_one.mp h
  exact ⟨expert_lt _ h0 h1, valid_or _ h2 h3⟩

/-- The ideal kernel's tables. -/
theorem good (m) (h : Pre_MoeGuIdeal (hPre_moe_gu_tiles := Cert.Pre_moe_gu_tiles.Gen.facts) m) : Cert.MgK.Good (F := Ideal) m :=
  ⟨fun j => (tables (h 0) j).1, fun j => (tables (h 0) j).2⟩

/-- Both programs' steps are the same. -/
theorem steps_eq : @Cert.MoeGu.defs₀ F _ _ = @Cert.MoeGuIdeal.defs₀ F _ _ := by
  unfold Cert.MoeGu.defs₀ Cert.MoeGuIdeal.defs₀
  refine congrArg Defs.onTc (funext fun x => ?_)
  funext a
  rcases x with ⟨_ | n, hx⟩
  · rfl
  · omega
theorem defs_eq : @Cert.MoeGu.defs F _ _ = @Cert.MoeGuIdeal.defs F _ _ := by
  show Pipeline.defs (@Cert.MoeGuIdeal.pcfgs F _ _) (@Cert.MoeGu.defs₀ F _ _) = Pipeline.defs (@Cert.MoeGuIdeal.pcfgs F _ _) (@Cert.MoeGuIdeal.defs₀ F _ _)
  exact congrArg (Pipeline.defs (@Cert.MoeGuIdeal.pcfgs F _ _)) steps_eq

/-- The experts' gate and up call ends, its arguments unchanged and its counters at zero, over words. -/
theorem frame_bits : quiescent_MoeGu (hMoeGu := Cert.MoeGu.Gen.facts) (hPre_moe_gu_tiles := Cert.Pre_moe_gu_tiles.Gen.facts) :=
  fun m g h => by
    have f := Cert.MgK.frame_of_good (F := Bits) m g ⟨fun j => (tables (h 0) j).1, fun j => (tables (h 0) j).2⟩
    rw [← defs_eq] at f
    exact f

/-- The same over the extended reals. -/
theorem frame_ideal : quiescent_MoeGuIdeal (hMoeGuIdeal := Cert.MoeGuIdeal.Gen.facts) (hPre_moe_gu_tiles := Cert.Pre_moe_gu_tiles.Gen.facts) :=
  fun m g h => Cert.MgK.frame_of_good (F := Ideal) m g (good m h)

end Cert.MgP

end
-- ==== Proof.MgSpec.lean ====
module

public import proofs.«01_k».proof.Proof.MgLaunch
public import Idealize.ShloMosaic.Lib.Pipeline.ValueKit.Geometry

@[expose] public section

set_option maxRecDepth 16384

/-! # The experts' gate and up call: the kernel's array -/

noncomputable section

namespace Cert.MgV

open Cert.MoeGuIdeal Cert.MoeGuIdeal.Gen Cert.MgK
open Idealize.ShloMosaic Idealize.ShloMosaic.TcCoe Idealize.ShloMosaic.Tactic

section
variable (s : FVec Ideal S37888x1024 .f32) (w : FVec Ideal S8x1024x7168 .f32) (e v : IVec S74 32)

/-- A row's tile, -/
def tile (r : Fin 37888) : Fin 74 := ⟨r / 512, by omega⟩
/-- and its expert. -/
def expert (r : Fin 37888) : Fin 8 := ⟨(e (ix1 (tile r))).toNat % 8, by omega⟩
/-- A row times a column of its expert's matrix. -/
def P (r : Fin 37888) (f : Fin 7168) : EReal := ∑ l : Fin 1024, s (ix2 r l) * w (ix3 (expert e r) l f)
/-- A gated value, or zero where the row's tile holds no tokens. -/
def Gat (r : Fin 37888) (f : Fin 3584) : EReal :=
  if v (ix1 (tile r)) = 1#32 then
    P s w e r ⟨f, by omega⟩ * Ideal.logistic (P s w e r ⟨f, by omega⟩) * P s w e r ⟨3584 + f, by omega⟩
  else 0
/-- The result. -/
def G : FVec Ideal S37888x3584 .bf16 := fun y => Gat s w e v (y 0) (y 1)
end

variable (m : (ℓ : Loc nD τ sig) → Buf (Elt Ideal) ℓ) (c : Dev nD)

/-- The row of the whole array at a row of step `t`'s block. -/
def row (t : Fin grid0.N) (a : Fin 512) : Fin 37888 := ⟨512 * (t.val % 74) + a, by omega⟩
/-- The column of the whole array at a column of step `t`'s block. -/
def col (t : Fin grid0.N) (f : Fin 1792) : Fin 3584 := ⟨1792 * (t.val / 74 % 2) + f, by omega⟩

theorem tile_row (t : Fin grid0.N) (a : Fin 512) : tile (row t a) = grid0.coords t 1 := by
  apply Fin.ext
  rw [coords_1]
  unfold tile row
  dsimp only
  omega

theorem flush_3 (hO : Ok m) (t : Fin (cfgM m hO).N) : ((cfgM m hO).win 3).flush t = true := by
  exact (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _)

theorem x_at (hO : Ok m) (t : Fin (cfgM m hO).N) (a : Fin 512) (l : Fin 1024) :
    xB m hO c t (ix2 a l) = (m ((c : Thread nD τ).loc main_arg0) : FVec Ideal S37888x1024 .f32) (ix2 (row t a) l) := by
  have h1 := coords_1 t
  have h2 : (grid0.coords t 1).val < 74 := (grid0.coords t 1).isLt
  rw [← V_arg0 m c]
  unfold xB iblk
  show (V m c main_arg0) ((((cfgM m hO).win 0).rect t).emb (ix2 a l)) = _
  refine congrArg (V m c main_arg0) (funext fun b => Fin.ext ?_)
  rw [Pipeline.Window.rect_emb_val ((cfgM m hO).win 0) t (ix2 a l) b rfl]
  match b with
  | ⟨0, _⟩ =>
    show (BitVec.ofNat 32 (grid0.coords t 1).val).toNat * 512 + a.val = 512 * (t.val % 74) + a.val
    rw [BitVec.toNat_ofNat, h1] at *
    omega
  | ⟨1, _⟩ =>
    show 0 * 1024 + l.val = l.val
    omega

theorem out_at (hO : Ok m) (t : Fin (cfgM m hO).N) (a : Fin 512) (f : Fin 1792) :
    (((cfgM m hO).win 3).blk t).view.emb (ix2 a f) = (ix2 (row t a) (col t f) : S37888x3584.Idx) := by
  have h1 := coords_1 t
  have h0 := coords_0 t
  show (((cfgM m hO).win 3).rect t).emb (ix2 a f) = _
  refine funext fun b => Fin.ext ?_
  rw [Pipeline.Window.rect_emb_val ((cfgM m hO).win 3) t (ix2 a f) b rfl]
  match b with
  | ⟨0, _⟩ =>
    show (BitVec.ofNat 32 (grid0.coords t 1).val).toNat * 512 + a.val = 512 * (t.val % 74) + a.val
    rw [BitVec.toNat_ofNat, h1]
    omega
  | ⟨1, _⟩ =>
    show (BitVec.ofNat 32 (grid0.coords t 0).val).toNat * 1792 + f.val = 1792 * (t.val / 74 % 2) + f.val
    rw [BitVec.toNat_ofNat, h0]
    omega

theorem g_at (hO : Ok m) (hG : Good m) (t : Fin (cfgM m hO).N) (a : Fin 512) (l : Fin 1024) (f : Fin 1792) :
    gB m hO c t (ix3 0 l f) = (m ((c : Thread nD τ).loc main_arg1) : FVec Ideal S8x1024x7168 .f32) (ix3 (expert (expOf m) (row t a)) l ⟨(col t f).val, by omega⟩) := by
  have h0 := coords_0 t
  have he := hG.e (grid0.coords t 1)
  rw [← V_arg1 m c]
  unfold gB iblk
  show (V m c main_arg1) ((((cfgM m hO).win 1).rect t).emb (ix3 0 l f)) = _
  refine congrArg (V m c main_arg1) (funext fun b => Fin.ext ?_)
  rw [Pipeline.Window.rect_emb_val ((cfgM m hO).win 1) t (ix3 0 l f) b rfl,
    show ((cfgM m hO).win 1).index t = ![(expOf m (ix1 (grid0.coords t 1))).toNat, 0, (grid0.coords t 0).val] from at1 m (grid0.coords t)]
  match b with
  | ⟨0, _⟩ =>
    show (expOf m (ix1 (grid0.coords t 1))).toNat * 1 + 0 = (expOf m (ix1 (tile (row t a)))).toNat % 8
    rw [tile_row]
    omega
  | ⟨1, _⟩ =>
    show 0 * 1024 + l.val = l.val
    omega
  | ⟨2, _⟩ =>
    show (grid0.coords t 0).val * 1792 + f.val = 1792 * (t.val / 74 % 2) + f.val
    rw [h0]
    omega

theorem u_at (hO : Ok m) (hG : Good m) (t : Fin (cfgM m hO).N) (a : Fin 512) (l : Fin 1024) (f : Fin 1792) :
    uB m hO c t (ix3 0 l f) = (m ((c : Thread nD τ).loc main_arg1) : FVec Ideal S8x1024x7168 .f32) (ix3 (expert (expOf m) (row t a)) l ⟨3584 + (col t f).val, by omega⟩) := by
  have h0 := coords_0 t
  have he := hG.e (grid0.coords t 1)
  rw [← V_arg1 m c]
  unfold uB iblk
  show (V m c main_arg1) ((((cfgM m hO).win 2).rect t).emb (ix3 0 l f)) = _
  refine congrArg (V m c main_arg1) (funext fun b => Fin.ext ?_)
  rw [Pipeline.Window.rect_emb_val ((cfgM m hO).win 2) t (ix3 0 l f) b rfl,
    show ((cfgM m hO).win 2).index t = ![(expOf m (ix1 (grid0.coords t 1))).toNat, 0, 2 + (grid0.coords t 0).val] from at2 m (grid0.coords t)]
  match b with
  | ⟨0, _⟩ =>
    show (expOf m (ix1 (grid0.coords t 1))).toNat * 1 + 0 = (expOf m (ix1 (tile (row t a)))).toNat % 8
    rw [tile_row]
    omega
  | ⟨1, _⟩ =>
    show 0 * 1024 + l.val = l.val
    omega
  | ⟨2, _⟩ =>
    show (2 + (grid0.coords t 0).val) * 1792 + f.val = 3584 + (1792 * (t.val / 74 % 2) + f.val)
    rw [h0]
    omega

/-- What a step computes, at an entry. -/
theorem pay3_at (x : Vec Ideal S512x1024 .f32) (g u : Vec Ideal S1x1024x1792 .f32) (a : Fin 512) (f : Fin 1792) :
    k0_pay3 x (k0_pay1 g) (k0_pay2 u) (ix2 a f)
      = (∑ l, x (ix2 a l) * g (ix3 0 l f)) * Ideal.logistic (∑ l, x (ix2 a l) * g (ix3 0 l f)) * ∑ l, x (ix2 a l) * u (ix3 0 l f) := by
  pointwise [k0_pay3, k0_pay1, k0_pay2]

theorem pay4_at (a : Fin 512) (f : Fin 1792) : k0_pay4 (F := Ideal) (ix2 a f) = (0 : EReal) := by
  pointwise [k0_pay4]

theorem idx_out (y : S512x1792.Idx) : ∃ (a : Fin 512) (f : Fin 1792), y = ix2 a f := ⟨y 0, y 1, ValueIdx.eq_ix2 y⟩
theorem idx_arr (y : S37888x3584.Idx) : ∃ (a : Fin 37888) (f : Fin 3584), y = ix2 a f := ⟨y 0, y 1, ValueIdx.eq_ix2 y⟩

/-- The kernel's array. -/
theorem kernel_arr (hO : Ok m) (hG : Good m) : (dats m hO 0 c).arrAt 3 (cfgM m hO).N
    = G (m ((c : Thread nD τ).loc main_arg0)) (m ((c : Thread nD τ).loc main_arg1)) (expOf m) (validOf m) := by
  refine (dats m hO 0 c).arrAt_eq_of_emb 3 _ (fun t hf y => ?_) (fun i => ?_)
  · obtain ⟨a, f, rfl⟩ : ∃ (a : Fin 512) (f : Fin 1792), y = ix2 a f := idx_out y
    rw [after_3, out_at]
    show outB m hO c t (ix2 a f) = _
    show _ = Gat _ _ _ _ (row t a) (col t f)
    unfold outB Gat
    rw [tile_row]
    unfold wordAt
    by_cases hv : validOf m (ix1 (grid0.coords t 1)) = 1#32
    · rw [if_pos hv, if_pos hv]
      refine (pay3_at _ _ _ a f).trans ?_
      unfold P
      simp only [x_at, g_at m c hO hG t a, u_at m c hO hG t a]
    · rw [if_neg hv, if_neg hv]
      exact pay4_at a f
  · obtain ⟨r, f, rfl⟩ : ∃ (r : Fin 37888) (f : Fin 3584), i = (ix2 r f : S37888x3584.Idx) := idx_arr i
    have hN : 74 * (f.val / 1792) + r.val / 512 < (cfgM m hO).N := Nat.lt_of_lt_of_eq (by omega) N_0.symm
    refine ⟨⟨_, hN⟩, flush_3 m hO _, ?_⟩
    have e := out_at m hO ⟨_, hN⟩ ⟨r.val % 512, by omega⟩ ⟨f.val % 1792, by omega⟩
    rw [show (ix2 r f : S37888x3584.Idx) = ix2 (row ⟨_, hN⟩ ⟨r.val % 512, by omega⟩) (col ⟨_, hN⟩ ⟨f.val % 1792, by omega⟩) from
      congrArg₂ ix2 (Fin.ext (by show r.val = 512 * ((74 * (f.val / 1792) + r.val / 512) % 74) + r.val % 512; omega))
        (Fin.ext (by show f.val = 1792 * ((74 * (f.val / 1792) + r.val / 512) / 74 % 2) + f.val % 1792; omega)), ← e]
    exact Finset.mem_map_of_mem _ (Finset.mem_univ _)

end Cert.MgV

end
-- ==== Proof.MgRef.lean ====
module

public import proofs.«01_k».proof.Proof.Gen.MoeGuRefIdeal.Run
public import proofs.«01_k».proof.Proof.MgSpec

@[expose] public section

set_option maxRecDepth 16384

/-! # The experts' gate and up call: the reference's array -/

noncomputable section

namespace Cert.MgR

open Idealize.ShloMosaic Cert.MoeGuRefIdeal Cert.MoeGuRefIdeal.Gen Cert.MgV

/-- Matrices taken by number: entry `(j, l, f)` is entry `(l, f)` of the matrix numbered at `j`. -/
theorem take_at (w : FVec Ideal S8x1024x7168 .f32) (idx : IVec S74x1 32) (j : Fin 74) (l : Fin 1024) (f : Fin 7168) (h : (idx (ix2 j 0)).toNat < 8) :
    Host.gather gather_S8x1024x7168_S74x1_S74x1024x7168_12_0_n_n_0_1_110247168 w idx (ix3 j l f) = w (ix3 ⟨(idx (ix2 j 0)).toNat % 8, by omega⟩ l f) := by
  unfold Host.gather
  refine congrArg w (funext fun a => Fin.ext ?_)
  show GatherDims.start _ (ix3 j l f) idx a + GatherDims.batchCoord _ (ix3 j l f) a + GatherDims.offCoord _ (ix3 j l f) a = _
  have hi : (idx (ix2 j 0)).toInt.toNat = (idx (ix2 j 0)).toNat := by
    have := BitVec.toInt_eq_toNat_cond (idx (ix2 j 0))
    split at this <;> omega
  match a with
  | ⟨0, _⟩ =>
    show min (idx _).toInt.toNat (8 - 1) + 0 + 0 = (idx (ix2 j 0)).toNat % 8
    have hk (k) : GatherDims.siIdx gather_S8x1024x7168_S74x1_S74x1024x7168_12_0_n_n_0_1_110247168 (ix3 j l f) k = ix2 j 0 := by
      funext b
      apply Fin.ext
      match b with
      | ⟨0, _⟩ => rfl
      | ⟨1, _⟩ =>
        show k.val = 0
        exact Nat.lt_one_iff.mp k.isLt
    refine Eq.trans (congrArg (fun i => min (idx i).toInt.toNat (8 - 1) + 0 + 0) (hk _)) ?_
    omega
  | ⟨1, _⟩ =>
    show 0 + 0 + l.val = l.val
    omega
  | ⟨2, _⟩ =>
    show 0 + 0 + f.val = f.val
    omega

variable (s : FVec Ideal S37888x1024 .f32) (w : FVec Ideal S8x1024x7168 .f32) (e v : IVec S74 32)

/-- The experts' numbers, wrapped. -/
def num : IVec S74 32 := select (cmpi .slt e (broadcastInDim S74 ![] bcast_S_S74 (constantI S_ 32 0#32))) (addi e (broadcastInDim S74 ![] bcast_S_S74 (constantI S_ 32 8#32))) e

/-- Each tile's rows times its expert's matrix. -/
def prj : FVec Ideal S74x512x7168 .f32 :=
  Host.dotGeneral dot_S74x512x1024_S74x1024x7168_S74x512x7168_2_1_1_2_0_0 none (shapeCast _ s shapeCasts_S37888x1024_S74x512x1024) (Host.gather gather_S8x1024x7168_S74x1_S74x1024x7168_12_0_n_n_0_1_110247168 w (broadcastInDim S74x1 ![0] bcast_S74_S74x1_0 (num e)))

/-- The gated values, the tiles without tokens at zero. -/
def gated : FVec Ideal S74x512x3584 .f32 :=
  select (broadcastInDim S74x512x3584 ![0, 1, 2] bcast_S74x1x1_S74x512x3584_0_1_2 (cmpi .eq (broadcastInDim S74x1x1 ![0] bcast_S74_S74x1x1_0 v) (broadcastInDim S74x1x1 ![] bcast_S_S74x1x1 (constantI S_ 32 1#32)))) (mulf (mulf (extractStridedSlice S74x512x3584 ![0, 0, 0] (prj s w e) slices_S74x512x7168_S74x512x3584_0_0_0) (Host.divf (broadcastInDim S74x512x3584 ![] bcast_S_S74x512x3584 (constant S_ .f32 0x3F800000#32)) (addf (broadcastInDim S74x512x3584 ![] bcast_S_S74x512x3584 (constant S_ .f32 0x3F800000#32)) (Host.exp (Host.negf (extractStridedSlice S74x512x3584 ![0, 0, 0] (prj s w e) slices_S74x512x7168_S74x512x3584_0_0_0)))))) (extractStridedSlice S74x512x3584 ![0, 0, 3584] (prj s w e) slices_S74x512x7168_S74x512x3584_0_0_3584)) (broadcastInDim S74x512x3584 ![] bcast_S_S74x512x3584 (id (constant S_ .f32 0x00000000#32)))

/-- The result. -/
def refA : FVec Ideal S37888x3584 .bf16 := truncf .bf16 (shapeCast _ (gated s w e v) shapeCasts_S74x512x3584_S37888x3584) bitsLt_bf16_f32

theorem num_at (j : Fin 74) (h : (e (ix1 j)).toNat < 8) : num e (ix1 j) = e (ix1 j) := by
  have hs : BitVec.slt (e (ix1 j)) 0#32 = false := by
    rw [BitVec.slt, decide_eq_false_iff_not, show (0#32).toInt = 0 by decide]
    have := BitVec.toInt_eq_toNat_cond (e (ix1 j))
    split at this <;> omega
  show Scalar.select (BitVec.ofBool (BitVec.slt (e (ix1 j)) 0#32)) _ (e (ix1 j)) = e (ix1 j)
  rw [hs]
  rfl

/-- The row of the whole array at a row of tile `j`. -/
def rowOf (j : Fin 74) (a : Fin 512) : Fin 37888 := ⟨j * 512 + a, by omega⟩
theorem tile_rowOf (j : Fin 74) (a : Fin 512) : tile (rowOf j a) = j := Fin.ext (by unfold tile rowOf; dsimp only; omega)

theorem prj_at (he : ∀ j : Fin 74, (e (ix1 j)).toNat < 8) (j : Fin 74) (a : Fin 512) (f : Fin 7168) : prj s w e (ix3 j a f) = P s w e (rowOf j a) f := by
  have hg (l : Fin 1024) : Host.gather gather_S8x1024x7168_S74x1_S74x1024x7168_12_0_n_n_0_1_110247168 w (broadcastInDim S74x1 ![0] bcast_S74_S74x1_0 (num e)) (ix3 j l f)
      = w (ix3 (expert e (rowOf j a)) l f) := by
    have hb : broadcastInDim S74x1 ![0] bcast_S74_S74x1_0 (num e) (ix2 j 0) = e (ix1 j) := by
      have : broadcastInDim S74x1 ![0] bcast_S74_S74x1_0 (num e) (ix2 j 0) = num e (ix1 j) := by pointwise
      rw [this, num_at e j (he j)]
    rw [take_at w _ j l f (by rw [hb]; exact he j)]
    refine congrArg w (congrArg (fun k => ix3 k l f) (Fin.ext ?_))
    show (broadcastInDim S74x1 ![0] bcast_S74_S74x1_0 (num e) (ix2 j 0)).toNat % 8 = (e (ix1 (tile (rowOf j a)))).toNat % 8
    rw [tile_rowOf, hb]
  have hs (l : Fin 1024) : shapeCast S74x512x1024 s shapeCasts_S37888x1024_S74x512x1024 (ix3 j a l) = s (ix2 (rowOf j a) l) := by
    unfold rowOf
    pointwise
  unfold P
  have : prj s w e (ix3 j a f) = ∑ l : Fin 1024, shapeCast S74x512x1024 s shapeCasts_S37888x1024_S74x512x1024 (ix3 j a l)
      * Host.gather gather_S8x1024x7168_S74x1_S74x1024x7168_12_0_n_n_0_1_110247168 w (broadcastInDim S74x1 ![0] bcast_S74_S74x1_0 (num e)) (ix3 j l f) := by
    unfold prj
    generalize shapeCast S74x512x1024 s shapeCasts_S37888x1024_S74x512x1024 = X
    generalize Host.gather gather_S8x1024x7168_S74x1_S74x1024x7168_12_0_n_n_0_1_110247168 w (broadcastInDim S74x1 ![0] bcast_S74_S74x1_0 (num e)) = Y
    pointwise
  rw [this]
  exact Finset.sum_congr rfl fun l _ => congrArg₂ (· * ·) (hs l) (hg l)

theorem gated_at (he : ∀ j : Fin 74, (e (ix1 j)).toNat < 8) (j : Fin 74) (a : Fin 512) (f : Fin 3584) : gated s w e v (ix3 j a f) = G s w e v (ix2 (rowOf j a) f) := by
  have hp := prj_at s w e he j a
  show _ = Gat s w e v (rowOf j a) f
  unfold gated Gat
  generalize prj s w e = X at hp
  rw [tile_rowOf, ← hp, ← hp]
  have hc : (broadcastInDim S74x512x3584 ![0, 1, 2] bcast_S74x1x1_S74x512x3584_0_1_2 (cmpi .eq (broadcastInDim S74x1x1 ![0] bcast_S74_S74x1x1_0 v) (broadcastInDim S74x1x1 ![] bcast_S_S74x1x1 (constantI S_ 32 1#32)))) (ix3 j a f)
      = BitVec.ofBool (v (ix1 j) == 1#32) := by
    pointwise
    rfl
  rw [ValueIdx.select_apply, hc]
  by_cases hv : v (ix1 j) = 1#32
  · rw [if_pos hv, hv]
    show mulf _ _ (ix3 j a f) = _
    pointwise
    rfl
  · rw [if_neg hv, beq_eq_false_iff_ne.mpr hv, show BitVec.ofBool false = 0#1 from rfl, ValueIdx.select_zero, id]
    pointwise

/-- The reference's result is the kernel's. -/
theorem ref_eq (he : ∀ j : Fin 74, (e (ix1 j)).toNat < 8) : refA s w e v = G s w e v := by
  funext y
  obtain ⟨r, f, rfl⟩ : ∃ (r : Fin 37888) (f : Fin 3584), y = ix2 r f := ⟨y 0, y 1, ValueIdx.eq_ix2 y⟩
  have hr : r = rowOf (tile r) ⟨r.val % 512, by omega⟩ := Fin.ext (by unfold rowOf tile; dsimp only; omega)
  have h := gated_at s w e v he (tile r) ⟨r.val % 512, by omega⟩ f
  rw [← hr] at h
  rw [← h]
  unfold refA tile
  generalize gated s w e v = X
  pointwise

end Cert.MgR

end
-- ==== Proof.MdRun.lean ====
module

public import proofs.«01_k».proof.Proof.MgLaunch
public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim
public import Idealize.ShloMosaic.Lib.Pointwise

@[expose] public section

set_option maxRecDepth 16384

/-! # The experts' down call: the run of its steps -/

noncomputable section

namespace Cert.MdK

open Cert.MgK (cond_iff read_full load_full zero2 zero3)
open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (F) in
/-- The resources the run is stated over. -/
abbrev Rs : Type := MT nD τ sig Unit (Elt F) ℕ (UR sig nD τ) ℕ

/-- A table's buffer type on core `c`, -/
abbrev TbBuf (c : Dev nD) {S : Shape} {e : EltTy} (M : Memref sig .tc .smem S e) : Type := Buf (Elt F) (M.view.loc (c : Thread nD τ))
/-- and the half of it the body reads. -/
abbrev tbPt (c : Dev nD) {S : Shape} {e : EltTy} (M : Memref sig .tc .smem S e) (f : TbBuf (F := F) c M) : sProp (Rs F) :=
  M.view.loc (c : Thread nD τ) ↦{fullShare.right} f

abbrev tb0 : Memref sig .tc .smem S74 .i32 := Memref.whole main_arg2
abbrev tb1 : Memref sig .tc .smem S74 .i32 := Memref.whole main_arg3
abbrev tb2 : Memref sig .tc .smem S74 .i32 := Memref.whole main_v5

/-- The word of a table the kernel reads at a grid point. -/
def wordAt (f : S74.Idx → BitVec 32) (i : grid0.Coords) : BitVec 32 := f (ix1 (i 1))

theorem point_eq (i : grid0.Coords) (h : S1.numel = 1) :
    (Rect.unit (s := S74) (k0_off1 i) S1.size (k0_off1_inb i)).emb (Shape.Idx.first (h.symm ▸ Nat.one_pos)) = ix1 (i 1) := by
  funext a
  match a with
  | ⟨0, _⟩ =>
    apply Fin.ext
    show k0_off1 i 0 + 1 * 0 = (i 1).val
    rw [k0_off1_eq]
    simp

/-- Scratch stored into where a word says so and holding the stored contents already where it doesn't. -/
theorem kept {M : Memref sig .tc .vmem S3584x1024 .bf16} (hM : M.IsWhole) {P : Prop} [Decidable P] {d p w : Vec F S3584x1024 .bf16}
    (hd : ¬P → d = p) (hw : w = p) :
    M.view.read (Elt F) (if _ : P then M.view.writes (Elt F) (hM.unread d) [⟨Rect.unit (s := S3584x1024) ![0, 0] S3584x1024.size inb_S3584x1024_S3584x1024_0_0, w⟩]
      else hM.unread d) = p := by
  by_cases h : P
  · rw [dif_pos h]; exact (read_full M.view _ zero2 _ _ _ _).trans hw
  · rw [dif_neg h, hM.read_unread]; exact hd h

theorem load1 {M : Memref sig .tc .vmem S1x3584x1024 .f32} (hM : M.IsWhole) (w : Vec F S1x3584x1024 .f32) :
    k0_pay1 (View.readAt (Elt F) M.view (Rect.unit (s := S1x3584x1024) ![0, 0, 0] S1x3584x1024.size inb_S1x3584x1024_S1x3584x1024_0_0_0).toLoadRect (hM.unread w)) = k0_pay1 w :=
  congrArg k0_pay1 ((load_full M.view _ zero3 _ _).trans (hM.read_unread _))
set_option maxHeartbeats 1600000 in
/-- One step: from scratch that holds the step's weights unless it's told to load them, the step leaves
    its weights in the scratch and its tile of the result in the output. -/
theorem body_run (c : Dev nD) (i : grid0.Coords) (arg5 : Memref sig .tc .vmem S512x3584 .bf16) (harg5 : arg5.IsWhole)
    (arg6 : Memref sig .tc .vmem S1x3584x1024 .f32) (harg6 : arg6.IsWhole)
    (arg7 : Memref sig .tc .vmem S512x1024 .f32) (harg7 : arg7.IsWhole) (arg8 : Memref sig .tc .vmem S3584x1024 .bf16) (harg8 : arg8.IsWhole)
    (f0 : TbBuf (F := F) c tb0) (f1 : TbBuf (F := F) c tb1) (f2 : TbBuf (F := F) c tb2)
    (x : Vec F S512x3584 .bf16) (w : Vec F S1x3584x1024 .f32) (d8 : Vec F S3584x1024 .bf16)
    (hF : ¬wordAt f2 i = 1#32 → d8 = k0_pay1 w) (hV : wordAt f1 i = 0#32 ∨ wordAt f1 i = 1#32) (E : Set ℕ) (K : PUnit → sProp (Rs F)) :
    iprop(owns (c : Thread nD τ) arg5 fullShare x ∗ owns (c : Thread nD τ) arg6 fullShare w
      ∗ (∃ d, owns (c : Thread nD τ) arg7 fullShare d) ∗ owns (c : Thread nD τ) arg8 fullShare d8
      ∗ tbPt c tb0 f0 ∗ tbPt c tb1 f1 ∗ tbPt c tb2 f2
      ∗ (iprop(owns (c : Thread nD τ) arg5 fullShare x ∗ owns (c : Thread nD τ) arg6 fullShare w
          ∗ owns (c : Thread nD τ) arg7 fullShare (if wordAt f1 i = 1#32 then k0_pay2 x (k0_pay1 w) else k0_pay3)
          ∗ owns (c : Thread nD τ) arg8 fullShare (k0_pay1 w)
          ∗ tbPt c tb0 f0 ∗ tbPt c tb1 f1 ∗ tbPt c tb2 f2) -∗ K ⟨⟩))
      ⊢ wp frame (wpE (defs₀ (F := F)) Variants.none c none) E (cc0_moe_down i tb0 (Memref.isWhole_whole _) tb1 (Memref.isWhole_whole _) tb2 (Memref.isWhole_whole _) arg5 harg5 arg6 harg6 arg7 harg7 arg8 harg8) K := by
  rw [cc0_moe_down_eq_skeleton]; unfold cc0_moe_down_skel
  unfold owns
  iintro ⟨⟨%g5, %h5, H5⟩, ⟨%g6, %h6, H6⟩, ⟨%d7, %g7, %h7, H7⟩, ⟨%g8, %h8, H8⟩, T0, T1, T2, Hk⟩
  obtain rfl := harg5.eq_unread h5
  obtain rfl := harg6.eq_unread h6
  obtain rfl := harg7.eq_unread h7
  obtain rfl := harg8.eq_unread h8
  sl_exec
  have ht (f : TbBuf (F := F) c tb2) (h : S1.numel = 1) : View.readAt (Elt F) tb2.view (Rect.unit (s := S74) (k0_off1 i) S1.size (k0_off1_inb i)).toLoadRect f (Shape.Idx.first (h.symm ▸ Nat.one_pos)) = wordAt f i :=
    congrArg f (point_eq i h)
  have hs (f : TbBuf (F := F) c tb1) (h : S1.numel = 1) : View.readAt (Elt F) tb1.view (Rect.unit (s := S74) (k0_off1 i) S1.size (k0_off1_inb i)).toLoadRect f (Shape.Idx.first (h.symm ▸ Nat.one_pos)) = wordAt f i :=
    congrArg f (point_eq i h)
  have e4 : body_run.sl.v4 c i f2 = 1#1 ↔ wordAt f2 i = 1#32 := by
    have h : body_run.sl.v4 c i f2 = Scalar.cmpi .ne (Scalar.extui (Scalar.cmpi .eq (wordAt f2 i) 1#32) : BitVec 32) 0#32 :=
      congrArg (fun w => Scalar.cmpi .ne (Scalar.extui (Scalar.cmpi .eq w 1#32) : BitVec 32) 0#32) (ht f2 numel1_S1)
    rw [h]; exact cond_iff _ _
  have e2 : k0_cond2 (body_run.sl.r_1 c i f1) = 1#1 ↔ wordAt f1 i = 1#32 := by
    have h : k0_cond2 (body_run.sl.r_1 c i f1) = k0_cond2 (wordAt f1 i) := congrArg k0_cond2 (hs f1 numel1_S1)
    rw [h]; exact cond_iff _ _
  have e3 : k0_cond3 (body_run.sl.r_2 c i f1) = 1#1 ↔ wordAt f1 i = 0#32 := by
    have h : k0_cond3 (body_run.sl.r_2 c i f1) = k0_cond3 (wordAt f1 i) := congrArg k0_cond3 (hs f1 numel1_S1)
    rw [h]; exact cond_iff _ _
  unfold body_run.sl.v16
  simp only [e4, e2, e3]
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    rcases hV with hV | hV
    · have hn : ¬wordAt f1 i = 1#32 := by rw [hV]; decide
      rw [dif_pos hV, if_neg hn]
      exact read_full arg7.view _ zero2 _ _ _ _
    · have hn : ¬wordAt f1 i = 0#32 := by rw [hV]; decide
      rw [dif_neg hn, dif_pos hV, if_pos hV]
      exact (read_full arg7.view _ zero2 _ _ _ _).trans (congr (congrArg k0_pay2 ((load_full arg5.view _ zero2 _ _).trans (harg5.read_unread _)))
        ((load_full arg8.view _ zero2 _ _).trans (kept harg8 hF (load1 harg6 w))))
  isplitl [H8]
  · iexists _; isplitr; swap; · iexact H8
    ipureintro
    exact kept harg8 hF (load1 harg6 w)
  isplitl [T0]; · iexact T0
  isplitl [T1]; · iexact T1
  iexact T2

end Cert.MdK

end
-- ==== Proof.MdLaunch.lean ====
module

public import proofs.«01_k».proof.Proof.MdRun
public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim
public import Idealize.ShloMosaic.Lib.Pointwise

@[expose] public section

set_option maxRecDepth 16384

/-! # The experts' down call: the launch -/

noncomputable section

namespace Cert.MdK

open Cert.MgK (firstOf first_0 first_succ)
open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers when the pipeline starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The tables -/

/-- Each tile's expert, -/
def expOf : S74.Idx → BitVec 32 := m (((0 : Dev nD) : Thread nD τ).loc main_arg2)
/-- whether it holds tokens, -/
def validOf : S74.Idx → BitVec 32 := m (((0 : Dev nD) : Thread nD τ).loc main_arg3)
/-- What's asked of the tables: the experts exist and the tiles hold tokens or don't. -/
structure Good : Prop where
  e : ∀ j : Fin 74, (expOf m (ix1 j)).toNat < 8
  v : ∀ j : Fin 74, validOf m (ix1 j) = 0#32 ∨ validOf m (ix1 j) = 1#32

def tbl : pre0.Contents (Elt F) := fun j => V m (0 : Dev nD) (pre0.ref j)
theorem V_pre (c : Dev nD) (j : Fin 3) : V m c (pre0.ref j) = tbl m j := by
  obtain rfl : c = 0 := Subsingleton.elim _ _; rfl

theorem tbl_0 : tbl m 0 = expOf m := V_arg2 m 0
theorem tbl_1 : tbl m 1 = validOf m := V_arg3 m 0
theorem tbl_2 : tbl m 2 = firstOf (expOf m) := by
  show V m 0 main_v5 = firstOf (m (((0 : Dev nD) : Thread nD τ).loc main_arg2))
  unfold V firstOf
  after_results

theorem at1 (i : grid0.Coords) : cc0_transform_1 k0_off1_inb numel1_S1 (tbl m) i = ![(expOf m (ix1 (i 1))).toNat, 0, (i 0).val] := by
  have h0 : (i 0).val < 1 := (i 0).isLt
  show ![(tbl m 0 ((Rect.unit (s := S74) (k0_off1 i) S1.size (k0_off1_inb i)).emb (Shape.Idx.first (numel1_S1.symm ▸ Nat.one_pos)))).toNat, 0, (BitVec.ofNat 32 (i 0).val).toNat] = _
  rw [point_eq, tbl_0, BitVec.toNat_ofNat, Nat.mod_eq_of_lt (by omega)]
  · rfl
  · exact numel1_S1
abbrev Ok : Prop := ok0 (F := F) (tbl m)
theorem ok_of_good (hG : Good m) : Ok m := by
  unfold Ok ok0
  refine fun i => ⟨?_, .inl rfl⟩
  rw [at1]
  have h0 : (i 0).val < 1 := (i 0).isLt
  have h1 := hG.e (i 1)
  intro a
  match a with
  | ⟨0, _⟩ => show ((expOf m (ix1 (i 1))).toNat + 1) * 1 ≤ 8; omega
  | ⟨1, _⟩ => show (0 + 1) * 3584 ≤ 3584; omega
  | ⟨2, _⟩ => show ((i 0).val + 1) * 1024 ≤ 1024; omega
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp (Rs F)) = iprop(tbPt c tb0 (tbl m 0) ∗ tbPt c tb1 (tbl m 1) ∗ tbPt c tb2 (tbl m 2)) := by
  unfold Pipeline.ΦT Pipeline.prefHeld
  rw [bigSep_univ_eq_bigSepL [(0 : Fin 3), (1 : Fin 3), (2 : Fin 3)] (by decide) (by decide)]
  rfl

abbrev sc0 : Memref sig .tc .vmem S3584x1024 .bf16 := Memref.whole cc0_scratch0
theorem PhiA_eq (c : Dev nD) :
    (Pipeline.ΦA spec0 c : sProp (Rs F)) = iprop(iprop((∃ d, owns (c : Thread nD τ) sc0 fullShare d)) ∗ (∃ r, prngReg c r)) := by
  unfold Pipeline.ΦA; rw [scopedRest0_eq]; simp only [sc0, owns_whole]; try rfl

/-! ## The blocks and the proof data -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))
/-- A tile's gated values, and its weights' block. -/
def xB (hO : Ok m) (c : Dev nD) (t : Fin (cfgM m hO).N) : Vec F S512x3584 .bf16 := iblk m hO c 0 t
def wB (hO : Ok m) (c : Dev nD) (t : Fin (cfgM m hO).N) : Vec F S1x3584x1024 .f32 := iblk m hO c 1 t
/-- What a step leaves in the output. -/
def outB (hO : Ok m) (c : Dev nD) (t : Fin (cfgM m hO).N) : Vec F S512x1024 .f32 :=
  if wordAt (validOf m) (grid0.coords t) = 1#32 then k0_pay2 (xB m hO c t) (k0_pay1 (wB m hO c t)) else k0_pay3

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outB m hO c t
    | ⟨_ + 3, h⟩ => absurd h (Nat.not_lt.2 (Nat.le_add_left _ _))
  Φ t := match t with
    | ⟨0, _⟩ => iprop(Pipeline.ΦA spec0 c ∗ Pipeline.ΦT pre0 (tbl m) c)
    | ⟨n + 1, h⟩ => iprop(iprop(owns (c : Thread nD τ) sc0 fullShare (k0_pay1 (wB m hO c ⟨n, Nat.lt_of_succ_lt_succ h⟩)) ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (hO : Ok m) (c : Dev nD) (t : Fin (cfgM m hO).N) : (dats m hO 0 c).after 1 t = iblk m hO c 1 t := by dsimp only [dats]; try rfl
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (hO : Ok m) (c : Dev nD) (t : Fin (cfgM m hO).N) : (dats m hO 0 c).after 2 t = outB m hO c t := by dsimp only [dats]; try rfl

/-! ## Tiles of one expert -/

theorem same_block (hO : Ok m) (c : Dev nD) (t t' : Fin (cfgM m hO).N) (h0 : grid0.coords t 0 = grid0.coords t' 0)
    (he : expOf m (ix1 (grid0.coords t 1)) = expOf m (ix1 (grid0.coords t' 1))) : wB m hO c t = wB m hO c t' := by
  have f1 (t : Fin (cfgM m hO).N) (d) : (dats m hO 0 c).fetched 1 t d = iblk m hO c 1 t := by
    unfold Dat.fetched Dat.blockOf iblk; rw [A_eq]; try rfl
  have i1 : ((cfgM m hO).win 1).index t = ((cfgM m hO).win 1).index t' :=
    (at1 m (grid0.coords t)).trans (Eq.trans (by rw [he, h0]) (at1 m (grid0.coords t')).symm)
  have d1 : ((cfgM m hO).win 1).block.Idx → Elt F ((cfgM m hO).win 1).elt := fun _ => Classical.arbitrary _
  exact (f1 t d1).symm.trans (((dats m hO 0 c).fetched_congr 1 i1 rfl d1).trans (f1 t' d1))

theorem coords_0 (t : Fin grid0.N) : (grid0.coords t 0).val = t.val / 74 % 1 := Pipeline.Grid.coords_val t 0 (by decide) rfl
theorem coords_1 (t : Fin grid0.N) : (grid0.coords t 1).val = t.val / 1 % 74 := Pipeline.Grid.coords_val t 1 (by decide) rfl

/-- A step told to keep the scratch is after a step with the same weights. -/
theorem keep_step (hO : Ok m) (c : Dev nD) (n : ℕ) (h : n + 1 < (cfgM m hO).N) (hf : ¬wordAt (tbl m 2) (grid0.coords ⟨n + 1, h⟩) = 1#32) :
    wB m hO c ⟨n, Nat.lt_of_succ_lt h⟩ = wB m hO c ⟨n + 1, h⟩ := by
  have hN : n + 1 < 74 := Nat.lt_of_lt_of_eq h N_0
  rw [tbl_2] at hf
  unfold wordAt at hf
  have e1 := coords_1 ⟨n + 1, h⟩
  have e1' := coords_1 ⟨n, Nat.lt_of_succ_lt h⟩
  have e0 := coords_0 ⟨n + 1, h⟩
  have e0' := coords_0 ⟨n, Nat.lt_of_succ_lt h⟩
  dsimp only at e1 e1' e0 e0'
  have hne : (n + 1) % 74 ≠ 0 := by
    intro hz
    apply hf
    rw [show grid0.coords ⟨n + 1, h⟩ 1 = (0 : Fin 74) from Fin.ext (by rw [e1]; show (n + 1) / 1 % 74 = 0; omega)]
    exact first_0 _
  have hm : n % 74 + 1 < 74 := by omega
  rw [show grid0.coords ⟨n + 1, h⟩ 1 = (⟨n % 74 + 1, hm⟩ : Fin 74) from Fin.ext (by rw [e1]; show (n + 1) / 1 % 74 = n % 74 + 1; omega)] at hf
  have hs := first_succ _ _ _ hf
  refine same_block m hO c _ _ (Fin.ext (by rw [e0, e0']; omega)) ?_
  rw [show grid0.coords ⟨n + 1, h⟩ 1 = (⟨n % 74 + 1, hm⟩ : Fin 74) from Fin.ext (by rw [e1]; show (n + 1) / 1 % 74 = n % 74 + 1; omega),
    show grid0.coords ⟨n, Nat.lt_of_succ_lt h⟩ 1 = (⟨n % 74, by omega⟩ : Fin 74) from Fin.ext (by rw [e1']; show n / 1 % 74 = n % 74; omega)]
  exact hs.symm

/-! ## The steps -/

/-- What a step finds in the scratch. -/
theorem Phi_pre (hO : Ok m) (c : Dev nD) (t : Fin (cfgM m hO).N) :
    (dats m hO 0 c).Φ t.castSucc ⊢ iprop(∃ d8, ⌜¬wordAt (tbl m 2) (grid0.coords t) = 1#32 → d8 = k0_pay1 (wB m hO c t)⌝
      ∗ owns (c : Thread nD τ) sc0 fullShare d8 ∗ (∃ r, prngReg c r) ∗ Pipeline.ΦT pre0 (tbl m) c) := by
  obtain ⟨n, h⟩ := t
  cases n with
  | zero =>
    rw [show (dats m hO 0 c).Φ (Fin.castSucc ⟨0, h⟩) = iprop(Pipeline.ΦA spec0 c ∗ Pipeline.ΦT pre0 (tbl m) c) from rfl, PhiA_eq]
    iintro ⟨⟨⟨%d8, H8⟩, Hg⟩, HT⟩
    iexists d8
    isplitr
    · ipureintro
      intro hf
      exact absurd (by
        rw [tbl_2]; unfold wordAt
        rw [show grid0.coords ⟨0, h⟩ 1 = (0 : Fin 74) from Fin.ext ((coords_1 ⟨0, h⟩).trans (by show 0 / 1 % 74 = 0; omega))]
        exact first_0 _) hf
    isplitl [H8]; · iexact H8
    isplitl [Hg]; · iexact Hg
    iexact HT
  | succ n =>
    rw [show (dats m hO 0 c).Φ (Fin.castSucc ⟨n + 1, h⟩) = iprop(iprop(owns (c : Thread nD τ) sc0 fullShare (k0_pay1 (wB m hO c ⟨n, Nat.lt_of_succ_lt h⟩)) ∗ (∃ r, prngReg c r)) ∗ Pipeline.ΦT pre0 (tbl m) c) from rfl]
    iintro ⟨⟨H8, Hg⟩, HT⟩
    iexists _
    isplitr
    swap
    · isplitl [H8]; · iexact H8
      isplitl [Hg]; · iexact Hg
      iexact HT
    ipureintro
    intro hf
    exact congrArg k0_pay1 (keep_step m hO c n h hf)

theorem Phi_succ (hO : Ok m) (c : Dev nD) (t : Fin (cfgM m hO).N) :
    (dats m hO 0 c).Φ t.succ = iprop(iprop(owns (c : Thread nD τ) sc0 fullShare (k0_pay1 (wB m hO c t)) ∗ (∃ r, prngReg c r)) ∗ Pipeline.ΦT pre0 (tbl m) c) := rfl

theorem live_2 (hO : Ok m) (hG : Good m) (t : Fin (cfgM m hO).N) : (cfgM m hO).idle 2 (grid0.coords t) = false := by
  have hd : (tbl m).atD 1 (k0_off2 (grid0.coords t)) = validOf m (ix1 (grid0.coords t 1)) := by
    have ho : k0_off2 (grid0.coords t) = ![(grid0.coords t 1).val] := k0_off1_eq _
    have hb : ∀ a, k0_off2 (grid0.coords t) a + 1 ≤ S74.size a := by
      intro a
      match a with
      | ⟨0, _⟩ =>
        rw [ho]
        show (grid0.coords t 1).val + 1 ≤ 74
        exact (grid0.coords t 1).isLt
    have hd' : (tbl m).atD 1 (k0_off2 (grid0.coords t)) = tbl m 1 (fun a => ⟨k0_off2 (grid0.coords t) a, hb a⟩) := dif_pos hb
    rw [hd', tbl_1]
    refine congrArg (validOf m) (funext fun a => ?_)
    match a with
    | ⟨0, _⟩ => exact Fin.ext (by show k0_off2 (grid0.coords t) 0 = (grid0.coords t 1).val; rw [ho]; rfl)
  show (!(k0_cond2 ((tbl m).atD 1 (k0_off2 (grid0.coords t))) == 1#1) && !(k0_cond3 ((tbl m).atD 1 (k0_off2 (grid0.coords t))) == 1#1)) = false
  rw [hd]
  rcases hG.v (grid0.coords t 1) with h | h
  · rw [h]; decide
  · rw [h]; decide

abbrev ms_0 (hO : Ok m) (t : Fin (cfgM m hO).N) : Memref sig .tc .vmem S512x3584 .bf16 := spec0_0.stage ((cfgM m hO).slots t 0)
abbrev ms_1 (hO : Ok m) (t : Fin (cfgM m hO).N) : Memref sig .tc .vmem S1x3584x1024 .f32 := spec0_1.stage ((cfgM m hO).slots t 1)
abbrev ms_2 (hO : Ok m) (t : Fin (cfgM m hO).N) : Memref sig .tc .vmem S512x1024 .f32 := spec0_2.stage ((cfgM m hO).slots t 2)

/-- The kernel's step as the pipeline calls it. -/
abbrev bodyAt (hO : Ok m) (t : Fin (cfgM m hO).N) : Prog (TpuEff nD τ sig (Elt F) Λ₀ .tc) PUnit :=
  cc0_moe_down (grid0.coords t) tb0 (Memref.isWhole_whole _) tb1 (Memref.isWhole_whole _) tb2 (Memref.isWhole_whole _)
    (ms_0 m hO t) (hstage0_0 (((cfgM m hO).slots t 0).cast nbuf0_0)) (ms_1 m hO t) (hstage0_1 (((cfgM m hO).slots t 1).cast nbuf0_1))
    (ms_2 m hO t) (hstage0_2 (((cfgM m hO).slots t 2).cast nbuf0_2)) sc0 (Memref.isWhole_whole _)

def bodyPre (hO : Ok m) (c : Dev nD) (t : Fin (cfgM m hO).N) : sProp (Rs F) :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d)))
def bodyPost (hO : Ok m) (c : Dev nD) (t : Fin (cfgM m hO).N) : sProp (Rs F) :=
  iprop((dats m hO 0 c).Φ t.succ ∗ (dats m hO 0 c).owesAt () t.succ
    ∗ (dats m hO 0 c).leavesExact 0 t ∗ (dats m hO 0 c).leavesExact 1 t ∗ (dats m hO 0 c).leavesExact 2 t)

set_option maxHeartbeats 1600000 in
theorem sound_body (hO : Ok m) (hG : Good m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1]
  rw [show (dats m hO 0 c).owesAt () t.succ = (dats m hO 0 c).owesAt () t.castSucc from rfl, Phi_succ]
  rw [show (dats m hO 0 c).leavesExact 0 t = owns (c : Thread nD τ) (ms_0 m hO t) fullShare (xB m hO c t) from by
      unfold Dat.leavesExact; rw [show (cfgM m hO).idle 0 (grid0.coords t) = false from rfl]; try rfl]
  rw [show (dats m hO 0 c).leavesExact 1 t = owns (c : Thread nD τ) (ms_1 m hO t) fullShare (wB m hO c t) from by
      unfold Dat.leavesExact; rw [show (cfgM m hO).idle 1 (grid0.coords t) = false from rfl]; try rfl]
  rw [show (dats m hO 0 c).leavesExact 2 t = owns (c : Thread nD τ) (ms_2 m hO t) fullShare (outB m hO c t) from by
      unfold Dat.leavesExact; rw [live_2 m hO hG t]; try rfl]
  refine BIBase.Entails.trans (sep_mono (Phi_pre m hO c t) .rfl) ?_
  rw [PhiT_eq]
  iintro ⟨⟨%d8, %hk, H8, Hg, T0, T1, T2⟩, Ho, ⟨%e0, H0⟩, ⟨%e1, H1⟩, ⟨%e2, H2⟩⟩
  have hv : wordAt (tbl m 1) (grid0.coords t) = 0#32 ∨ wordAt (tbl m 1) (grid0.coords t) = 1#32 := by
    rw [tbl_1]; exact hG.v _
  iapply (body_run c (grid0.coords t) (ms_0 m hO t) _ (ms_1 m hO t) _ (ms_2 m hO t) _ sc0 _ (tbl m 0) (tbl m 1) (tbl m 2)
    (xB m hO c t) (wB m hO c t) d8 hk hv Set.univ _)
  isplitl [H0]; · iexact H0
  isplitl [H1]; · iexact H1
  isplitl [H2]; · iexists _; iexact H2
  isplitl [H8]; · iexact H8
  isplitl [T0]; · iexact T0
  isplitl [T1]; · iexact T1
  isplitl [T2]; · iexact T2
  rw [show (if wordAt (tbl m 1) (grid0.coords t) = 1#32 then k0_pay2 (xB m hO c t) (k0_pay1 (wB m hO c t)) else k0_pay3) = outB m hO c t from by
    rw [tbl_1]; rfl]
  iintro ⟨H0, H1, H2, H8, T0, T1, T2⟩
  isplitl [H8 Hg T0 T1 T2]
  · isplitl [H8 Hg]
    · isplitl [H8]; · iexact H8
      iexact Hg
    isplitl [T0]; · iexact T0
    isplitl [T1]; · iexact T1
    iexact T2
  isplitl [Ho]; · iexact Ho
  isplitl [H0]; · iexact H0
  isplitl [H1]; · iexact H1
  iexact H2

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (hG : Good m) (c : Dev nD) : BodyObligation (dats (F := F) m hO 0 c) (defs₀ (F := F)) Variants.none () Set.univ := fun t => by
  rw [bigSep_W0, bigSep_W0, defs₀_row m hO]
  exact triple_restated (sound_body m hO hG c t) rfl .rfl fun _ => .rfl

/-! ## The run -/

theorem Phi_last (hO : Ok m) (c : Dev nD) : (dats m hO 0 c).Φ (Fin.last (cfgM m hO).N) ⊢ Pipeline.ΦA spec0 c := by
  rw [PhiA_eq]
  have h : 73 < (cfgM m hO).N := Nat.lt_of_lt_of_eq (by decide) N_0.symm
  rw [show (Fin.last (cfgM m hO).N) = Fin.succ ⟨73, h⟩ from Fin.ext N_0, Phi_succ]
  iintro ⟨⟨H8, Hg⟩, -⟩
  isplitl [H8]
  · iexists _; iexact H8
  iexact Hg

set_option backward.isDefEq.respectTransparency.types false in
/-- Every run ends with the arrays the proof data names and the counters at zero. -/
theorem run_main (hO : Ok m) (hG : Good m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hG c).loose) (hshare := fun c => (dats m hO 0 c).share_full fun _ => rfl)
    (howed := fun _ _ => rfl) (V := V m) (hmain := hmain m Variants.none) (hA := A_eq m hO) (hpf := V_pre m)
    (hin := fun _ => .rfl) (hout := fun c => Phi_last m hO c)

/-- What a run leaves: the arguments as they were, the output as the steps wrote it. -/
theorem run_post (hO : Ok m) (hG : Good m) : θ_run defs (onTc (τ := τ) (main (F := F))) ⟨m, fun _ => 0, ρ⟩ (fun r => (∀ c : Dev nD,
      r.2.mem ((c.tc : Thread nD τ).loc main_v6) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 2,
      ((h.1 c).1 0).trans (((dats m hO 0 c).arrAt_in 0 rfl _).trans ((A_eq m hO c 0).trans (V_arg0 m c))),
      ((h.1 c).1 1).trans (((dats m hO 0 c).arrAt_in 1 rfl _).trans ((A_eq m hO c 1).trans (V_arg1 m c))),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩, h.2⟩) (run_main m ρ hO hG)

/-- The frame: every run ends, with the arguments as they were and the counters at zero. -/
theorem frame_of_good (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_post m ρ (ok_of_good m hG) hG)

end Cert.MdK

end
-- ==== Proof.MdPre.lean ====
module

public import proofs.«01_k».proof.Proof.MdLaunch
public import proofs.«01_k».proof.Proof.MgPre
public import proofs.«01_k».proof.Proof.Gen.Pre_moe_down_tiles
public import proofs.«01_k».proof.Proof.Gen.MoeDown
public import proofs.«01_k».proof.Defs
public import Idealize.ShloMosaic.Lib.StableHlo.Predicate

@[expose] public section

set_option maxRecDepth 16384

/-! # The experts' down call: what the precondition says of the tables -/

noncomputable section

namespace Cert.MdP

open Idealize.ShloMosaic Idealize.ShloMosaic.TcCoe

variable {F : FTy → Type} [FloatOps F]

attribute [local instance] Cert.Pre_moe_down_tiles.Gen.facts in
/-- The precondition of the tables: experts 0 to 7, tiles marked 0 or 1. -/
theorem tables {s : FVec F Cert.MoeDownIdeal.S37888x3584 .bf16} {w : FVec F Cert.MoeDownIdeal.S8x3584x1024 .f32} {e v : IVec Cert.MoeDownIdeal.S74 32}
    (h : Cert.Pre_moe_down_tiles.fn (F := F) s w e v = fun _ => 1#1) (j : Fin 74) :
    (e (ix1 j)).toNat < 8 ∧ (v (ix1 j) = 0#32 ∨ v (ix1 j) = 1#32) := by
  have h := congrFun h (ix1 j)
  dsimp only [Cert.Pre_moe_down_tiles.fn] at h
  obtain ⟨h, h3⟩ := IntOp.andi_eq_one.mp h
  obtain ⟨h, h2⟩ := IntOp.andi_eq_one.mp h
  obtain ⟨h0, h1⟩ := IntOp.andi_eq_one.mp h
  exact ⟨Cert.MgP.expert_lt _ h0 h1, Cert.MgP.valid_or _ h2 h3⟩

/-- The ideal kernel's tables. -/
theorem good (m) (h : Pre_MoeDownIdeal (hPre_moe_down_tiles := Cert.Pre_moe_down_tiles.Gen.facts) m) : Cert.MdK.Good (F := Ideal) m :=
  ⟨fun j => (tables (h 0) j).1, fun j => (tables (h 0) j).2⟩

/-- Both programs' steps are the same. -/
theorem steps_eq : @Cert.MoeDown.defs₀ F _ _ = @Cert.MoeDownIdeal.defs₀ F _ _ := by
  unfold Cert.MoeDown.defs₀ Cert.MoeDownIdeal.defs₀
  refine congrArg Defs.onTc (funext fun x => ?_)
  funext a
  rcases x with ⟨_ | n, hx⟩
  · rfl
  · omega
theorem defs_eq : @Cert.MoeDown.defs F _ _ = @Cert.MoeDownIdeal.defs F _ _ := by
  show Pipeline.defs (@Cert.MoeDownIdeal.pcfgs F _ _) (@Cert.MoeDown.defs₀ F _ _) = Pipeline.defs (@Cert.MoeDownIdeal.pcfgs F _ _) (@Cert.MoeDownIdeal.defs₀ F _ _)
  exact congrArg (Pipeline.defs (@Cert.MoeDownIdeal.pcfgs F _ _)) steps_eq

/-- The experts' down call ends, its arguments unchanged and its counters at zero, over words. -/
theorem frame_bits : quiescent_MoeDown (hMoeDown := Cert.MoeDown.Gen.facts) (hPre_moe_down_tiles := Cert.Pre_moe_down_tiles.Gen.facts) :=
  fun m g h => by
    have f := Cert.MdK.frame_of_good (F := Bits) m g ⟨fun j => (tables (h 0) j).1, fun j => (tables (h 0) j).2⟩
    rw [← defs_eq] at f
    exact f

/-- The same over the extended reals. -/
theorem frame_ideal : quiescent_MoeDownIdeal (hMoeDownIdeal := Cert.MoeDownIdeal.Gen.facts) (hPre_moe_down_tiles := Cert.Pre_moe_down_tiles.Gen.facts) :=
  fun m g h => Cert.MdK.frame_of_good (F := Ideal) m g (good m h)

end Cert.MdP

end
-- ==== Proof.MdSpec.lean ====
module

public import proofs.«01_k».proof.Proof.MdLaunch
public import proofs.«01_k».proof.Proof.MgSpec
public import Idealize.ShloMosaic.Lib.Pipeline.ValueKit.Geometry

@[expose] public section

set_option maxRecDepth 16384

/-! # The experts' down call: the kernel's array -/

noncomputable section

namespace Cert.MdV

open Cert.MgV (tile expert)
open Cert.MoeDownIdeal Cert.MoeDownIdeal.Gen Cert.MdK
open Idealize.ShloMosaic Idealize.ShloMosaic.TcCoe Idealize.ShloMosaic.Tactic

section
variable (s : FVec Ideal S37888x3584 .bf16) (w : FVec Ideal S8x3584x1024 .f32) (e v : IVec S74 32)

/-- A row times a column of its expert's matrix, or zero where the row's tile holds no tokens. -/
def Down (r : Fin 37888) (d : Fin 1024) : EReal :=
  if v (ix1 (tile r)) = 1#32 then ∑ l : Fin 3584, s (ix2 r l) * w (ix3 (expert e r) l d) else 0
/-- The result. -/
def G : FVec Ideal S37888x1024 .f32 := fun y => Down s w e v (y 0) (y 1)
end

variable (m : (ℓ : Loc nD τ sig) → Buf (Elt Ideal) ℓ) (c : Dev nD)

/-- The row of the whole array at a row of step `t`'s block. -/
def row (t : Fin grid0.N) (a : Fin 512) : Fin 37888 := ⟨512 * (t.val % 74) + a, by omega⟩

theorem tile_row (t : Fin grid0.N) (a : Fin 512) : tile (row t a) = grid0.coords t 1 := by
  apply Fin.ext
  rw [coords_1]
  unfold tile row
  dsimp only
  omega

theorem flush_2 (hO : Ok m) (t : Fin (cfgM m hO).N) : ((cfgM m hO).win 2).flush t = true := by
  exact (Pipeline.Window.flushOf_reads cc0_transform_2 reads0_2 hreads0_2 1 (by decide) (by decide)
    (Pipeline.Window.sep_of_coord cc0_transform_2 1 0 (fun _ => rfl) (by decide)) (P := 1) (m := 0) (by decide) rfl t).mpr (Nat.mod_one _)

theorem x_at (hO : Ok m) (t : Fin (cfgM m hO).N) (a : Fin 512) (l : Fin 3584) :
    xB m hO c t (ix2 a l) = (m ((c : Thread nD τ).loc main_arg0) : FVec Ideal S37888x3584 .bf16) (ix2 (row t a) l) := by
  have h1 := coords_1 t
  have h2 : (grid0.coords t 1).val < 74 := (grid0.coords t 1).isLt
  rw [← V_arg0 m c]
  unfold xB iblk
  show (V m c main_arg0) ((((cfgM m hO).win 0).rect t).emb (ix2 a l)) = _
  refine congrArg (V m c main_arg0) (funext fun b => Fin.ext ?_)
  rw [Pipeline.Window.rect_emb_val ((cfgM m hO).win 0) t (ix2 a l) b rfl]
  match b with
  | ⟨0, _⟩ =>
    show (BitVec.ofNat 32 (grid0.coords t 1).val).toNat * 512 + a.val = 512 * (t.val % 74) + a.val
    rw [BitVec.toNat_ofNat, h1] at *
    omega
  | ⟨1, _⟩ =>
    show 0 * 3584 + l.val = l.val
    omega

theorem out_at (hO : Ok m) (t : Fin (cfgM m hO).N) (a : Fin 512) (d : Fin 1024) :
    (((cfgM m hO).win 2).blk t).view.emb (ix2 a d) = (ix2 (row t a) d : S37888x1024.Idx) := by
  have h1 := coords_1 t
  have h0 := coords_0 t
  show (((cfgM m hO).win 2).rect t).emb (ix2 a d) = _
  refine funext fun b => Fin.ext ?_
  rw [Pipeline.Window.rect_emb_val ((cfgM m hO).win 2) t (ix2 a d) b rfl]
  match b with
  | ⟨0, _⟩ =>
    show (BitVec.ofNat 32 (grid0.coords t 1).val).toNat * 512 + a.val = 512 * (t.val % 74) + a.val
    rw [BitVec.toNat_ofNat, h1]
    omega
  | ⟨1, _⟩ =>
    show (BitVec.ofNat 32 (grid0.coords t 0).val).toNat * 1024 + d.val = d.val
    rw [BitVec.toNat_ofNat, h0]
    omega

theorem w_at (hO : Ok m) (hG : Good m) (t : Fin (cfgM m hO).N) (a : Fin 512) (l : Fin 3584) (d : Fin 1024) :
    wB m hO c t (ix3 0 l d) = (m ((c : Thread nD τ).loc main_arg1) : FVec Ideal S8x3584x1024 .f32) (ix3 (expert (expOf m) (row t a)) l d) := by
  have h0 := coords_0 t
  have he := hG.e (grid0.coords t 1)
  rw [← V_arg1 m c]
  unfold wB iblk
  show (V m c main_arg1) ((((cfgM m hO).win 1).rect t).emb (ix3 0 l d)) = _
  refine congrArg (V m c main_arg1) (funext fun b => Fin.ext ?_)
  rw [Pipeline.Window.rect_emb_val ((cfgM m hO).win 1) t (ix3 0 l d) b rfl,
    show ((cfgM m hO).win 1).index t = ![(expOf m (ix1 (grid0.coords t 1))).toNat, 0, (grid0.coords t 0).val] from at1 m (grid0.coords t)]
  match b with
  | ⟨0, _⟩ =>
    show (expOf m (ix1 (grid0.coords t 1))).toNat * 1 + 0 = (expOf m (ix1 (tile (row t a)))).toNat % 8
    rw [tile_row]
    omega
  | ⟨1, _⟩ =>
    show 0 * 3584 + l.val = l.val
    omega
  | ⟨2, _⟩ =>
    show (grid0.coords t 0).val * 1024 + d.val = d.val
    rw [h0]
    omega

/-- What a step computes, at an entry. -/
theorem pay2_at (x : Vec Ideal S512x3584 .bf16) (w : Vec Ideal S1x3584x1024 .f32) (a : Fin 512) (d : Fin 1024) :
    k0_pay2 x (k0_pay1 w) (ix2 a d) = ∑ l, x (ix2 a l) * w (ix3 0 l d) := by
  pointwise [k0_pay2, k0_pay1]

theorem pay3_at (a : Fin 512) (d : Fin 1024) : k0_pay3 (F := Ideal) (ix2 a d) = (0 : EReal) := by
  pointwise [k0_pay3]

theorem idx_out (y : S512x1024.Idx) : ∃ (a : Fin 512) (d : Fin 1024), y = ix2 a d := ⟨y 0, y 1, ValueIdx.eq_ix2 y⟩
theorem idx_arr (y : S37888x1024.Idx) : ∃ (a : Fin 37888) (d : Fin 1024), y = ix2 a d := ⟨y 0, y 1, ValueIdx.eq_ix2 y⟩

/-- The kernel's array. -/
theorem kernel_arr (hO : Ok m) (hG : Good m) : (dats m hO 0 c).arrAt 2 (cfgM m hO).N
    = G (m ((c : Thread nD τ).loc main_arg0)) (m ((c : Thread nD τ).loc main_arg1)) (expOf m) (validOf m) := by
  refine (dats m hO 0 c).arrAt_eq_of_emb 2 _ (fun t hf y => ?_) (fun i => ?_)
  · obtain ⟨a, d, rfl⟩ : ∃ (a : Fin 512) (d : Fin 1024), y = ix2 a d := idx_out y
    rw [after_2, out_at]
    show outB m hO c t (ix2 a d) = _
    show _ = Down _ _ _ _ (row t a) d
    unfold outB Down
    rw [tile_row]
    unfold wordAt
    by_cases hv : validOf m (ix1 (grid0.coords t 1)) = 1#32
    · rw [if_pos hv, if_pos hv]
      refine (pay2_at _ _ a d).trans ?_
      simp only [x_at, w_at m c hO hG t a]
    · rw [if_neg hv, if_neg hv]
      exact pay3_at a d
  · obtain ⟨r, d, rfl⟩ : ∃ (r : Fin 37888) (d : Fin 1024), i = (ix2 r d : S37888x1024.Idx) := idx_arr i
    have hN : r.val / 512 < (cfgM m hO).N := Nat.lt_of_lt_of_eq (by omega) N_0.symm
    refine ⟨⟨_, hN⟩, flush_2 m hO _, ?_⟩
    have e := out_at m hO ⟨_, hN⟩ ⟨r.val % 512, by omega⟩ d
    rw [show (ix2 r d : S37888x1024.Idx) = ix2 (row ⟨_, hN⟩ ⟨r.val % 512, by omega⟩) d from
      congrArg₂ ix2 (Fin.ext (by show r.val = 512 * (r.val / 512 % 74) + r.val % 512; omega)) rfl, ← e]
    exact Finset.mem_map_of_mem _ (Finset.mem_univ _)

end Cert.MdV

end
-- ==== Proof.MdRef.lean ====
module

public import proofs.«01_k».proof.Proof.Gen.MoeDownRefIdeal.Run
public import proofs.«01_k».proof.Proof.MdSpec
public import proofs.«01_k».proof.Proof.MgRef

@[expose] public section

set_option maxRecDepth 16384

/-! # The experts' down call: the reference's array -/

noncomputable section

namespace Cert.MdR

open Idealize.ShloMosaic Cert.MoeDownRefIdeal Cert.MoeDownRefIdeal.Gen Cert.MdV
open Cert.MgV (tile expert)
open Cert.MgR (num num_at rowOf tile_rowOf)

/-- Matrices taken by number: entry `(j, l, f)` is entry `(l, f)` of the matrix numbered at `j`. -/
theorem take_at (w : FVec Ideal S8x3584x1024 .f32) (idx : IVec S74x1 32) (j : Fin 74) (l : Fin 3584) (f : Fin 1024) (h : (idx (ix2 j 0)).toNat < 8) :
    Host.gather gather_S8x3584x1024_S74x1_S74x3584x1024_12_0_n_n_0_1_135841024 w idx (ix3 j l f) = w (ix3 ⟨(idx (ix2 j 0)).toNat % 8, by omega⟩ l f) := by
  unfold Host.gather
  refine congrArg w (funext fun a => Fin.ext ?_)
  show GatherDims.start _ (ix3 j l f) idx a + GatherDims.batchCoord _ (ix3 j l f) a + GatherDims.offCoord _ (ix3 j l f) a = _
  have hi : (idx (ix2 j 0)).toInt.toNat = (idx (ix2 j 0)).toNat := by
    have := BitVec.toInt_eq_toNat_cond (idx (ix2 j 0))
    split at this <;> omega
  match a with
  | ⟨0, _⟩ =>
    show min (idx _).toInt.toNat (8 - 1) + 0 + 0 = (idx (ix2 j 0)).toNat % 8
    have hk (k) : GatherDims.siIdx gather_S8x3584x1024_S74x1_S74x3584x1024_12_0_n_n_0_1_135841024 (ix3 j l f) k = ix2 j 0 := by
      funext b
      apply Fin.ext
      match b with
      | ⟨0, _⟩ => rfl
      | ⟨1, _⟩ =>
        show k.val = 0
        exact Nat.lt_one_iff.mp k.isLt
    refine Eq.trans (congrArg (fun i => min (idx i).toInt.toNat (8 - 1) + 0 + 0) (hk _)) ?_
    omega
  | ⟨1, _⟩ =>
    show 0 + 0 + l.val = l.val
    omega
  | ⟨2, _⟩ =>
    show 0 + 0 + f.val = f.val
    omega

variable (s : FVec Ideal S37888x3584 .bf16) (w : FVec Ideal S8x3584x1024 .f32) (e v : IVec S74 32)

/-- Each tile's rows times its expert's matrix. -/
def prj : FVec Ideal S74x512x1024 .f32 :=
  Host.dotGeneral dot_S74x512x3584_S74x3584x1024_S74x512x1024_2_1_1_2_0_0 none (shapeCast _ (extf .f32 s bitsLt_bf16_f32) shapeCasts_S37888x3584_S74x512x3584) (Host.gather gather_S8x3584x1024_S74x1_S74x3584x1024_12_0_n_n_0_1_135841024 w (broadcastInDim S74x1 ![0] bcast_S74_S74x1_0 (num e)))

/-- The same, the tiles without tokens at zero. -/
def masked : FVec Ideal S74x512x1024 .f32 :=
  select (broadcastInDim S74x512x1024 ![0, 1, 2] bcast_S74x1x1_S74x512x1024_0_1_2 (cmpi .eq (broadcastInDim S74x1x1 ![0] bcast_S74_S74x1x1_0 v) (broadcastInDim S74x1x1 ![] bcast_S_S74x1x1 (constantI S_ 32 1#32)))) (prj s w e) (broadcastInDim S74x512x1024 ![] bcast_S_S74x512x1024 (id (constant S_ .f32 0x00000000#32)))

/-- The result. -/
def refA : FVec Ideal S37888x1024 .f32 := shapeCast _ (masked s w e v) shapeCasts_S74x512x1024_S37888x1024

theorem prj_at (he : ∀ j : Fin 74, (e (ix1 j)).toNat < 8) (j : Fin 74) (a : Fin 512) (d : Fin 1024) :
    prj s w e (ix3 j a d) = ∑ l : Fin 3584, s (ix2 (rowOf j a) l) * w (ix3 (expert e (rowOf j a)) l d) := by
  have hg (l : Fin 3584) : Host.gather gather_S8x3584x1024_S74x1_S74x3584x1024_12_0_n_n_0_1_135841024 w (broadcastInDim S74x1 ![0] bcast_S74_S74x1_0 (num e)) (ix3 j l d)
      = w (ix3 (expert e (rowOf j a)) l d) := by
    have hb : broadcastInDim S74x1 ![0] bcast_S74_S74x1_0 (num e) (ix2 j 0) = e (ix1 j) := by
      have : broadcastInDim S74x1 ![0] bcast_S74_S74x1_0 (num e) (ix2 j 0) = num e (ix1 j) := by pointwise
      rw [this, num_at e j (he j)]
    rw [take_at w _ j l d (by rw [hb]; exact he j)]
    refine congrArg w (congrArg (fun k => ix3 k l d) (Fin.ext ?_))
    show (broadcastInDim S74x1 ![0] bcast_S74_S74x1_0 (num e) (ix2 j 0)).toNat % 8 = (e (ix1 (tile (rowOf j a)))).toNat % 8
    rw [tile_rowOf, hb]
  have hs (l : Fin 3584) : shapeCast S74x512x3584 (extf .f32 s bitsLt_bf16_f32) shapeCasts_S37888x3584_S74x512x3584 (ix3 j a l) = s (ix2 (rowOf j a) l) := by
    unfold rowOf
    pointwise
  have : prj s w e (ix3 j a d) = ∑ l : Fin 3584, shapeCast S74x512x3584 (extf .f32 s bitsLt_bf16_f32) shapeCasts_S37888x3584_S74x512x3584 (ix3 j a l)
      * Host.gather gather_S8x3584x1024_S74x1_S74x3584x1024_12_0_n_n_0_1_135841024 w (broadcastInDim S74x1 ![0] bcast_S74_S74x1_0 (num e)) (ix3 j l d) := by
    unfold prj
    generalize shapeCast S74x512x3584 (extf .f32 s bitsLt_bf16_f32) shapeCasts_S37888x3584_S74x512x3584 = X
    generalize Host.gather gather_S8x3584x1024_S74x1_S74x3584x1024_12_0_n_n_0_1_135841024 w (broadcastInDim S74x1 ![0] bcast_S74_S74x1_0 (num e)) = Y
    pointwise
  rw [this]
  exact Finset.sum_congr rfl fun l _ => congrArg₂ (· * ·) (hs l) (hg l)

theorem masked_at (he : ∀ j : Fin 74, (e (ix1 j)).toNat < 8) (j : Fin 74) (a : Fin 512) (d : Fin 1024) : masked s w e v (ix3 j a d) = G s w e v (ix2 (rowOf j a) d) := by
  have hp := prj_at s w e he j a d
  show _ = Down s w e v (rowOf j a) d
  unfold masked Down
  generalize prj s w e = X at hp
  rw [tile_rowOf, ← hp]
  have hc : (broadcastInDim S74x512x1024 ![0, 1, 2] bcast_S74x1x1_S74x512x1024_0_1_2 (cmpi .eq (broadcastInDim S74x1x1 ![0] bcast_S74_S74x1x1_0 v) (broadcastInDim S74x1x1 ![] bcast_S_S74x1x1 (constantI S_ 32 1#32)))) (ix3 j a d)
      = BitVec.ofBool (v (ix1 j) == 1#32) := by
    pointwise
    rfl
  rw [ValueIdx.select_apply, hc]
  by_cases hv : v (ix1 j) = 1#32
  · rw [if_pos hv, hv]
    rfl
  · rw [if_neg hv, beq_eq_false_iff_ne.mpr hv, show BitVec.ofBool false = 0#1 from rfl, ValueIdx.select_zero, id]
    pointwise

/-- The reference's result is the kernel's. -/
theorem ref_eq (he : ∀ j : Fin 74, (e (ix1 j)).toNat < 8) : refA s w e v = G s w e v := by
  funext y
  obtain ⟨r, d, rfl⟩ : ∃ (r : Fin 37888) (d : Fin 1024), y = ix2 r d := ⟨y 0, y 1, ValueIdx.eq_ix2 y⟩
  have hr : r = rowOf (tile r) ⟨r.val % 512, by omega⟩ := Fin.ext (by unfold rowOf tile; dsimp only; omega)
  have h := masked_at s w e v he (tile r) ⟨r.val % 512, by omega⟩ d
  rw [← hr] at h
  rw [← h]
  unfold refA tile
  generalize masked s w e v = X
  pointwise

end Cert.MdR

end
-- ==== Proof.QsRun.lean ====
module

public import proofs.«01_k».proof.Proof.MgRun
public import proofs.«01_k».proof.Proof.Gen.QkvSampleIdeal.Frame
public import proofs.«01_k».proof.Proof.Gen.QkvSampleIdeal.Skeleton
public import Idealize.ShloMosaic.Lib.WritesUnit
public import Idealize.ShloMosaic.Lib.Pipeline.ReadBack
public import Idealize.ShloMosaic.Lib.Claim
public import Idealize.ShloMosaic.Lib.Pointwise

@[expose] public section

set_option maxRecDepth 16384

/-! # The sample tokens' projection call: the run of its steps -/

noncomputable section

namespace Cert.QsK

open Cert.QkvSampleIdeal Cert.QkvSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (F) in
/-- The resources the run is stated over. -/
abbrev Rs : Type := MT nD τ sig Unit (Elt F) ℕ (UR sig nD τ) ℕ

/-! ## What a step computes -/

/-- The left and the right half of the columns. -/
abbrev wl : Rect S1024x512 := Rect.unit (s := S1024x512) ![0, 0] S1024x256.size inb_S1024x512_S1024x256_0_0
abbrev wr : Rect S1024x512 := Rect.unit (s := S1024x512) ![0, 256] S1024x256.size inb_S1024x512_S1024x256_0_256
abbrev gl : Rect S1x512 := Rect.unit (s := S1x512) ![0, 0] S1x256.size inb_S1x512_S1x256_0_0
abbrev gr : Rect S1x512 := Rect.unit (s := S1x512) ![0, 256] S1x256.size inb_S1x512_S1x256_0_256
abbrev ol : Rect S512x512 := Rect.unit (s := S512x512) ![0, 0] S512x256.size inb_S512x512_S512x256_0_0
abbrev or' : Rect S512x512 := Rect.unit (s := S512x512) ![0, 256] S512x256.size inb_S512x512_S512x256_0_256

def wL (w : Vec F S1024x512 .f32) : Vec F S1024x256 .f32 := fun y => w (wl.emb y)
def wR (w : Vec F S1024x512 .f32) : Vec F S1024x256 .f32 := fun y => w (wr.emb y)
def gL (w : Vec F S1x512 .f32) : Vec F S1x256 .f32 := fun y => w (gl.emb y)
def gR (w : Vec F S1x512 .f32) : Vec F S1x256 .f32 := fun y => w (gr.emb y)

/-- Half a tile of the normed and turned projection. -/
def half (h : Vec F S512x1024 .bf16) (w : Vec F S1024x256 .f32) (b : Vec F S256x256 .bf16) (g : Vec F S1x256 .f32) (x y z : Vec F S512x128 .f32) : Vec F S512x256 .f32 :=
  k0_pay2 (k0_pay17 x) (k0_pay18 y) (k0_pay19 z) (k0_pay20 h w b g x y z) (k0_pay21 h w b g) 120#32

theorem half_left (h : Vec F S512x1024 .bf16) (w : Vec F S1024x256 .f32) (b : Vec F S256x256 .bf16) (g : Vec F S1x256 .f32) (x y z : Vec F S512x128 .f32) :
    k0_pay15 (k0_pay9 z) (k0_pay10 h w b g x y z) (k0_pay12 h w b g) (k0_pay13 h w b g x) (k0_pay14 h w b g y) = half h w b g x y z := rfl
theorem half_left' (h : Vec F S512x1024 .bf16) (w : Vec F S1024x256 .f32) (b : Vec F S256x256 .bf16) (g : Vec F S1x256 .f32) (x y z : Vec F S512x128 .f32) :
    k0_pay31 (k0_pay25 z) (k0_pay26 h w b g x y z) (k0_pay28 h w b g) (k0_pay29 h w b g x) (k0_pay30 h w b g y) = half h w b g x y z := rfl
theorem half_right (h : Vec F S512x1024 .bf16) (w : Vec F S1024x256 .f32) (b : Vec F S256x256 .bf16) (g : Vec F S1x256 .f32) (x y z : Vec F S512x128 .f32) :
    k0_pay2 (k0_pay17 x) (k0_pay18 y) (k0_pay19 z) (k0_pay20 h w b g x y z) (k0_pay21 h w b g) 120#32 = half h w b g x y z := rfl
theorem half_right' (h : Vec F S512x1024 .bf16) (w : Vec F S1024x256 .f32) (b : Vec F S256x256 .bf16) (g : Vec F S1x256 .f32) (x y z : Vec F S512x128 .f32) :
    k0_pay3 (k0_pay33 x) (k0_pay34 y) (k0_pay35 z) (k0_pay36 h w b g x y z) (k0_pay37 h w b g) 120#32 = half h w b g x y z := rfl

/-- Two halves side by side. -/
def two (a b : Vec F S512x256 .f32) : Vec F S512x512 .f32 := fun y =>
  if h : (y 1).val < 256 then a (ix2 (y 0) ⟨(y 1).val, h⟩) else b (ix2 (y 0) ⟨(y 1).val - 256, by have : (y 1).val < 512 := (y 1).isLt; omega⟩)

/-- A tile of the queries or the keys, and of the values. -/
def tileN (h : Vec F S512x1024 .bf16) (w : Vec F S1024x512 .f32) (b : Vec F S256x256 .bf16) (g : Vec F S1x512 .f32) (x y z : Vec F S512x128 .f32) : Vec F S512x512 .f32 :=
  two (half h (wL w) b (gL g) x y z) (half h (wR w) b (gR g) x y z)
def tileV (h : Vec F S512x1024 .bf16) (w : Vec F S1024x512 .f32) : Vec F S512x512 .f32 := two (k0_pay4 h (wL w)) (k0_pay5 h (wR w))

/-- What's read where two halves were stored. -/
theorem read_two {sp : Space} (v : View sig .tc sp S512x512 .f32) (f : v.ty.Contents (Elt F)) (a b : Vec F S512x256 .f32) :
    v.read (Elt F) (v.writes (Elt F) f [⟨or', b⟩, ⟨ol, a⟩]) = two a b := by
  funext y
  have h1 : (y 1).val < 512 := (y 1).isLt
  unfold two
  by_cases h : (y 1).val < 256
  · rw [dif_pos h]
    refine (View.read_writes_cons_unit_of_not_mem v f _ b _ y rfl (1 : Fin 2) (Or.inl h)).trans
      (View.read_writes_cons_unit_of_mem v f _ a _ y (ix2 (y 0) ⟨(y 1).val, h⟩) rfl fun k => ?_)
    match k with
    | ⟨0, _⟩ => exact (Nat.zero_add _).symm
    | ⟨1, _⟩ => exact (Nat.zero_add _).symm
  · rw [dif_neg h]
    refine (View.read_writes_cons_unit_of_mem v f _ b _ y (ix2 (y 0) ⟨(y 1).val - 256, by omega⟩) rfl fun k => ?_)
    match k with
    | ⟨0, _⟩ => exact (Nat.zero_add _).symm
    | ⟨1, _⟩ => show (y 1).val = 256 + ((y 1).val - 256); omega

/-- A load of a whole buffer, and of a part. -/
theorem ld {s : Shape} {e : EltTy} (off : Fin s.rank → ℕ) (h0 : ∀ a, off a = 0) (inb : ∀ a, off a + s.size a ≤ s.size a)
    {M : Memref sig .tc .vmem s e} (hM : M.IsWhole) (w : s.Idx → Elt F e) :
    M.view.readAt (Elt F) (Rect.unit off s.size inb).toLoadRect (hM.unread w) = w :=
  (MgK.load_full M.view off h0 inb _).trans (hM.read_unread _)
theorem ldp {s : Shape} {e : EltTy} (r : Rect s) {M : Memref sig .tc .vmem s e} (hM : M.IsWhole) (w : s.Idx → Elt F e) :
    M.view.readAt (Elt F) r.toLoadRect (hM.unread w) = fun y => w (r.emb y) :=
  funext fun y => congrFun (hM.read_unread w) (r.emb y)

/-! ## The conditions on the step -/

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 6 = 0 :=
  (by decide +kernel : ∀ t : Fin grid0.N, cond0 (grid0.coords t) ↔ t.val % 6 = 0)
theorem hcond1 : ∀ t : Fin cfg0.N, k0_cond2 (grid0.coords t) = 1#1 ↔ t.val % 6 < 2 :=
  (by decide +kernel : ∀ t : Fin grid0.N, k0_cond2 (grid0.coords t) = 1#1 ↔ t.val % 6 < 2)
theorem hcond2 : ∀ t : Fin cfg0.N, k0_cond3 (grid0.coords t) = 1#1 ↔ (2 ≤ t.val % 6 ∧ t.val % 6 < 4) :=
  (by decide +kernel : ∀ t : Fin grid0.N, k0_cond3 (grid0.coords t) = 1#1 ↔ (2 ≤ t.val % 6 ∧ t.val % 6 < 4))
theorem hcond3 : ∀ t : Fin cfg0.N, k0_cond4 (grid0.coords t) = 1#1 ↔ 4 ≤ t.val % 6 :=
  (by decide +kernel : ∀ t : Fin grid0.N, k0_cond4 (grid0.coords t) = 1#1 ↔ 4 ≤ t.val % 6)

/-! ## The steps -/

set_option maxHeartbeats 2000000 in
/-- The first step of a row of tiles: the queries' first tile, from the tokens normed there. -/
theorem run_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S256x256 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .bf16) (harg13 : arg13.IsWhole)
    (hc0 : cond0 i) (hc1 : k0_cond2 i = 1#1) (hc2 : ¬k0_cond3 i = 1#1) (hc3 : ¬k0_cond4 i = 1#1)
    (x0 : Vec F S512x1024 .f32) (x1 : Vec F S1x1024 .f32) (x2 : Vec F S1024x512 .f32) (x3 : Vec F S1x512 .f32) (x4 x5 x6 : Vec F S512x128 .f32) (x7 : Vec F S256x256 .bf16)
    (d8 d9 d10 : Vec F S512x512 .f32) (h : Vec F S512x1024 .bf16) (E : Set ℕ) (K : PUnit → sProp (Rs F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileN (k0_pay1 x0 x1) x2 x7 x3 x4 x5 x6) ∗ owns (c : Thread nD τ) arg11 fullShare d9 ∗ owns (c : Thread nD τ) arg12 fullShare d10 ∗ owns (c : Thread nD τ) arg13 fullShare (k0_pay1 x0 x1)) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K := by
  simp only [cc0_norm_proj_eq_skeleton]; unfold cc0_norm_proj_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro
    refine (read_two _ _ _ _).trans ?_
    unfold run_A.sl.r run_A.sl.r_1 run_A.sl.r_2 run_A.sl.r_3 run_A.sl.r_4 run_A.sl.r_5 run_A.sl.r_6 run_A.sl.r_7 run_A.sl.r_8 run_A.sl.r_9 run_A.sl.v18 run_A.sl.H13_1
    simp only [ld (s := S512x1024) ![0, 0] MgK.zero2, ld (s := S1x1024) ![0, 0] MgK.zero2, ld (s := S512x128) ![0, 0] MgK.zero2, ld (s := S256x256) ![0, 0] MgK.zero2, View.readCov_cons_toLoadRect, ldp wl, ldp wr, ldp gl, ldp gr]
    rfl
  isplitl [H11]
  · iexists _; isplitr; swap; · iexact H11
    ipureintro; exact harg11.read_unread _
  isplitl [H12]
  · iexists _; isplitr; swap; · iexact H12
    ipureintro; exact harg12.read_unread _
  iexists _; isplitr; swap; · iexact H13
  ipureintro
  refine (MgK.read_full _ _ MgK.zero2 _ _ _ _).trans ?_
  simp only [ld (s := S512x1024) ![0, 0] MgK.zero2, ld (s := S1x1024) ![0, 0] MgK.zero2, ld (s := S512x128) ![0, 0] MgK.zero2, ld (s := S256x256) ![0, 0] MgK.zero2, View.readCov_cons_toLoadRect, ldp wl, ldp wr, ldp gl, ldp gr]

set_option maxHeartbeats 2000000 in
/-- The queries' other tile. -/
theorem run_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S256x256 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .bf16) (harg13 : arg13.IsWhole)
    (hc0 : ¬cond0 i) (hc1 : k0_cond2 i = 1#1) (hc2 : ¬k0_cond3 i = 1#1) (hc3 : ¬k0_cond4 i = 1#1)
    (x0 : Vec F S512x1024 .f32) (x1 : Vec F S1x1024 .f32) (x2 : Vec F S1024x512 .f32) (x3 : Vec F S1x512 .f32) (x4 x5 x6 : Vec F S512x128 .f32) (x7 : Vec F S256x256 .bf16)
    (d8 d9 d10 : Vec F S512x512 .f32) (h : Vec F S512x1024 .bf16) (E : Set ℕ) (K : PUnit → sProp (Rs F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileN h x2 x7 x3 x4 x5 x6) ∗ owns (c : Thread nD τ) arg11 fullShare d9 ∗ owns (c : Thread nD τ) arg12 fullShare d10 ∗ owns (c : Thread nD τ) arg13 fullShare h) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K := by
  simp only [cc0_norm_proj_eq_skeleton]; unfold cc0_norm_proj_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro
    refine (read_two _ _ _ _).trans ?_
    unfold run_B.sl.r_1 run_B.sl.r_2 run_B.sl.r_3 run_B.sl.r_4 run_B.sl.r_5 run_B.sl.r_6 run_B.sl.r_7 run_B.sl.r_8 run_B.sl.r_9 run_B.sl.r_10
    try unfold run_B.sl.r
    simp only [ld (s := S512x1024) ![0, 0] MgK.zero2, ld (s := S1x1024) ![0, 0] MgK.zero2, ld (s := S512x128) ![0, 0] MgK.zero2, ld (s := S256x256) ![0, 0] MgK.zero2, View.readCov_cons_toLoadRect, ldp wl, ldp wr, ldp gl, ldp gr]
    rfl
  isplitl [H11]
  · iexists _; isplitr; swap; · iexact H11
    ipureintro; exact harg11.read_unread _
  isplitl [H12]
  · iexists _; isplitr; swap; · iexact H12
    ipureintro; exact harg12.read_unread _
  iexists _; isplitr; swap; · iexact H13
  ipureintro; exact harg13.read_unread _

set_option maxHeartbeats 2000000 in
/-- A step of the keys. -/
theorem run_C (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S256x256 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .bf16) (harg13 : arg13.IsWhole)
    (hc0 : ¬cond0 i) (hc1 : ¬k0_cond2 i = 1#1) (hc2 : k0_cond3 i = 1#1) (hc3 : ¬k0_cond4 i = 1#1)
    (x0 : Vec F S512x1024 .f32) (x1 : Vec F S1x1024 .f32) (x2 : Vec F S1024x512 .f32) (x3 : Vec F S1x512 .f32) (x4 x5 x6 : Vec F S512x128 .f32) (x7 : Vec F S256x256 .bf16)
    (d8 d9 d10 : Vec F S512x512 .f32) (h : Vec F S512x1024 .bf16) (E : Set ℕ) (K : PUnit → sProp (Rs F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (tileN h x2 x7 x3 x4 x5 x6) ∗ owns (c : Thread nD τ) arg12 fullShare d10 ∗ owns (c : Thread nD τ) arg13 fullShare h) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K := by
  simp only [cc0_norm_proj_eq_skeleton]; unfold cc0_norm_proj_skel
  simp only [k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro
    refine (read_two _ _ _ _).trans ?_
    unfold run_C.sl.r_1 run_C.sl.r_2 run_C.sl.r_3 run_C.sl.r_4 run_C.sl.r_5 run_C.sl.r_6 run_C.sl.r_7 run_C.sl.r_8 run_C.sl.r_9 run_C.sl.r_10
    try unfold run_C.sl.r
    simp only [ld (s := S512x1024) ![0, 0] MgK.zero2, ld (s := S1x1024) ![0, 0] MgK.zero2, ld (s := S512x128) ![0, 0] MgK.zero2, ld (s := S256x256) ![0, 0] MgK.zero2, View.readCov_cons_toLoadRect, ldp wl, ldp wr, ldp gl, ldp gr]
    rfl
  isplitl [H12]
  · iexists _; isplitr; swap; · iexact H12
    ipureintro; exact harg12.read_unread _
  iexists _; isplitr; swap; · iexact H13
  ipureintro; exact harg13.read_unread _

set_option maxHeartbeats 2000000 in
/-- A step of the values. -/
theorem run_D (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S256x256 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .bf16) (harg13 : arg13.IsWhole)
    (hc0 : ¬cond0 i) (hc1 : ¬k0_cond2 i = 1#1) (hc2 : ¬k0_cond3 i = 1#1) (hc3 : k0_cond4 i = 1#1)
    (x0 : Vec F S512x1024 .f32) (x1 : Vec F S1x1024 .f32) (x2 : Vec F S1024x512 .f32) (x3 : Vec F S1x512 .f32) (x4 x5 x6 : Vec F S512x128 .f32) (x7 : Vec F S256x256 .bf16)
    (d8 d9 d10 : Vec F S512x512 .f32) (h : Vec F S512x1024 .bf16) (E : Set ℕ) (K : PUnit → sProp (Rs F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare d10 ∗ owns (c : Thread nD τ) arg13 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare (tileV h x2) ∗ owns (c : Thread nD τ) arg13 fullShare h) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11 arg12 harg12 arg13 harg13) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    refine (read_two _ _ _ _).trans ?_
    simp only [ld (s := S512x1024) ![0, 0] MgK.zero2, ld (s := S1x1024) ![0, 0] MgK.zero2, ld (s := S512x128) ![0, 0] MgK.zero2, ld (s := S256x256) ![0, 0] MgK.zero2, View.readCov_cons_toLoadRect, ldp wl, ldp wr, ldp gl, ldp gr]
    rfl
  iexists _; isplitr; swap; · iexact H13
  ipureintro; exact harg13.read_unread _

end Cert.QsK

end
-- ==== Proof.QsLaunch.lean ====
module

public import proofs.«01_k».proof.Proof.QsRun

@[expose] public section

set_option maxRecDepth 16384

/-! # The sample tokens' projection call: the launch -/

noncomputable section

namespace Cert.QsK

open Cert.QkvSampleIdeal Cert.QkvSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev sc0 : Memref sig .tc .vmem S512x1024 .bf16 := Memref.whole cc0_scratch0
theorem PhiA_eq (c : Dev nD) :
    (Pipeline.ΦA spec0 c : sProp (Rs F)) = iprop(iprop((∃ d, owns (c : Thread nD τ) sc0 fullShare d)) ∗ (∃ r, prngReg c r)) := by
  unfold Pipeline.ΦA; rw [scopedRest0_eq]; simp only [sc0, owns_whole]; try rfl

/-! ## The proof data -/

theorem N_6 : cfg0.N = 6 := N_0

/-- A step of the same row of tiles. -/
def sib (t : Fin cfg0.N) (j : Fin 6) : Fin cfg0.N := ⟨6 * (t.val / 6) + j.val, by
  have h := t.isLt; have hN : cfg0.N = 6 := N_0; have hj := j.isLt; omega⟩

/-- The tokens normed, -/
def hB (c : Dev nD) (t : Fin cfg0.N) : Vec F S512x1024 .bf16 := k0_pay1 (iblk m c 0 t) (iblk m c 1 t)
/-- a step's tile of the queries or the keys, -/
def tN (c : Dev nD) (t : Fin cfg0.N) : Vec F S512x512 .f32 :=
  tileN (hB m c t) (iblk m c 2 t) (iblk m c 7 t) (iblk m c 3 t) (iblk m c 4 t) (iblk m c 5 t) (iblk m c 6 t)
/-- and of the values. -/
def tV (c : Dev nD) (t : Fin cfg0.N) : Vec F S512x512 .f32 := tileV (hB m c t) (iblk m c 2 t)
/-- What the queries' and the keys' buffers hold after a step. -/
def oQ (c : Dev nD) (t : Fin cfg0.N) : Vec F S512x512 .f32 := if t.val % 6 < 2 then tN m c t else tN m c (sib t 1)
def oK (c : Dev nD) (t : Fin cfg0.N) : Vec F S512x512 .f32 := if t.val % 6 < 4 then tN m c t else tN m c (sib t 3)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oQ m c t
    | ⟨9, _⟩ => oK m c t
    | ⟨10, _⟩ => tV m c t
    | ⟨_ + 11, h⟩ => absurd h (Nat.not_lt.2 (Nat.le_add_left _ _))
  Φ t := match t with
    | ⟨0, _⟩ => Pipeline.ΦA spec0 c
    | ⟨n + 1, h⟩ => iprop(iprop(owns (c : Thread nD τ) sc0 fullShare (hB m c ⟨n, Nat.lt_of_succ_lt_succ h⟩)) ∗ (∃ r, prngReg c r))
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = oQ m c t := by dsimp only [dats]
theorem after_9 (c : Dev nD) (t : Fin cfg0.N) : (dats m 0 c).after 9 t = oK m c t := by dsimp only [dats]
theorem after_10 (c : Dev nD) (t : Fin cfg0.N) : (dats m 0 c).after 10 t = tV m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem idle_8 : ∀ t : Fin cfg0.N, cfg0.idle 8 (grid0.coords t) = decide (2 ≤ t.val % 6) :=
  (by decide +kernel : ∀ t : Fin grid0.N, cfg0.idle 8 (grid0.coords t) = decide (2 ≤ t.val % 6))
theorem idle_9 : ∀ t : Fin cfg0.N, cfg0.idle 9 (grid0.coords t) = decide (t.val % 6 < 2 ∨ 4 ≤ t.val % 6) :=
  (by decide +kernel : ∀ t : Fin grid0.N, cfg0.idle 9 (grid0.coords t) = decide (t.val % 6 < 2 ∨ 4 ≤ t.val % 6))
theorem idle_10 : ∀ t : Fin cfg0.N, cfg0.idle 10 (grid0.coords t) = decide (t.val % 6 < 4) :=
  (by decide +kernel : ∀ t : Fin grid0.N, cfg0.idle 10 (grid0.coords t) = decide (t.val % 6 < 4))
theorem flush_8 : ∀ t : Fin cfg0.N, (cfg0.win 8).flush t = decide (t.val % 6 = 0 ∨ t.val % 6 = 5) :=
  (by decide +kernel : ∀ t : Fin grid0.N, win0_8.flush t = decide (t.val % 6 = 0 ∨ t.val % 6 = 5))
theorem flush_9 : ∀ t : Fin cfg0.N, (cfg0.win 9).flush t = decide (t.val % 6 = 2 ∨ t.val % 6 = 5) :=
  (by decide +kernel : ∀ t : Fin grid0.N, win0_9.flush t = decide (t.val % 6 = 2 ∨ t.val % 6 = 5))
theorem flush_10 : ∀ t : Fin cfg0.N, (cfg0.win 10).flush t = decide (t.val % 6 = 4 ∨ t.val % 6 = 5) :=
  (by decide +kernel : ∀ t : Fin grid0.N, win0_10.flush t = decide (t.val % 6 = 4 ∨ t.val % 6 = 5))
theorem fetch_8 (t : Fin cfg0.N) : (cfg0.win 8).fetch t = false := rfl
theorem fetch_9 (t : Fin cfg0.N) : (cfg0.win 9).fetch t = false := rfl

/-- The step before. -/
abbrev prev (t : Fin cfg0.N) : Fin cfg0.N := ⟨t.val - 1, Nat.lt_of_le_of_lt (Nat.sub_le _ _) t.isLt⟩

theorem sib_prev (t : Fin cfg0.N) (j : Fin 6) (h : t.val % 6 ≠ 0) : sib (prev t) j = sib t j :=
  Fin.ext (by show 6 * ((t.val - 1) / 6) + j.val = 6 * (t.val / 6) + j.val; omega)

/-- The queries' buffer keeps the second tile through the steps after it. -/
theorem keep_8 (c : Dev nD) : ∀ n, ∀ t : Fin cfg0.N, t.val % 6 = n + 2 → ∀ d, (dats m 0 c).before 8 t d = oQ m c t
  | 0, t, h, d => by
    rw [(dats m 0 c).before_of_pos 8 t (by omega) (fetch_8 t) d, flush_8,
      show decide ((t.val - 1) % 6 = 0 ∨ (t.val - 1) % 6 = 5) = false from decide_eq_false (by omega), if_neg Bool.false_ne_true]
    unfold Dat.left
    rw [show cfg0.idle 8 (cfg0.grid.coords (prev t)) = false from (idle_8 (prev t)).trans (decide_eq_false (by show ¬ 2 ≤ (t.val - 1) % 6; omega))]
    show (dats m 0 c).after 8 (prev t) = _
    rw [after_8]
    unfold oQ
    rw [if_pos (show (t.val - 1) % 6 < 2 by omega), if_neg (by omega)]
    congr 1
    exact Fin.ext (by show t.val - 1 = 6 * (t.val / 6) + 1; omega)
  | n + 1, t, h, d => by
    have h6 : t.val % 6 < 6 := Nat.mod_lt _ (by decide)
    rw [(dats m 0 c).before_of_pos 8 t (by omega) (fetch_8 t) d, flush_8,
      show decide ((t.val - 1) % 6 = 0 ∨ (t.val - 1) % 6 = 5) = false from decide_eq_false (by omega), if_neg Bool.false_ne_true]
    unfold Dat.left
    rw [show cfg0.idle 8 (cfg0.grid.coords (prev t)) = true from (idle_8 (prev t)).trans (decide_eq_true (by show 2 ≤ (t.val - 1) % 6; omega))]
    show (dats m 0 c).before 8 (prev t) d = _
    rw [keep_8 c n (prev t) (by show (t.val - 1) % 6 = n + 2; omega) d]
    unfold oQ
    rw [if_neg (show ¬ (t.val - 1) % 6 < 2 by omega), if_neg (by omega), sib_prev t 1 (by omega)]

/-- The keys' buffer keeps its second tile through the steps after it. -/
theorem keep_9 (c : Dev nD) : ∀ n, ∀ t : Fin cfg0.N, t.val % 6 = n + 4 → ∀ d, (dats m 0 c).before 9 t d = oK m c t
  | 0, t, h, d => by
    rw [(dats m 0 c).before_of_pos 9 t (by omega) (fetch_9 t) d, flush_9,
      show decide ((t.val - 1) % 6 = 2 ∨ (t.val - 1) % 6 = 5) = false from decide_eq_false (by omega), if_neg Bool.false_ne_true]
    unfold Dat.left
    rw [show cfg0.idle 9 (cfg0.grid.coords (prev t)) = false from (idle_9 (prev t)).trans (decide_eq_false (by show ¬ ((t.val - 1) % 6 < 2 ∨ 4 ≤ (t.val - 1) % 6); omega))]
    show (dats m 0 c).after 9 (prev t) = _
    rw [after_9]
    unfold oK
    rw [if_pos (show (t.val - 1) % 6 < 4 by omega), if_neg (by omega)]
    congr 1
    exact Fin.ext (by show t.val - 1 = 6 * (t.val / 6) + 3; omega)
  | n + 1, t, h, d => by
    have h6 : t.val % 6 < 6 := Nat.mod_lt _ (by decide)
    rw [(dats m 0 c).before_of_pos 9 t (by omega) (fetch_9 t) d, flush_9,
      show decide ((t.val - 1) % 6 = 2 ∨ (t.val - 1) % 6 = 5) = false from decide_eq_false (by omega), if_neg Bool.false_ne_true]
    unfold Dat.left
    rw [show cfg0.idle 9 (cfg0.grid.coords (prev t)) = true from (idle_9 (prev t)).trans (decide_eq_true (by show (t.val - 1) % 6 < 2 ∨ 4 ≤ (t.val - 1) % 6; omega))]
    show (dats m 0 c).before 9 (prev t) d = _
    rw [keep_9 c n (prev t) (by show (t.val - 1) % 6 = n + 4; omega) d]
    unfold oK
    rw [if_neg (show ¬ (t.val - 1) % 6 < 4 by omega), if_neg (by omega), sib_prev t 3 (by omega)]

abbrev ms_8 (t : Fin cfg0.N) : Memref sig .tc .vmem S512x512 .f32 := win0_8.stage (cfg0.slots t 8)
abbrev ms_9 (t : Fin cfg0.N) : Memref sig .tc .vmem S512x512 .f32 := win0_9.stage (cfg0.slots t 9)
abbrev ms_10 (t : Fin cfg0.N) : Memref sig .tc .vmem S512x512 .f32 := win0_10.stage (cfg0.slots t 10)

/-- A buffer a step leaves alone is left as the proof data says. -/
theorem pass_8 (c : Dev nD) (t : Fin cfg0.N) (h : 2 ≤ t.val % 6) (d) :
    owns (c : Thread nD τ) (ms_8 t) fullShare ((dats m 0 c).before 8 t d) ⊢ ((dats m 0 c).leavesExact 8 t : sProp (Rs F)) := by
  by_cases hf : t.val % 6 = 5
  · rw [keep_8 m c (t.val % 6 - 2) t (by omega) d]
    unfold Dat.leavesExact
    rw [show cfg0.idle 8 (cfg0.grid.coords t) = true from (idle_8 t).trans (decide_eq_true h), flush_8 t, decide_eq_true (Or.inr hf)]
    dsimp only
    rw [after_8]
  · rw [(dats m 0 c).leavesExact_idle 8 t ((idle_8 t).trans (decide_eq_true h)) ((flush_8 t).trans (decide_eq_false (by omega)))]
    iintro H
    iexists d; iexact H
theorem pass_9 (c : Dev nD) (t : Fin cfg0.N) (h : t.val % 6 < 2 ∨ 4 ≤ t.val % 6) (d) :
    owns (c : Thread nD τ) (ms_9 t) fullShare ((dats m 0 c).before 9 t d) ⊢ ((dats m 0 c).leavesExact 9 t : sProp (Rs F)) := by
  by_cases hf : t.val % 6 = 5
  · rw [keep_9 m c (t.val % 6 - 4) t (by omega) d]
    unfold Dat.leavesExact
    rw [show cfg0.idle 9 (cfg0.grid.coords t) = true from (idle_9 t).trans (decide_eq_true h), flush_9 t, decide_eq_true (Or.inr hf)]
    dsimp only
    rw [after_9]
  · rw [(dats m 0 c).leavesExact_idle 9 t ((idle_9 t).trans (decide_eq_true h)) ((flush_9 t).trans (decide_eq_false (by omega)))]
    iintro H
    iexists d; iexact H
theorem pass_10 (c : Dev nD) (t : Fin cfg0.N) (h : t.val % 6 < 4) (d) :
    owns (c : Thread nD τ) (ms_10 t) fullShare ((dats m 0 c).before 10 t d) ⊢ ((dats m 0 c).leavesExact 10 t : sProp (Rs F)) := by
  rw [(dats m 0 c).leavesExact_idle 10 t ((idle_10 t).trans (decide_eq_true h)) ((flush_10 t).trans (decide_eq_false (by omega)))]
  iintro H
  iexists d; iexact H
/-- A buffer a step fills is left with the step's tile. -/
theorem live_8 (c : Dev nD) (t : Fin cfg0.N) (h : t.val % 6 < 2) :
    owns (c : Thread nD τ) (ms_8 t) fullShare (tN m c t) ⊢ ((dats m 0 c).leavesExact 8 t : sProp (Rs F)) := by
  unfold Dat.leavesExact
  rw [show cfg0.idle 8 (cfg0.grid.coords t) = false from (idle_8 t).trans (decide_eq_false (by omega))]
  dsimp only
  rw [after_8]; unfold oQ; rw [if_pos h]
theorem live_9 (c : Dev nD) (t : Fin cfg0.N) (h : 2 ≤ t.val % 6 ∧ t.val % 6 < 4) :
    owns (c : Thread nD τ) (ms_9 t) fullShare (tN m c t) ⊢ ((dats m 0 c).leavesExact 9 t : sProp (Rs F)) := by
  unfold Dat.leavesExact
  rw [show cfg0.idle 9 (cfg0.grid.coords t) = false from (idle_9 t).trans (decide_eq_false (by omega))]
  dsimp only
  rw [after_9]; unfold oK; rw [if_pos h.2]
theorem live_10 (c : Dev nD) (t : Fin cfg0.N) (h : 4 ≤ t.val % 6) :
    owns (c : Thread nD τ) (ms_10 t) fullShare (tV m c t) ⊢ ((dats m 0 c).leavesExact 10 t : sProp (Rs F)) := by
  unfold Dat.leavesExact
  rw [show cfg0.idle 10 (cfg0.grid.coords t) = false from (idle_10 t).trans (decide_eq_false (by omega))]
  dsimp only
  rw [after_10]

/-! ## The steps -/

theorem same_h (c : Dev nD) (n : ℕ) (h : n + 1 < cfg0.N) (hn : (n + 1) % 6 ≠ 0) :
    hB m c ⟨n, Nat.lt_of_succ_lt h⟩ = hB m c ⟨n + 1, h⟩ := by
  have f0 (t : Fin cfg0.N) (d) : (dats m 0 c).fetched 0 t d = iblk m c 0 t := by
    unfold Dat.fetched Dat.blockOf iblk; rw [A_eq]; try rfl
  have f1 (t : Fin cfg0.N) (d) : (dats m 0 c).fetched 1 t d = iblk m c 1 t := by
    unfold Dat.fetched Dat.blockOf iblk; rw [A_eq]; try rfl
  have hN : cfg0.N = 6 := N_0
  have e0 : grid0.coords ⟨n, Nat.lt_of_succ_lt h⟩ 0 = grid0.coords ⟨n + 1, h⟩ 0 :=
    Fin.ext ((Pipeline.Grid.coords_val _ 0 (by decide) rfl).trans ((show n / 6 % 1 = (n + 1) / 6 % 1 by omega).trans (Pipeline.Grid.coords_val ⟨n + 1, h⟩ 0 (by decide) rfl).symm))
  have i0 : (cfg0.win 0).index ⟨n, Nat.lt_of_succ_lt h⟩ = (cfg0.win 0).index ⟨n + 1, h⟩ := by
    show (![(BitVec.ofNat 32 (grid0.coords _ 0).val).toNat, 0] : Fin 2 → ℕ) = ![(BitVec.ofNat 32 (grid0.coords _ 0).val).toNat, 0]
    rw [e0]
  have d0 : (cfg0.win 0).block.Idx → Elt F (cfg0.win 0).elt := fun _ => Classical.arbitrary _
  have d1 : (cfg0.win 1).block.Idx → Elt F (cfg0.win 1).elt := fun _ => Classical.arbitrary _
  unfold hB
  exact congrArg₂ k0_pay1 ((f0 _ d0).symm.trans (((dats m 0 c).fetched_congr 0 i0 rfl d0).trans (f0 _ d0)))
    ((f1 _ d1).symm.trans (((dats m 0 c).fetched_congr 1 rfl rfl d1).trans (f1 _ d1)))

/-- What a step finds in the scratch. -/
theorem Phi_pre (c : Dev nD) (t : Fin cfg0.N) :
    (dats m 0 c).Φ t.castSucc ⊢ (iprop(∃ d, ⌜t.val % 6 ≠ 0 → d = hB m c t⌝ ∗ owns (c : Thread nD τ) sc0 fullShare d ∗ (∃ r, prngReg c r)) : sProp (Rs F)) := by
  obtain ⟨n, h⟩ := t
  cases n with
  | zero =>
    rw [show (dats m 0 c).Φ (Fin.castSucc ⟨0, h⟩) = Pipeline.ΦA spec0 c from rfl, PhiA_eq]
    iintro ⟨⟨%d, H⟩, Hg⟩
    iexists d
    isplitr
    · ipureintro
      intro hf
      exact absurd rfl hf
    isplitl [H]; · iexact H
    iexact Hg
  | succ n =>
    rw [show (dats m 0 c).Φ (Fin.castSucc ⟨n + 1, h⟩) = iprop(iprop(owns (c : Thread nD τ) sc0 fullShare (hB m c ⟨n, Nat.lt_of_succ_lt h⟩)) ∗ (∃ r, prngReg c r)) from rfl]
    iintro ⟨H, Hg⟩
    iexists _
    isplitr
    swap
    · isplitl [H]; · iexact H
      iexact Hg
    ipureintro
    intro hf
    exact same_h m c n h hf

theorem Phi_succ (c : Dev nD) (t : Fin cfg0.N) :
    (dats m 0 c).Φ t.succ = (iprop(iprop(owns (c : Thread nD τ) sc0 fullShare (hB m c t)) ∗ (∃ r, prngReg c r)) : sProp (Rs F)) := rfl

abbrev ms_0 (t : Fin cfg0.N) : Memref sig .tc .vmem S512x1024 .f32 := win0_0.stage (cfg0.slots t 0)
abbrev ms_1 (t : Fin cfg0.N) : Memref sig .tc .vmem S1x1024 .f32 := win0_1.stage (cfg0.slots t 1)
abbrev ms_2 (t : Fin cfg0.N) : Memref sig .tc .vmem S1024x512 .f32 := win0_2.stage (cfg0.slots t 2)
abbrev ms_3 (t : Fin cfg0.N) : Memref sig .tc .vmem S1x512 .f32 := win0_3.stage (cfg0.slots t 3)
abbrev ms_4 (t : Fin cfg0.N) : Memref sig .tc .vmem S512x128 .f32 := win0_4.stage (cfg0.slots t 4)
abbrev ms_5 (t : Fin cfg0.N) : Memref sig .tc .vmem S512x128 .f32 := win0_5.stage (cfg0.slots t 5)
abbrev ms_6 (t : Fin cfg0.N) : Memref sig .tc .vmem S512x128 .f32 := win0_6.stage (cfg0.slots t 6)
abbrev ms_7 (t : Fin cfg0.N) : Memref sig .tc .vmem S256x256 .bf16 := win0_7.stage (cfg0.slots t 7)

def bodyPre (c : Dev nD) (t : Fin cfg0.N) : sProp (Rs F) :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))
def bodyPost (c : Dev nD) (t : Fin cfg0.N) : sProp (Rs F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl, Phi_succ]
  rw [show (dats m 0 c).leavesExact 0 t = owns (c : Thread nD τ) (ms_0 t) fullShare (iblk m c 0 t) from by
      unfold Dat.leavesExact; rw [show cfg0.idle 0 (grid0.coords t) = false from rfl, after_0]]
  rw [show (dats m 0 c).leavesExact 1 t = owns (c : Thread nD τ) (ms_1 t) fullShare (iblk m c 1 t) from by
      unfold Dat.leavesExact; rw [show cfg0.idle 1 (grid0.coords t) = false from rfl, after_1]]
  rw [show (dats m 0 c).leavesExact 2 t = owns (c : Thread nD τ) (ms_2 t) fullShare (iblk m c 2 t) from by
      unfold Dat.leavesExact; rw [show cfg0.idle 2 (grid0.coords t) = false from rfl, after_2]]
  rw [show (dats m 0 c).leavesExact 3 t = owns (c : Thread nD τ) (ms_3 t) fullShare (iblk m c 3 t) from by
      unfold Dat.leavesExact; rw [show cfg0.idle 3 (grid0.coords t) = false from rfl, after_3]]
  rw [show (dats m 0 c).leavesExact 4 t = owns (c : Thread nD τ) (ms_4 t) fullShare (iblk m c 4 t) from by
      unfold Dat.leavesExact; rw [show cfg0.idle 4 (grid0.coords t) = false from rfl, after_4]]
  rw [show (dats m 0 c).leavesExact 5 t = owns (c : Thread nD τ) (ms_5 t) fullShare (iblk m c 5 t) from by
      unfold Dat.leavesExact; rw [show cfg0.idle 5 (grid0.coords t) = false from rfl, after_5]]
  rw [show (dats m 0 c).leavesExact 6 t = owns (c : Thread nD τ) (ms_6 t) fullShare (iblk m c 6 t) from by
      unfold Dat.leavesExact; rw [show cfg0.idle 6 (grid0.coords t) = false from rfl, after_6]]
  rw [show (dats m 0 c).leavesExact 7 t = owns (c : Thread nD τ) (ms_7 t) fullShare (iblk m c 7 t) from by
      unfold Dat.leavesExact; rw [show cfg0.idle 7 (grid0.coords t) = false from rfl, after_7]]
  refine BIBase.Entails.trans (sep_mono (Phi_pre m c t) .rfl) ?_
  iintro ⟨⟨%dh, %hk, HS, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
  have h6 : t.val % 6 < 6 := Nat.mod_lt _ (by decide)
  by_cases h0 : t.val % 6 = 0
  · iapply (run_A c (grid0.coords t) _ _ _ _ _ _ _ _ _ _ _ _ _ _ _ _ _ _ _ _ _ _ _ _ ((hcond0 t).mpr h0) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) ((dats m 0 c).before 8 t e8) ((dats m 0 c).before 9 t e9) ((dats m 0 c).before 10 t e10) dh Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (live_8 m c t (by omega)); iexact H8
    isplitl [H9]; · iapply (pass_9 m c t (by omega) e9); iexact H9
    iapply (pass_10 m c t (by omega) e10)
    iexact H10
  by_cases h1 : t.val % 6 < 2
  · obtain rfl := hk (by omega)
    iapply (run_B c (grid0.coords t) _ _ _ _ _ _ _ _ _ _ _ _ _ _ _ _ _ _ _ _ _ _ _ _ (fun h => absurd ((hcond0 t).mp h) (by omega)) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) ((dats m 0 c).before 8 t e8) ((dats m 0 c).before 9 t e9) ((dats m 0 c).before 10 t e10) (hB m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (live_8 m c t (by omega)); iexact H8
    isplitl [H9]; · iapply (pass_9 m c t (by omega) e9); iexact H9
    iapply (pass_10 m c t (by omega) e10)
    iexact H10
  by_cases h2 : t.val % 6 < 4
  · obtain rfl := hk (by omega)
    iapply (run_C c (grid0.coords t) _ _ _ _ _ _ _ _ _ _ _ _ _ _ _ _ _ _ _ _ _ _ _ _ (fun h => absurd ((hcond0 t).mp h) (by omega)) (fun h => absurd ((hcond1 t).mp h) (by omega)) ((hcond2 t).mpr (by omega)) (fun h => absurd ((hcond3 t).mp h) (by omega)) (iblk m c 0 t) (iblk m c 1 t) (iblk m c 2 t) (iblk m c 3 t) (iblk m c 4 t) (iblk m c 5 t) (iblk m c 6 t) (iblk m c 7 t) ((dats m 0 c).before 8 t e8) ((dats m 0 c).before 9 t e9) ((dats m 0 c).before 10 t e10) (hB m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (pass_8 m c t (by omega) e8); iexact H8
    isplitl [H9]; · iapply (live_9 m c t (by omega)); iexact H9
    iapply (pass_10 m c t (by omega) e10)
    iexact H10
  obtain rfl := hk (by omega)
  iapply (run_D c (grid0.coords t) _ _ _ _ _ _ _ _ _ _ _ _ _ _ _ _ _ _ _ _ _ _ _ _ (fun h => absurd ((hcond0 t).mp h) (by omega)) (fun h => absurd ((hcond1 t).mp h) (by omega)) (fun h => absurd ((hcond2 t).mp h) (by omega)) ((hcond3 t).mpr (by omega)) (iblk m c 0 t) (iblk m c 1 t) (iblk m c 2 t) (iblk m c 3 t) (iblk m c 4 t) (iblk m c 5 t) (iblk m c 6 t) (iblk m c 7 t) ((dats m 0 c).before 8 t e8) ((dats m 0 c).before 9 t e9) ((dats m 0 c).before 10 t e10) (hB m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass_8 m c t (by omega) e8); iexact H8
  isplitl [H9]; · iapply (pass_9 m c t (by omega) e9); iexact H9
  iapply (live_10 m c t (by omega))
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Phi_last (c : Dev nD) : (dats m 0 c).Φ (Fin.last cfg0.N) ⊢ (Pipeline.ΦA spec0 c : sProp (Rs F)) := by
  rw [PhiA_eq]
  have h : 5 < cfg0.N := Nat.lt_of_lt_of_eq (by decide) N_0.symm
  rw [show (Fin.last cfg0.N) = Fin.succ ⟨5, h⟩ from Fin.ext N_0, Phi_succ]
  iintro ⟨HS, Hg⟩
  isplitl [HS]
  · iexists _; iexact HS
  iexact Hg

set_option backward.isDefEq.respectTransparency.types false in
/-- Every run ends with the arrays the proof data names and the counters at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun c => Phi_last m c)

/-- The frame: every run ends, with the arguments as they were and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- What a run leaves in the three outputs, and the rest as it was. -/
theorem run_post : θ_run defs (onTc (τ := τ) (main (F := F))) ⟨m, fun _ => 0, ρ⟩ (fun r => ∀ c : Dev nD,
      r.2.mem ((c.tc : Thread nD τ).loc main_v58_0) = (dats m 0 c).arrAt 8 cfg0.N
      ∧ r.2.mem ((c.tc : Thread nD τ).loc main_v58_1) = (dats m 0 c).arrAt 9 cfg0.N
      ∧ r.2.mem ((c.tc : Thread nD τ).loc main_v58_2) = (dats m 0 c).arrAt 10 cfg0.N) :=
  (θ_run defs _ _).mono (fun r h c => ⟨(h.1 c).1 8, (h.1 c).1 9, (h.1 c).1 10⟩) (run_main m ρ)

end Cert.QsK

end
-- ==== Proof.QsMath.lean ====
module

public import proofs.«01_k».proof.Proof.QsLaunch
public import Idealize.ShloMosaic.Lib.Pipeline.ValueKit
public import Idealize.ShloMosaic.Lib.Pipeline.ReadBack

@[expose] public section

set_option maxRecDepth 16384

/-! # The sample tokens' projection call: what it computes -/

noncomputable section

namespace Cert.QsV

open Cert.QkvSampleIdeal Cert.QkvSampleIdeal.Gen Cert.QsK
open Idealize.ShloMosaic Idealize.ShloMosaic.TcCoe Idealize.ShloMosaic.Tactic

/-! ## The heads -/

/-- The angle of position `t` and frequency `i`. -/
def ang (t i : ℕ) : EReal :=
  FloatOps.sitofp (F := Ideal) FTy.f32 (IntOp.addi (2048#32) (BitVec.ofNat 32 t)) *
    Ideal.pow (Ideal.ofBits FTy.f32 1223959552#32)
      (Ideal.div (Ideal.ofBits FTy.f32 3221225472#32 * FloatOps.sitofp (F := Ideal) FTy.f32 (BitVec.ofNat 32 i)) (Ideal.ofBits FTy.f32 1098907648#32))

/-- The kernel's three tables: the cosines, -/
def tc (t d : ℕ) : EReal := if d < 8 then Ideal.cos (ang t d) else if d - 8 < 8 then Ideal.cos (ang t (d - 8)) else 1
/-- the sines the first half takes from the second, -/
def ta (t d : ℕ) : EReal := if d < 8 then -Ideal.sin (ang t d) else if d - 8 < 8 then 0 else 0
/-- and the sines the second half takes from the first. -/
def tb (t d : ℕ) : EReal := if d < 8 then 0 else if d - 8 < 8 then Ideal.sin (ang t (d - 8)) else 0

/-- A head normed. -/
def hn (y u : Fin 64 → EReal) (d : Fin 64) : EReal :=
  y d * Ideal.rsqrt (Ideal.div (∑ k, y k * y k) (Ideal.ofBits FTy.f32 1115684864#32) + Ideal.ofBits FTy.f32 897988541#32) * u d

/-- A head turned. -/
def rope (z : Fin 64 → EReal) (t : ℕ) (d : Fin 64) : EReal :=
  if h : d.val < 8 then z d * Ideal.cos (ang t d) - z ⟨d + 8, by omega⟩ * Ideal.sin (ang t d)
  else if h' : d.val - 8 < 8 then z d * Ideal.cos (ang t (d - 8)) + z ⟨d - 8, by omega⟩ * Ideal.sin (ang t (d - 8))
  else z d

/-! ## The arrays -/

section
variable (x : FVec Ideal S128x4x1024 .f32) (g : FVec Ideal S1024 .f32) (w : FVec Ideal S1024x3072 .f32) (qn kn : FVec Ideal S64 .f32)

/-- A normalised row's entry. -/
def H (a : Fin 128) (t : Fin 4) (l : Fin 1024) : EReal :=
  x (ix3 a t l) * Ideal.rsqrt (Ideal.div (∑ k, x (ix3 a t k) * x (ix3 a t k)) (Ideal.ofBits FTy.f32 1149239296#32) + Ideal.ofBits FTy.f32 897988541#32) * g (ix1 l)

/-- A normalised row times a column. -/
def P (a : Fin 128) (t : Fin 4) (f : Fin 3072) : EReal := ∑ l, H x g a t l * w (ix2 l f)

/-- A head of the queries or the keys. -/
def R (u : FVec Ideal S64 .f32) (a : Fin 128) (t : Fin 4) (o : ℕ) (ho : o + 64 ≤ 3072) (d : Fin 64) : EReal :=
  rope (hn (fun d => P x g w a t ⟨o + d, by omega⟩) fun d => u (ix1 d)) t d

/-- The queries, the keys and the values. -/
def Gq : FVec Ideal S512x1024 .f32 := fun y =>
  R x g w qn ⟨(y 0).val / 4, by have : (y 0).val < 512 := (y 0).isLt; omega⟩ ⟨(y 0).val % 4, by omega⟩
    (64 * ((y 1).val / 64)) (by have : (y 1).val < 1024 := (y 1).isLt; omega) ⟨(y 1).val % 64, by omega⟩
def Gk : FVec Ideal S512x1024 .f32 := fun y =>
  R x g w kn ⟨(y 0).val / 4, by have : (y 0).val < 512 := (y 0).isLt; omega⟩ ⟨(y 0).val % 4, by omega⟩
    (1024 + 64 * ((y 1).val / 64)) (by have : (y 1).val < 1024 := (y 1).isLt; omega) ⟨(y 1).val % 64, by omega⟩
def Gv : FVec Ideal S512x1024 .f32 := fun y =>
  P x g w ⟨(y 0).val / 4, by have : (y 0).val < 512 := (y 0).isLt; omega⟩ ⟨(y 0).val % 4, by omega⟩
    ⟨2048 + (y 1).val, by have : (y 1).val < 1024 := (y 1).isLt; omega⟩

end

/-! ## Half a tile -/

/-- A sum over four heads' lanes that keeps one head. -/
theorem sum_head (s : Fin 256 → EReal) (b : Fin 256 → EReal) (q : ℕ) (hq : q < 4) (hb : ∀ k, b k = if k.val / 64 = q then 1 else 0) :
    ∑ k, s k * b k = ∑ d : Fin 64, s ⟨64 * q + d, by omega⟩ := by
  have e : ∀ k, s k * b k = if k.val / 64 = q then s k else 0 := fun k => by rw [hb]; split <;> simp
  simp only [e]
  rw [← Finset.sum_filter]
  symm
  refine Finset.sum_bij (fun (d : Fin 64) _ => (⟨64 * q + d, by omega⟩ : Fin 256)) (fun d _ => ?_) (fun d _ d' _ h => ?_) (fun k hk => ?_) (fun _ _ => rfl)
  · exact Finset.mem_filter.2 ⟨Finset.mem_univ _, by show (64 * q + d.val) / 64 = q; omega⟩
  · have := congrArg Fin.val h
    exact Fin.ext (by dsimp only at this; omega)
  · have hk' := (Finset.mem_filter.1 hk).2
    exact ⟨⟨k.val % 64, by omega⟩, Finset.mem_univ _, Fin.ext (by show 64 * q + k.val % 64 = k.val; omega)⟩

theorem ofBits_64 : Ideal.ofBits FTy.f32 1115684864#32 = ((64 : ℝ) : EReal) := by
  simp [Ideal.ofBits, Ideal.ieee, -EReal.coe_mul]
  norm_num
theorem ofBits_64' : Ideal.ofBits FTy.f32 1015021568#32 = ((64⁻¹ : ℝ) : EReal) := by
  simp [Ideal.ofBits, Ideal.ieee, -EReal.coe_mul]
  norm_num

/-- A sixty-fourth. -/
theorem mul_64 (y : EReal) : y * Ideal.ofBits FTy.f32 1015021568#32 = Ideal.div y (Ideal.ofBits FTy.f32 1115684864#32) := by
  rw [ofBits_64, ofBits_64', Ideal.div, if_neg (by norm_num), EReal.coe_inv]

section
variable (h : Vec Ideal S512x1024 .bf16) (w : Vec Ideal S1024x256 .f32) (b : Vec Ideal S256x256 .bf16) (g : Vec Ideal S1x256 .f32) (x y z : Vec Ideal S512x128 .f32)

/-- A lane of half a tile before it's turned. -/
theorem pay16_at (u : Fin 64 → EReal) (hb : ∀ k q : Fin 256, @Eq EReal (b (ix2 k q)) (if k.val / 64 = q.val / 64 then 1 else 0))
    (hg : ∀ q : Fin 256, @Eq EReal (g (ix2 0 q)) (u ⟨q.val % 64, by omega⟩)) (a : Fin 512) (q : Fin 256) :
    @Eq EReal (k0_pay16 h w b g (ix2 a q)) (hn (fun d => k0_pay4 h w (ix2 a ⟨64 * (q.val / 64) + d, by omega⟩)) u ⟨q.val % 64, by omega⟩) := by
  unfold hn
  pointwise [k0_pay16, k0_pay4]
  rw [hg, mul_64, sum_head (fun k => _) (fun k => b (ix2 k q)) (q.val / 64) (by omega) (fun k => hb k q)]
  have e : (⟨64 * (q.val / 64) + q.val % 64, by omega⟩ : Fin 256) = q := Fin.ext (by show 64 * (q.val / 64) + q.val % 64 = q.val; omega)
  rw [e]

/-- A lane of half a tile. -/
theorem half_at (u : Fin 64 → EReal) (hb : ∀ k q : Fin 256, @Eq EReal (b (ix2 k q)) (if k.val / 64 = q.val / 64 then 1 else 0))
    (hg : ∀ q : Fin 256, @Eq EReal (g (ix2 0 q)) (u ⟨q.val % 64, by omega⟩))
    (hx : ∀ (a : Fin 512) (j : Fin 128), @Eq EReal (x (ix2 a j)) (tc (a.val % 4) (j.val % 64)))
    (hy : ∀ (a : Fin 512) (j : Fin 128), @Eq EReal (y (ix2 a j)) (ta (a.val % 4) (j.val % 64)))
    (hz : ∀ (a : Fin 512) (j : Fin 128), @Eq EReal (z (ix2 a j)) (tb (a.val % 4) (j.val % 64))) (a : Fin 512) (q : Fin 256) :
    @Eq EReal (half h w b g x y z (ix2 a q))
      (rope (hn (fun d => k0_pay4 h w (ix2 a ⟨64 * (q.val / 64) + d, by omega⟩)) u) (a.val % 4) ⟨q.val % 64, by omega⟩) := by
  have key : ∀ (i : Fin 128) (q1 q2 q3 : Fin 256), q1 = q → i.val % 64 = q.val % 64 → (q.val % 64 < 8 → q2.val = q.val + 8) → (8 ≤ q.val % 64 → q.val % 64 < 16 → q3.val + 8 = q.val) →
      @Eq EReal (k0_pay16 h w b g (ix2 a q1) * x (ix2 a i) + k0_pay16 h w b g (ix2 a q2) * y (ix2 a i) + k0_pay16 h w b g (ix2 a q3) * z (ix2 a i))
        (rope (hn (fun d => k0_pay4 h w (ix2 a ⟨64 * (q.val / 64) + d, by omega⟩)) u) (a.val % 4) ⟨q.val % 64, by omega⟩) := by
    intro i q1 q2 q3 h1 hi h2 h3
    subst h1
    rw [hx, hy, hz, hi]
    unfold rope tc ta tb
    by_cases c1 : q1.val % 64 < 8
    · rw [if_pos c1, if_pos c1, if_pos c1, dif_pos c1, mul_zero, add_zero, sub_eq_add_neg, ← mul_neg]
      have e2 := h2 c1
      rw [pay16_at h w b g u hb hg, pay16_at h w b g u hb hg]
      have e : q2.val / 64 = q1.val / 64 := by omega
      congr 2
      simp only [e]
      congr 1
      exact Fin.ext (by show q2.val % 64 = q1.val % 64 + 8; omega)
    · rw [if_neg c1, if_neg c1, if_neg c1, dif_neg c1]
      by_cases c2 : q1.val % 64 - 8 < 8
      · rw [if_pos c2, if_pos c2, if_pos c2, dif_pos c2, mul_zero, add_zero]
        have e2 := h3 (by omega) (by omega)
        rw [pay16_at h w b g u hb hg, pay16_at h w b g u hb hg]
        have e : q3.val / 64 = q1.val / 64 := by omega
        congr 2
        simp only [e]
        congr 1
        exact Fin.ext (by show q3.val % 64 = q1.val % 64 - 8; omega)
      · rw [if_neg c2, if_neg c2, if_neg c2, dif_neg c2, mul_zero, mul_zero, add_zero, add_zero, mul_one]
        exact pay16_at h w b g u hb hg a q1
  by_cases c : q.val < 128
  · pointwise [half, k0_pay2, k0_pay20, k0_pay21, k0_pay17, k0_pay18, k0_pay19]
    rw [dif_pos c]
    exact key ⟨q.val, c⟩ _ _ _ rfl rfl (fun _ => by show (q.val + 128 - 120) % 128 = _; omega) (fun _ _ => by show (q.val + 128 - 8) % 128 + 8 = _; omega)
  · pointwise [half, k0_pay2, k0_pay20, k0_pay21, k0_pay17, k0_pay18, k0_pay19]
    rw [dif_neg c]
    exact key ⟨q.val - 128, by omega⟩ _ _ _ (Fin.ext (by show 128 + (q.val - 128) = q.val; omega)) (by show (q.val - 128) % 64 = _; omega)
      (fun _ => by show 128 + (q.val - 128 + 128 - 120) % 128 = _; omega) (fun _ _ => by show 128 + (q.val - 128 + 128 - 8) % 128 + 8 = _; omega)

end

end Cert.QsV
end
-- ==== Proof.QsHost.lean ====
module

public import proofs.«01_k».proof.Proof.QsMath

@[expose] public section

set_option maxRecDepth 16384

/-! # The sample tokens' projection call: what its windows hold -/

noncomputable section

namespace Cert.QsV

open Cert.QkvSampleIdeal Cert.QkvSampleIdeal.Gen Cert.QsK
open Idealize.ShloMosaic Idealize.ShloMosaic.TcCoe Idealize.ShloMosaic.Tactic

/-- Three tables side by side. -/
def c64 (a b : FVec Ideal S512x8 .f32) (d : FVec Ideal S512x48 .f32) : FVec Ideal S512x64 .f32 :=
  concatenate S512x64 1 [⟨S512x8, a⟩, ⟨S512x8, b⟩, ⟨S512x48, d⟩] concatenates_S512x8_S512x8_S512x48_S512x64_d1
/-- Three rows of gains one after another. -/
def c3k (a b d : FVec Ideal S1024 .f32) : FVec Ideal S3072 .f32 :=
  concatenate S3072 0 [⟨S1024, a⟩, ⟨S1024, b⟩, ⟨S1024, d⟩] concatenates_S1024_S1024_S1024_S3072_d0

theorem r_main_v24 (h1 h2) (W : Valuation τ sig (Elt Ideal)) :
    (StableHlo.nary (τ := τ) ![main_v19, main_v19, main_v23] main_v24 (fun u => (concatenate S512x64 1 [⟨S512x8, (u 0 : (⟨S512x8, .f32⟩ : BufTy).Contents (Elt Ideal))⟩, ⟨S512x8, (u 1 : (⟨S512x8, .f32⟩ : BufTy).Contents (Elt Ideal))⟩, ⟨S512x48, (u 2 : (⟨S512x48, .f32⟩ : BufTy).Contents (Elt Ideal))⟩] concatenates_S512x8_S512x8_S512x48_S512x64_d1 : (⟨S512x64, .f32⟩ : BufTy).Contents (Elt Ideal))) h1 h2).result W (no_index (Proc.devRef .tc main_v24))
      = c64 (W (Proc.devRef .tc main_v19)) (W (Proc.devRef .tc main_v19)) (W (Proc.devRef .tc main_v23)) := StableHlo.nary_result _ _ _ h1 h2 W
theorem r_main_v26 (h1 h2) (W : Valuation τ sig (Elt Ideal)) :
    (StableHlo.nary (τ := τ) ![main_v25, main_v22, main_v21] main_v26 (fun u => (concatenate S512x64 1 [⟨S512x8, (u 0 : (⟨S512x8, .f32⟩ : BufTy).Contents (Elt Ideal))⟩, ⟨S512x8, (u 1 : (⟨S512x8, .f32⟩ : BufTy).Contents (Elt Ideal))⟩, ⟨S512x48, (u 2 : (⟨S512x48, .f32⟩ : BufTy).Contents (Elt Ideal))⟩] concatenates_S512x8_S512x8_S512x48_S512x64_d1 : (⟨S512x64, .f32⟩ : BufTy).Contents (Elt Ideal))) h1 h2).result W (no_index (Proc.devRef .tc main_v26))
      = c64 (W (Proc.devRef .tc main_v25)) (W (Proc.devRef .tc main_v22)) (W (Proc.devRef .tc main_v21)) := StableHlo.nary_result _ _ _ h1 h2 W
theorem r_main_v27 (h1 h2) (W : Valuation τ sig (Elt Ideal)) :
    (StableHlo.nary (τ := τ) ![main_v22, main_v20, main_v21] main_v27 (fun u => (concatenate S512x64 1 [⟨S512x8, (u 0 : (⟨S512x8, .f32⟩ : BufTy).Contents (Elt Ideal))⟩, ⟨S512x8, (u 1 : (⟨S512x8, .f32⟩ : BufTy).Contents (Elt Ideal))⟩, ⟨S512x48, (u 2 : (⟨S512x48, .f32⟩ : BufTy).Contents (Elt Ideal))⟩] concatenates_S512x8_S512x8_S512x48_S512x64_d1 : (⟨S512x64, .f32⟩ : BufTy).Contents (Elt Ideal))) h1 h2).result W (no_index (Proc.devRef .tc main_v27))
      = c64 (W (Proc.devRef .tc main_v22)) (W (Proc.devRef .tc main_v20)) (W (Proc.devRef .tc main_v21)) := StableHlo.nary_result _ _ _ h1 h2 W
theorem r_main_v44 (h1 h2) (W : Valuation τ sig (Elt Ideal)) :
    (StableHlo.nary (τ := τ) ![main_v39, main_v42, main_v43] main_v44 (fun u => (concatenate S3072 0 [⟨S1024, (u 0 : (⟨S1024, .f32⟩ : BufTy).Contents (Elt Ideal))⟩, ⟨S1024, (u 1 : (⟨S1024, .f32⟩ : BufTy).Contents (Elt Ideal))⟩, ⟨S1024, (u 2 : (⟨S1024, .f32⟩ : BufTy).Contents (Elt Ideal))⟩] concatenates_S1024_S1024_S1024_S3072_d0 : (⟨S3072, .f32⟩ : BufTy).Contents (Elt Ideal))) h1 h2).result W (no_index (Proc.devRef .tc main_v44))
      = c3k (W (Proc.devRef .tc main_v39)) (W (Proc.devRef .tc main_v42)) (W (Proc.devRef .tc main_v43)) := StableHlo.nary_result _ _ _ h1 h2 W

/-- The number of a lane's head, as the host divides. -/
theorem head_of : ∀ k : Fin 256, Scalar.select
    (IntOp.andi
      (IntOp.cmpi CmpIPredicate.ne
        (if BitVec.ofNat 32 k.val = 0 then (0 : BitVec 32) else if (BitVec.ofNat 32 k.val).msb = true then -1 else 1)
        (if (64#32 : BitVec 32) = 0 then (0 : BitVec 32) else if BitVec.msb (64#32) = true then -1 else 1))
      (IntOp.cmpi CmpIPredicate.ne (IntOp.remsi ArithUnit.host (BitVec.ofNat 32 k.val) (64#32)) 0#32))
    (IntOp.subi (IntOp.divsi ArithUnit.host (BitVec.ofNat 32 k.val) (64#32)) 1#32)
    (IntOp.divsi ArithUnit.host (BitVec.ofNat 32 k.val) (64#32)) = BitVec.ofNat 32 (k.val / 64) := by decide +kernel

theorem same_head (a b : Fin 256) : IntOp.cmpi CmpIPredicate.eq (BitVec.ofNat 32 (a.val / 64)) (BitVec.ofNat 32 (b.val / 64)) = if a.val / 64 = b.val / 64 then 1#1 else 0#1 := by
  have key : ∀ i j : Fin 4, IntOp.cmpi CmpIPredicate.eq (BitVec.ofNat 32 i.val) (BitVec.ofNat 32 j.val) = if i.val = j.val then 1#1 else 0#1 := by decide +kernel
  exact key ⟨a.val / 64, by omega⟩ ⟨b.val / 64, by omega⟩

section
variable (m : (ℓ : Loc nD τ sig) → Buf (Elt Ideal) ℓ) (c : Dev nD)

theorem V_x (r : Fin 512) (l : Fin 1024) : V m c main_v45 (ix2 r l) = m ((c.tc : Thread nD τ).loc main_arg0) (ix3 ⟨r / 4, by omega⟩ ⟨r % 4, by omega⟩ l) := by
  unfold_abbrev_sides
  simp only [List.flatten_cons, List.flatten_nil, List.append_nil, List.cons_append, List.nil_append]
  after_results
  pointwise

theorem V_g (l : Fin 1024) : V m c main_v56 (ix2 0 l) = m ((c.tc : Thread nD τ).loc main_arg1) (ix1 l) := by
  unfold_abbrev_sides
  simp only [List.flatten_cons, List.flatten_nil, List.append_nil, List.cons_append, List.nil_append]
  after_results
  pointwise

theorem V_bd (a b : Fin 256) : @Eq EReal (V m c main_v55 (ix2 a b)) (if a.val / 64 = b.val / 64 then 1 else 0) := by
  unfold_abbrev_sides
  simp only [List.flatten_cons, List.flatten_nil, List.append_nil, List.cons_append, List.nil_append]
  after_results
  simp only [StableHlo.TRef.ofBuf_toBuf]
  simp only [StableHlo.TRef.ofBuf, StableHlo.TRef.of, cast_eq]
  pointwise
  refine (congrArg₂ (fun p q => FloatOps.uitofp (F := Ideal) FTy.bf16 (IntOp.cmpi CmpIPredicate.eq p q)) (head_of a) (head_of b)).trans ?_
  rw [same_head]
  split
  · simp [FloatOps.uitofp]
  · simp [FloatOps.uitofp]

/-- The gains as the kernel reads them. -/
theorem V_gain (f : Fin 3072) : @Eq EReal (V m c main_v57 (ix2 0 f)) (if f.val < 1024 then m ((c.tc : Thread nD τ).loc main_arg3) (ix1 ⟨f.val % 64, by omega⟩) else if f.val - 1024 < 1024 then m ((c.tc : Thread nD τ).loc main_arg4) (ix1 ⟨(f.val - 1024) % 64, by omega⟩) else (1 : EReal)) := by
  unfold_abbrev_sides
  simp only [List.flatten_cons, List.flatten_nil, List.append_nil, List.cons_append, List.nil_append]
  simp (disch := decide) only [StableHlo.after_cons, StableHlo.after_nil, r_main_v44, StableHlo.nullary_result', StableHlo.unary_result', StableHlo.binary_result', StableHlo.reshape_result', StableHlo.ternary_result',
    StableHlo.nullary_result_ne', StableHlo.unary_result_ne', StableHlo.binary_result_ne', StableHlo.reshape_result_ne', StableHlo.ternary_result_ne', StableHlo.nary_result_ne']
  pointwise [c64, c3k]
  rfl

theorem V_cos (r : Fin 512) (j : Fin 128) : @Eq EReal (V m c main_v30 (ix2 r j)) (tc (r.val % 4) (j.val % 64)) := by
  unfold tc ang
  unfold_abbrev_sides
  simp only [List.flatten_cons, List.flatten_nil, List.append_nil, List.cons_append, List.nil_append]
  simp (disch := decide) only [StableHlo.after_cons, StableHlo.after_nil, r_main_v24, StableHlo.nullary_result', StableHlo.unary_result', StableHlo.binary_result', StableHlo.reshape_result', StableHlo.ternary_result',
    StableHlo.nullary_result_ne', StableHlo.unary_result_ne', StableHlo.binary_result_ne', StableHlo.reshape_result_ne', StableHlo.ternary_result_ne', StableHlo.nary_result_ne']
  pointwise [c64, c3k]
  rfl

theorem V_s1 (r : Fin 512) (j : Fin 128) : @Eq EReal (V m c main_v33 (ix2 r j)) (ta (r.val % 4) (j.val % 64)) := by
  unfold ta ang
  unfold_abbrev_sides
  simp only [List.flatten_cons, List.flatten_nil, List.append_nil, List.cons_append, List.nil_append]
  simp (disch := decide) only [StableHlo.after_cons, StableHlo.after_nil, r_main_v26, StableHlo.nullary_result', StableHlo.unary_result', StableHlo.binary_result', StableHlo.reshape_result', StableHlo.ternary_result',
    StableHlo.nullary_result_ne', StableHlo.unary_result_ne', StableHlo.binary_result_ne', StableHlo.reshape_result_ne', StableHlo.ternary_result_ne', StableHlo.nary_result_ne']
  pointwise [c64, c3k]
  rfl

theorem V_s2 (r : Fin 512) (j : Fin 128) : @Eq EReal (V m c main_v36 (ix2 r j)) (tb (r.val % 4) (j.val % 64)) := by
  unfold tb ang
  unfold_abbrev_sides
  simp only [List.flatten_cons, List.flatten_nil, List.append_nil, List.cons_append, List.nil_append]
  simp (disch := decide) only [StableHlo.after_cons, StableHlo.after_nil, r_main_v27, StableHlo.nullary_result', StableHlo.unary_result', StableHlo.binary_result', StableHlo.reshape_result', StableHlo.ternary_result',
    StableHlo.nullary_result_ne', StableHlo.unary_result_ne', StableHlo.binary_result_ne', StableHlo.reshape_result_ne', StableHlo.ternary_result_ne', StableHlo.nary_result_ne']
  pointwise [c64, c3k]
  rfl

end

end Cert.QsV
end
-- ==== Proof.QsSpec.lean ====
module

public import proofs.«01_k».proof.Proof.QsHost
public import Idealize.ShloMosaic.Lib.Pipeline.ValueKit.Geometry

@[expose] public section

set_option maxRecDepth 16384

/-! # The sample tokens' projection call: the kernel's arrays -/

noncomputable section

namespace Cert.QsV

open Cert.QkvSampleIdeal Cert.QkvSampleIdeal.Gen Cert.QsK
open Idealize.ShloMosaic Idealize.ShloMosaic.TcCoe Idealize.ShloMosaic.Tactic

variable (m : (ℓ : Loc nD τ sig) → Buf (Elt Ideal) ℓ) (c : Dev nD)

theorem idx : ∀ t : Fin grid0.N, win0_0.index t = ![0, 0] ∧ win0_1.index t = ![0, 0] ∧ win0_2.index t = ![0, t.val] ∧ win0_3.index t = ![0, t.val]
    ∧ win0_4.index t = ![0, 0] ∧ win0_5.index t = ![0, 0] ∧ win0_6.index t = ![0, 0] ∧ win0_7.index t = ![0, 0]
    ∧ win0_8.index t = ![0, if t.val < 2 then t.val else 1] ∧ win0_9.index t = ![0, if t.val < 4 then (t.val - 2) % 2 else 1] ∧ win0_10.index t = ![0, (t.val - 4) % 2] := by decide +kernel

/-- The column of the weight at a column of step `t`'s block. -/
def col (t : Fin cfg0.N) (q : Fin 512) : Fin 3072 := ⟨512 * t.val + q, by have := t.2; have : cfg0.N = 6 := N_0; omega⟩

theorem blk0 (t : Fin cfg0.N) (a : Fin 512) (l : Fin 1024) : iblk m c 0 t (ix2 a l) = V m c main_v45 (ix2 a l) := by
  blk_ext [iblk, V, idx t]
theorem blk1 (t : Fin cfg0.N) (l : Fin 1024) : iblk m c 1 t (ix2 0 l) = V m c main_v56 (ix2 0 l) := by
  blk_ext [iblk, V, idx t]
theorem blk2 (t : Fin cfg0.N) (l : Fin 1024) (q : Fin 512) : iblk m c 2 t (ix2 l q) = m ((c.tc : Thread nD τ).loc main_arg2) (ix2 l (col t q)) := by
  rw [← V_main_arg2 m c]
  unfold col
  blk_ext [iblk, V, idx t]
theorem blk3 (t : Fin cfg0.N) (q : Fin 512) : iblk m c 3 t (ix2 0 q) = V m c main_v57 (ix2 0 (col t q)) := by
  unfold col
  blk_ext [iblk, V, idx t]
theorem blk4 (t : Fin cfg0.N) (a : Fin 512) (j : Fin 128) : iblk m c 4 t (ix2 a j) = V m c main_v30 (ix2 a j) := by
  blk_ext [iblk, V, idx t]
theorem blk5 (t : Fin cfg0.N) (a : Fin 512) (j : Fin 128) : iblk m c 5 t (ix2 a j) = V m c main_v33 (ix2 a j) := by
  blk_ext [iblk, V, idx t]
theorem blk6 (t : Fin cfg0.N) (a : Fin 512) (j : Fin 128) : iblk m c 6 t (ix2 a j) = V m c main_v36 (ix2 a j) := by
  blk_ext [iblk, V, idx t]
theorem blk7 (t : Fin cfg0.N) (a b : Fin 256) : iblk m c 7 t (ix2 a b) = V m c main_v55 (ix2 a b) := by
  blk_ext [iblk, V, idx t]

/-! ## The tiles -/

/-- The tokens, the gains and the weight. -/
abbrev mx : FVec Ideal S128x4x1024 .f32 := m ((c.tc : Thread nD τ).loc main_arg0)
abbrev mg : FVec Ideal S1024 .f32 := m ((c.tc : Thread nD τ).loc main_arg1)
abbrev mw : FVec Ideal S1024x3072 .f32 := m ((c.tc : Thread nD τ).loc main_arg2)
abbrev mq : FVec Ideal S64 .f32 := m ((c.tc : Thread nD τ).loc main_arg3)
abbrev mk : FVec Ideal S64 .f32 := m ((c.tc : Thread nD τ).loc main_arg4)

/-- A row's sequence and its place there. -/
abbrev sq (a : Fin 512) : Fin 128 := ⟨a / 4, by omega⟩
abbrev pl (a : Fin 512) : Fin 4 := ⟨a % 4, by omega⟩

theorem x0 (t : Fin cfg0.N) (a : Fin 512) (l : Fin 1024) : iblk m c 0 t (ix2 a l) = mx m c (ix3 (sq a) (pl a) l) := (blk0 m c t a l).trans (V_x m c a l)
theorem g0 (t : Fin cfg0.N) (l : Fin 1024) : iblk m c 1 t (ix2 0 l) = mg m c (ix1 l) := (blk1 m c t l).trans (V_g m c l)

theorem hB_at (t : Fin cfg0.N) (a : Fin 512) (l : Fin 1024) : hB m c t (ix2 a l) = H (mx m c) (mg m c) (sq a) (pl a) l := by
  unfold H hB
  pointwise [k0_pay1]
  simp only [x0, g0]

theorem wL_at (w : Vec Ideal S1024x512 .f32) (l : Fin 1024) (q : Fin 256) : wL w (ix2 l q) = w (ix2 l ⟨q, by omega⟩) := by
  unfold wL
  refine congrArg w (funext fun k => Fin.ext ?_)
  rw [Rect.emb_apply]
  match k with
  | ⟨0, _⟩ => show 0 + 1 * l.val = l.val; omega
  | ⟨1, _⟩ => show 0 + 1 * q.val = q.val; omega
theorem wR_at (w : Vec Ideal S1024x512 .f32) (l : Fin 1024) (q : Fin 256) : wR w (ix2 l q) = w (ix2 l ⟨256 + q, by omega⟩) := by
  unfold wR
  refine congrArg w (funext fun k => Fin.ext ?_)
  rw [Rect.emb_apply]
  match k with
  | ⟨0, _⟩ => show 0 + 1 * l.val = l.val; omega
  | ⟨1, _⟩ => show 256 + 1 * q.val = 256 + q.val; omega
theorem gL_at (w : Vec Ideal S1x512 .f32) (q : Fin 256) : gL w (ix2 0 q) = w (ix2 0 ⟨q, by omega⟩) := by
  unfold gL
  refine congrArg w (funext fun k => Fin.ext ?_)
  rw [Rect.emb_apply]
  match k with
  | ⟨0, _⟩ => show 0 + 1 * 0 = 0; omega
  | ⟨1, _⟩ => show 0 + 1 * q.val = q.val; omega
theorem gR_at (w : Vec Ideal S1x512 .f32) (q : Fin 256) : gR w (ix2 0 q) = w (ix2 0 ⟨256 + q, by omega⟩) := by
  unfold gR
  refine congrArg w (funext fun k => Fin.ext ?_)
  rw [Rect.emb_apply]
  match k with
  | ⟨0, _⟩ => show 0 + 1 * 0 = 0; omega
  | ⟨1, _⟩ => show 256 + 1 * q.val = 256 + q.val; omega

/-- The projection at a column of a half. -/
theorem left_at (t : Fin cfg0.N) (a : Fin 512) (q : Fin 256) :
    k0_pay4 (hB m c t) (wL (iblk m c 2 t)) (ix2 a q) = P (mx m c) (mg m c) (mw m c) (sq a) (pl a) (col t ⟨q, by omega⟩) := by
  unfold P
  pointwise [k0_pay4]
  exact Finset.sum_congr rfl fun l _ => congrArg₂ (· * ·) (hB_at m c t a l) ((wL_at _ l q).trans (blk2 m c t l _))
theorem right_at (t : Fin cfg0.N) (a : Fin 512) (q : Fin 256) :
    k0_pay4 (hB m c t) (wR (iblk m c 2 t)) (ix2 a q) = P (mx m c) (mg m c) (mw m c) (sq a) (pl a) (col t ⟨256 + q, by omega⟩) := by
  unfold P
  pointwise [k0_pay4]
  exact Finset.sum_congr rfl fun l _ => congrArg₂ (· * ·) (hB_at m c t a l) ((wR_at _ l q).trans (blk2 m c t l _))

/-- A tile of the values. -/
theorem tV_at (t : Fin cfg0.N) (a q : Fin 512) : tV m c t (ix2 a q) = P (mx m c) (mg m c) (mw m c) (sq a) (pl a) (col t q) := by
  unfold tV tileV two
  by_cases h : q.val < 256
  · exact (dif_pos (c := q.val < 256) h).trans (left_at m c t a ⟨q, h⟩)
  · refine (dif_neg (c := q.val < 256) h).trans ((right_at m c t a ⟨q - 256, by omega⟩).trans ?_)
    exact congrArg (fun k => P (mx m c) (mg m c) (mw m c) (sq a) (pl a) (col t k)) (Fin.ext (by show 256 + (q.val - 256) = q.val; omega))

theorem R_congr (x : FVec Ideal S128x4x1024 .f32) (g : FVec Ideal S1024 .f32) (w : FVec Ideal S1024x3072 .f32) (u : FVec Ideal S64 .f32) (a : Fin 128) (t : Fin 4)
    (o o' : ℕ) (ho : o + 64 ≤ 3072) (ho' : o' + 64 ≤ 3072) (d d' : Fin 64) (e : o = o') (e' : d.val = d'.val) : R x g w u a t o ho d = R x g w u a t o' ho' d' := by
  subst e
  rw [Fin.ext e']

/-- A tile of the queries or the keys. -/
theorem tN_at (t : Fin cfg0.N) (u : FVec Ideal S64 .f32) (hu : ∀ q : Fin 512, @Eq EReal (V m c main_v57 (ix2 0 (col t q))) (u (ix1 ⟨q.val % 64, by omega⟩))) (a q : Fin 512) :
    @Eq EReal (tN m c t (ix2 a q)) (R (mx m c) (mg m c) (mw m c) u (sq a) (pl a) (512 * t.val + 64 * (q.val / 64)) (by have := t.2; have : cfg0.N = 6 := N_0; omega) ⟨q.val % 64, by omega⟩) := by
  have hb : ∀ k q : Fin 256, @Eq EReal (iblk m c 7 t (ix2 k q)) (if k.val / 64 = q.val / 64 then 1 else 0) := fun k q => (blk7 m c t k q).trans (V_bd m c k q)
  have hx : ∀ (a : Fin 512) (j : Fin 128), @Eq EReal (iblk m c 4 t (ix2 a j)) (tc (a.val % 4) (j.val % 64)) := fun a j => (blk4 m c t a j).trans (V_cos m c a j)
  have hy : ∀ (a : Fin 512) (j : Fin 128), @Eq EReal (iblk m c 5 t (ix2 a j)) (ta (a.val % 4) (j.val % 64)) := fun a j => (blk5 m c t a j).trans (V_s1 m c a j)
  have hz : ∀ (a : Fin 512) (j : Fin 128), @Eq EReal (iblk m c 6 t (ix2 a j)) (tb (a.val % 4) (j.val % 64)) := fun a j => (blk6 m c t a j).trans (V_s2 m c a j)
  unfold tN tileN two R
  by_cases h : q.val < 256
  · refine (dif_pos (c := q.val < 256) h).trans ((half_at _ _ _ _ _ _ _ (fun d => u (ix1 d)) hb (fun k => ?_) hx hy hz a ⟨q, h⟩).trans ?_)
    · exact (gL_at _ k).trans ((blk3 m c t _).trans (hu _))
    · refine congrArg (fun y => rope (hn y fun d => u (ix1 d)) (a.val % 4) ⟨q.val % 64, by omega⟩) (funext fun d => (left_at m c t a _).trans ?_)
      exact congrArg (P (mx m c) (mg m c) (mw m c) (sq a) (pl a)) (Fin.ext (by show 512 * t.val + (64 * (q.val / 64) + d.val) = 512 * t.val + 64 * (q.val / 64) + d.val; omega))
  · refine (dif_neg (c := q.val < 256) h).trans ((half_at _ _ _ _ _ _ _ (fun d => u (ix1 d)) hb (fun k => ?_) hx hy hz a ⟨q - 256, by omega⟩).trans ?_)
    · refine (gR_at _ k).trans ((blk3 m c t _).trans ((hu _).trans (congrArg (fun d => u (ix1 d)) (Fin.ext ?_))))
      show (256 + k.val) % 64 = k.val % 64
      omega
    · have e : (⟨(q.val - 256) % 64, by omega⟩ : Fin 64) = ⟨q.val % 64, by omega⟩ := Fin.ext (by show (q.val - 256) % 64 = q.val % 64; omega)
      refine Eq.trans (congrArg (fun y => rope (hn y fun d => u (ix1 d)) (a.val % 4) _) (funext fun d => (right_at m c t a _).trans ?_)) (congrArg (rope _ _) e)
      exact congrArg (P (mx m c) (mg m c) (mw m c) (sq a) (pl a)) (Fin.ext (by show 512 * t.val + (256 + (64 * ((q.val - 256) / 64) + d.val)) = 512 * t.val + 64 * (q.val / 64) + d.val; omega))

theorem gain_q (t : Fin cfg0.N) (ht : t.val < 2) (q : Fin 512) : @Eq EReal (V m c main_v57 (ix2 0 (col t q))) (mq m c (ix1 ⟨q.val % 64, by omega⟩)) := by
  rw [V_gain]
  refine (if_pos (show 512 * t.val + q.val < 1024 by omega)).trans (congrArg (fun d => mq m c (ix1 d)) (Fin.ext ?_))
  show (512 * t.val + q.val) % 64 = q.val % 64
  omega
theorem gain_k (t : Fin cfg0.N) (ht : 2 ≤ t.val ∧ t.val < 4) (q : Fin 512) : @Eq EReal (V m c main_v57 (ix2 0 (col t q))) (mk m c (ix1 ⟨q.val % 64, by omega⟩)) := by
  rw [V_gain]
  refine (if_neg (show ¬ 512 * t.val + q.val < 1024 by omega)).trans ((if_pos (show 512 * t.val + q.val - 1024 < 1024 by omega)).trans (congrArg (fun d => mk m c (ix1 d)) (Fin.ext ?_)))
  show (512 * t.val + q.val - 1024) % 64 = q.val % 64
  omega

/-! ## The arrays -/

theorem idx_out (y : S512x512.Idx) : ∃ (a : Fin 512) (d : Fin 512), y = ix2 a d := ⟨y 0, y 1, ValueIdx.eq_ix2 y⟩

theorem out_8 (t : Fin cfg0.N) (a q : Fin 512) : ((cfg0.win 8).blk t).view.emb (ix2 a q) = (ix2 a ⟨512 * (if t.val < 2 then t.val else 1) + q, by split <;> omega⟩ : S512x1024.Idx) := by
  blk_ext [idx t]
theorem out_9 (t : Fin cfg0.N) (a q : Fin 512) : ((cfg0.win 9).blk t).view.emb (ix2 a q) = (ix2 a ⟨512 * (if t.val < 4 then (t.val - 2) % 2 else 1) + q, by split <;> omega⟩ : S512x1024.Idx) := by
  blk_ext [idx t]
theorem out_10 (t : Fin cfg0.N) (a q : Fin 512) : ((cfg0.win 10).blk t).view.emb (ix2 a q) = (ix2 a ⟨512 * ((t.val - 4) % 2) + q, by omega⟩ : S512x1024.Idx) := by
  blk_ext [idx t]

/-- The queries. -/
theorem arr_q : (dats m 0 c).arrAt 8 cfg0.N = Gq (mx m c) (mg m c) (mw m c) (mq m c) := by
  refine (dats m 0 c).arrAt_eq_of_covers 8 _ (by decide +kernel) fun t hf y => ?_
  obtain ⟨a, q, rfl⟩ : ∃ (a : Fin 512) (q : Fin 512), y = ix2 a q := idx_out y
  rw [after_8, out_8]
  show oQ m c t (ix2 a q) = _
  have hN : t.val < 6 := t.2
  unfold oQ Gq
  by_cases h : t.val < 2
  · rw [if_pos (show t.val % 6 < 2 by omega)]
    refine (tN_at m c t (mq m c) (gain_q m c t h) a q).trans (R_congr _ _ _ _ _ _ _ _ _ _ _ _ ?_ ?_)
    · show 512 * t.val + 64 * (q.val / 64) = 64 * ((512 * (if t.val < 2 then t.val else 1) + q.val) / 64)
      rw [if_pos h]; omega
    · show q.val % 64 = (512 * (if t.val < 2 then t.val else 1) + q.val) % 64
      rw [if_pos h]; omega
  · rw [if_neg (show ¬ t.val % 6 < 2 by omega)]
    have e : (sib t 1).val = 1 := by show 6 * (t.val / 6) + 1 = 1; omega
    refine (tN_at m c (sib t 1) (mq m c) (gain_q m c _ (by omega)) a q).trans (R_congr _ _ _ _ _ _ _ _ _ _ _ _ ?_ ?_)
    · show 512 * (sib t 1).val + 64 * (q.val / 64) = 64 * ((512 * (if t.val < 2 then t.val else 1) + q.val) / 64)
      rw [if_neg h, e]; omega
    · show q.val % 64 = (512 * (if t.val < 2 then t.val else 1) + q.val) % 64
      rw [if_neg h]; omega

/-- The keys. -/
theorem arr_k : (dats m 0 c).arrAt 9 cfg0.N = Gk (mx m c) (mg m c) (mw m c) (mk m c) := by
  refine (dats m 0 c).arrAt_eq_of_covers 9 _ (by decide +kernel) fun t hf y => ?_
  obtain ⟨a, q, rfl⟩ : ∃ (a : Fin 512) (q : Fin 512), y = ix2 a q := idx_out y
  rw [after_9, out_9]
  show oK m c t (ix2 a q) = _
  have hN : t.val < 6 := t.2
  have hf' : t.val % 6 = 2 ∨ t.val % 6 = 5 := of_decide_eq_true ((flush_9 t).symm.trans hf)
  unfold oK Gk
  by_cases h : t.val < 4
  · rw [if_pos (show t.val % 6 < 4 by omega)]
    refine (tN_at m c t (mk m c) (gain_k m c t ⟨by omega, h⟩) a q).trans (R_congr _ _ _ _ _ _ _ _ _ _ _ _ ?_ ?_)
    · show 512 * t.val + 64 * (q.val / 64) = 1024 + 64 * ((512 * (if t.val < 4 then (t.val - 2) % 2 else 1) + q.val) / 64)
      rw [if_pos h]; omega
    · show q.val % 64 = (512 * (if t.val < 4 then (t.val - 2) % 2 else 1) + q.val) % 64
      rw [if_pos h]; omega
  · rw [if_neg (show ¬ t.val % 6 < 4 by omega)]
    have e : (sib t 3).val = 3 := by show 6 * (t.val / 6) + 3 = 3; omega
    refine (tN_at m c (sib t 3) (mk m c) (gain_k m c _ (by omega)) a q).trans (R_congr _ _ _ _ _ _ _ _ _ _ _ _ ?_ ?_)
    · show 512 * (sib t 3).val + 64 * (q.val / 64) = 1024 + 64 * ((512 * (if t.val < 4 then (t.val - 2) % 2 else 1) + q.val) / 64)
      rw [if_neg h, e]; omega
    · show q.val % 64 = (512 * (if t.val < 4 then (t.val - 2) % 2 else 1) + q.val) % 64
      rw [if_neg h]; omega

/-- The values. -/
theorem arr_v : (dats m 0 c).arrAt 10 cfg0.N = Gv (mx m c) (mg m c) (mw m c) := by
  refine (dats m 0 c).arrAt_eq_of_covers 10 _ (by decide +kernel) fun t hf y => ?_
  obtain ⟨a, q, rfl⟩ : ∃ (a : Fin 512) (q : Fin 512), y = ix2 a q := idx_out y
  rw [after_10, out_10]
  show tV m c t (ix2 a q) = _
  have hN : t.val < 6 := t.2
  have hf' : t.val % 6 = 4 ∨ t.val % 6 = 5 := of_decide_eq_true ((flush_10 t).symm.trans hf)
  unfold Gv
  refine (tV_at m c t a q).trans (congrArg (P (mx m c) (mg m c) (mw m c) (sq a) (pl a)) (Fin.ext ?_))
  show 512 * t.val + q.val = 2048 + (512 * ((t.val - 4) % 2) + q.val)
  omega

end Cert.QsV
end
-- ==== Proof.QsRef.lean ====
module

public import proofs.«01_k».proof.Proof.Gen.QkvSampleRefIdeal.Run
public import proofs.«01_k».proof.Proof.QsMath

@[expose] public section

set_option maxRecDepth 16384

/-! # The sample tokens' projection call: the reference's arrays -/

noncomputable section

namespace Cert.QsR

open Cert.QkvSampleRefIdeal Cert.QkvSampleRefIdeal.Gen Cert.QsV
open Idealize.ShloMosaic Idealize.ShloMosaic.TcCoe Idealize.ShloMosaic.Tactic Idealize.SL.Sem

variable (x : FVec Ideal S128x4x1024 .f32) (g : FVec Ideal S1024 .f32) (w : FVec Ideal S1024x3072 .f32) (u : FVec Ideal S64 .f32) (y z : FVec Ideal S128x4x16x64 .f32)

/-- The normalised rows. -/
def nrm : FVec Ideal S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

/-- The rows projected. -/
def prj : FVec Ideal S128x4x3072 .f32 := Host.dotGeneral dot_S128x4x1024_S1024x3072_S128x4x3072_2_0_01_1_n_n none (nrm x g) w

/-- The queries, -/
def pq : FVec Ideal S128x4x16x64 .f32 :=
  shapeCast _ (extractStridedSlice S128x4x1x16x64 ![0, 0, 0, 0, 0] (shapeCast _ (prj x g w) shapeCasts_S128x4x3072_S128x4x3x16x64) slices_S128x4x3x16x64_S128x4x1x16x64_0_0_0_0_0) shapeCasts_S128x4x1x16x64_S128x4x16x64
/-- the keys -/
def pk : FVec Ideal S128x4x16x64 .f32 :=
  shapeCast _ (extractStridedSlice S128x4x1x16x64 ![0, 0, 1, 0, 0] (shapeCast _ (prj x g w) shapeCasts_S128x4x3072_S128x4x3x16x64) slices_S128x4x3x16x64_S128x4x1x16x64_0_0_1_0_0) shapeCasts_S128x4x1x16x64_S128x4x16x64
/-- and the values. -/
def pv : FVec Ideal S128x4x16x64 .f32 :=
  shapeCast _ (extractStridedSlice S128x4x1x16x64 ![0, 0, 2, 0, 0] (shapeCast _ (prj x g w) shapeCasts_S128x4x3072_S128x4x3x16x64) slices_S128x4x3x16x64_S128x4x1x16x64_0_0_2_0_0) shapeCasts_S128x4x1x16x64_S128x4x16x64

/-- The heads normed. -/
def hnR : FVec Ideal S128x4x16x64 .f32 :=
  mulf (mulf y (broadcastInDim S128x4x16x64 ![0, 1, 2, 3] bcast_S128x4x16x1_S128x4x16x64_0_1_2_3 (Host.rsqrt (addf (Host.divf (broadcastInDim S128x4x16x1 ![0, 1, 2] bcast_S128x4x16_S128x4x16x1_0_1_2 (Host.reduceAdd (mulf y y) (constant S_ .f32 0x00000000#32) reducesTo_S128x4x16x64_S128x4x16_d3 h_S_)) (broadcastInDim S128x4x16x1 ![] bcast_S_S128x4x16x1 (constant S_ .f32 0x42800000#32))) (broadcastInDim S128x4x16x1 ![] bcast_S_S128x4x16x1 (constant S_ .f32 0x358637BD#32)))))) (broadcastInDim S128x4x16x64 ![0, 1, 2, 3] bcast_S1x1x1x64_S128x4x16x64_0_1_2_3 (broadcastInDim S1x1x1x64 ![3] bcast_S64_S1x1x1x64_3 u))

/-- The angles. -/
def an : FVec Ideal S4x8 .f32 :=
  mulf (broadcastInDim S4x8 ![0, 1] bcast_S4x1_S4x8_0_1 (broadcastInDim S4x1 ![0] bcast_S4_S4x1_0 (sitofp .f32 (addi (broadcastInDim S4 ![] bcast_S_S4 (constantI S_ 32 2048#32)) (iotaInDim S4 32 0))))) (broadcastInDim S4x8 ![0, 1] bcast_S1x8_S4x8_0_1 (broadcastInDim S1x8 ![1] bcast_S8_S1x8_1 (Host.powf (broadcastInDim S8 ![] bcast_S_S8 (constant S_ .f32 0x48F42400#32)) (Host.divf (mulf (broadcastInDim S8 ![] bcast_S_S8 (constant S_ .f32 0xC0000000#32)) (sitofp .f32 (iotaInDim S8 32 0))) (broadcastInDim S8 ![] bcast_S_S8 (constant S_ .f32 0x41800000#32))))))

/-- The heads turned. -/
def rp : FVec Ideal S128x4x16x64 .f32 :=
  concatenate S128x4x16x64 3 [⟨S128x4x16x8, subf (mulf (extractStridedSlice S128x4x16x8 ![0, 0, 0, 0] z slices_S128x4x16x64_S128x4x16x8_0_0_0_0) (broadcastInDim S128x4x16x8 ![0, 1, 2, 3] bcast_S1x4x1x8_S128x4x16x8_0_1_2_3 (broadcastInDim S1x4x1x8 ![1, 2, 3] bcast_S4x1x8_S1x4x1x8_1_2_3 (shapeCast _ (Host.cos an) shapeCasts_S4x8_S4x1x8)))) (mulf (extractStridedSlice S128x4x16x8 ![0, 0, 0, 8] z slices_S128x4x16x64_S128x4x16x8_0_0_0_8) (broadcastInDim S128x4x16x8 ![0, 1, 2, 3] bcast_S1x4x1x8_S128x4x16x8_0_1_2_3 (broadcastInDim S1x4x1x8 ![1, 2, 3] bcast_S4x1x8_S1x4x1x8_1_2_3 (shapeCast _ (Host.sin an) shapeCasts_S4x8_S4x1x8))))⟩, ⟨S128x4x16x8, addf (mulf (extractStridedSlice S128x4x16x8 ![0, 0, 0, 8] z slices_S128x4x16x64_S128x4x16x8_0_0_0_8) (broadcastInDim S128x4x16x8 ![0, 1, 2, 3] bcast_S1x4x1x8_S128x4x16x8_0_1_2_3 (broadcastInDim S1x4x1x8 ![1, 2, 3] bcast_S4x1x8_S1x4x1x8_1_2_3 (shapeCast _ (Host.cos an) shapeCasts_S4x8_S4x1x8)))) (mulf (extractStridedSlice S128x4x16x8 ![0, 0, 0, 0] z slices_S128x4x16x64_S128x4x16x8_0_0_0_0) (broadcastInDim S128x4x16x8 ![0, 1, 2, 3] bcast_S1x4x1x8_S128x4x16x8_0_1_2_3 (broadcastInDim S1x4x1x8 ![1, 2, 3] bcast_S4x1x8_S1x4x1x8_1_2_3 (shapeCast _ (Host.sin an) shapeCasts_S4x8_S4x1x8))))⟩,
    ⟨S128x4x16x48, extractStridedSlice S128x4x16x48 ![0, 0, 0, 16] z slices_S128x4x16x64_S128x4x16x48_0_0_0_16⟩] concatenates_S128x4x16x8_S128x4x16x8_S128x4x16x48_S128x4x16x64_d3

theorem nrm_at (a : Fin 128) (t : Fin 4) (l : Fin 1024) : nrm x g (ix3 a t l) = H x g a t l := by
  unfold H
  pointwise [nrm]

theorem prj_at (a : Fin 128) (t : Fin 4) (f : Fin 3072) : prj x g w (ix3 a t f) = P x g w a t f := by
  unfold P
  pointwise [prj]
  simp only [nrm_at]

theorem pq_at (a : Fin 128) (t : Fin 4) (n : Fin 16) (d : Fin 64) : pq x g w (ix4 a t n d) = P x g w a t ⟨64 * n.val + d.val, by omega⟩ := by
  have e : pq x g w (ix4 a t n d) = prj x g w (ix3 a t ⟨64 * n.val + d.val, by omega⟩) := by
    unfold pq
    generalize prj x g w = X
    pointwise
    exact congrArg (fun f => X (ix3 a t f)) (Fin.ext (by dsimp only; omega))
  rw [e, prj_at]
theorem pk_at (a : Fin 128) (t : Fin 4) (n : Fin 16) (d : Fin 64) : pk x g w (ix4 a t n d) = P x g w a t ⟨1024 + 64 * n.val + d.val, by omega⟩ := by
  have e : pk x g w (ix4 a t n d) = prj x g w (ix3 a t ⟨1024 + 64 * n.val + d.val, by omega⟩) := by
    unfold pk
    generalize prj x g w = X
    pointwise
    exact congrArg (fun f => X (ix3 a t f)) (Fin.ext (by dsimp only; omega))
  rw [e, prj_at]
theorem pv_at (a : Fin 128) (t : Fin 4) (n : Fin 16) (d : Fin 64) : pv x g w (ix4 a t n d) = P x g w a t ⟨2048 + 64 * n.val + d.val, by omega⟩ := by
  have e : pv x g w (ix4 a t n d) = prj x g w (ix3 a t ⟨2048 + 64 * n.val + d.val, by omega⟩) := by
    unfold pv
    generalize prj x g w = X
    pointwise
    exact congrArg (fun f => X (ix3 a t f)) (Fin.ext (by dsimp only; omega))
  rw [e, prj_at]

theorem hnR_at (a : Fin 128) (t : Fin 4) (n : Fin 16) (d : Fin 64) : hnR u y (ix4 a t n d) = hn (fun d => y (ix4 a t n d)) (fun d => u (ix1 d)) d := by
  unfold hn
  pointwise [hnR]

theorem an_at (t : Fin 4) (i : Fin 8) : an (ix2 t i) = ang t i := by
  unfold ang
  pointwise [an]

theorem rp_at (a : Fin 128) (t : Fin 4) (n : Fin 16) (d : Fin 64) : rp z (ix4 a t n d) = rope (fun d => z (ix4 a t n d)) t d := by
  unfold rope
  pointwise [rp]
  by_cases h : d.val < 8
  · rw [dif_pos h, dif_pos h]
    have e : (⟨8 + d.val, by omega⟩ : Fin 64) = ⟨d.val + 8, by omega⟩ := Fin.ext (Nat.add_comm _ _)
    rw [an_at, e]
  · rw [dif_neg h, dif_neg h]
    by_cases h' : d.val - 8 < 8
    · rw [dif_pos h', dif_pos h']
      have e : (⟨8 + (d.val - 8), by omega⟩ : Fin 64) = d := Fin.ext (by dsimp only; omega)
      rw [an_at, e]
    · rw [dif_neg h', dif_neg h']
      exact congrArg (fun k => z (ix4 a t n k)) (Fin.ext (by dsimp only; omega))

/-- The arrays of the results. -/
def rQ : FVec Ideal S512x1024 .f32 := shapeCast _ (rp (hnR u (pq x g w))) shapeCasts_S128x4x16x64_S512x1024
def rK : FVec Ideal S512x1024 .f32 := shapeCast _ (rp (hnR u (pk x g w))) shapeCasts_S128x4x16x64_S512x1024
def rV : FVec Ideal S512x1024 .f32 := shapeCast _ (pv x g w) shapeCasts_S128x4x16x64_S512x1024

theorem flat_at (r : Fin 512) (f : Fin 1024) : (shapeCast S512x1024 z shapeCasts_S128x4x16x64_S512x1024 : FVec Ideal S512x1024 .f32) (ix2 r f)
    = z (ix4 ⟨r.val / 4, by omega⟩ ⟨r.val % 4, by omega⟩ ⟨f.val / 64, by omega⟩ ⟨f.val % 64, by omega⟩) := by
  pointwise

theorem rQ_eq : rQ x g w u = Gq x g w u := by
  funext y
  obtain ⟨r, f, rfl⟩ : ∃ (r : Fin 512) (f : Fin 1024), y = ix2 r f := ⟨y 0, y 1, ValueIdx.eq_ix2 y⟩
  unfold rQ
  rw [flat_at, rp_at]
  refine congrArg (fun v => rope v (r.val % 4) ⟨f.val % 64, _⟩) (funext fun d => (hnR_at _ _ _ _ _ d).trans ?_)
  exact congrArg (fun v => hn v (fun d => u (ix1 d)) d) (funext fun k => pq_at x g w _ _ _ k)

theorem rK_eq : rK x g w u = Gk x g w u := by
  funext y
  obtain ⟨r, f, rfl⟩ : ∃ (r : Fin 512) (f : Fin 1024), y = ix2 r f := ⟨y 0, y 1, ValueIdx.eq_ix2 y⟩
  unfold rK
  rw [flat_at, rp_at]
  refine congrArg (fun v => rope v (r.val % 4) ⟨f.val % 64, _⟩) (funext fun d => (hnR_at _ _ _ _ _ d).trans ?_)
  exact congrArg (fun v => hn v (fun d => u (ix1 d)) d) (funext fun k => pk_at x g w _ _ _ k)

theorem rV_eq : rV x g w = Gv x g w := by
  funext y
  obtain ⟨r, f, rfl⟩ : ∃ (r : Fin 512) (f : Fin 1024), y = ix2 r f := ⟨y 0, y 1, ValueIdx.eq_ix2 y⟩
  unfold rV
  rw [flat_at, pv_at]
  refine congrArg (P x g w _ _) (Fin.ext ?_)
  show 2048 + 64 * (f.val / 64) + f.val % 64 = 2048 + f.val
  omega

section
variable (m : (ℓ : Loc nD τ sig) → Buf (Elt Ideal) ℓ) (c : Dev nD)

theorem out0_eq : Value.res_out0 m c = rQ (m ((c.tc : Thread nD τ).loc main_arg0)) (m ((c.tc : Thread nD τ).loc main_arg1)) (m ((c.tc : Thread nD τ).loc main_arg2)) (m ((c.tc : Thread nD τ).loc main_arg3)) := rfl
theorem out1_eq : Value.res_out1 m c = rK (m ((c.tc : Thread nD τ).loc main_arg0)) (m ((c.tc : Thread nD τ).loc main_arg1)) (m ((c.tc : Thread nD τ).loc main_arg2)) (m ((c.tc : Thread nD τ).loc main_arg4)) := rfl
/-- What a run leaves, by these names. -/
theorem run_named (ρ : Dev nD → PrngReg) : θ_run defs (onTc (τ := τ) (main (F := Ideal))) ⟨m, fun _ => 0, ρ⟩ fun r => ∀ c : Dev nD,
    r.2.mem ((c.tc : Thread nD τ).loc main_v120) = rQ (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v121) = rK (m ((c.tc : Thread nD τ).loc main_arg0)) (m ((c.tc : Thread nD τ).loc main_arg1)) (m ((c.tc : Thread nD τ).loc main_arg2)) (m ((c.tc : Thread nD τ).loc main_arg4))
    ∧ r.2.mem ((c.tc : Thread nD τ).loc main_v122) = rV (m ((c.tc : Thread nD τ).loc main_arg0)) (m ((c.tc : Thread nD τ).loc main_arg1)) (m ((c.tc : Thread nD τ).loc main_arg2)) :=
  (θ_run defs _ _).mono (fun _ h c => ⟨(h c).1.trans (out0_eq m c), (h c).2.1.trans (out1_eq m c), (h c).2.2.1⟩) (Value.run m ρ)
end

end Cert.QsR

end
-- ==== Proof.QsSame.lean ====
module

public import proofs.«01_k».proof.Proof.QsLaunch
public import proofs.«01_k».proof.Proof.Gen.QkvSample

@[expose] public section

set_option maxRecDepth 16384

/-! # The sample tokens' projection call: the two programs -/

noncomputable section

namespace Cert.QsP

open Idealize.ShloMosaic Idealize.ShloMosaic.TcCoe Idealize.SL.Sem

variable {F : FTy → Type} [FloatOps F]

/-- Both programs' steps are the same, a part at a time. -/
theorem part1_eq : @Cert.QkvSample.k0_part1 F _ Cert.QkvSample.Gen.facts = @Cert.QkvSampleIdeal.k0_part1 F _ Cert.QkvSampleIdeal.Gen.facts := rfl
theorem part2_eq : @Cert.QkvSample.k0_part2 F _ Cert.QkvSample.Gen.facts = @Cert.QkvSampleIdeal.k0_part2 F _ Cert.QkvSampleIdeal.Gen.facts := rfl
theorem part3_eq : @Cert.QkvSample.k0_part3 F _ Cert.QkvSample.Gen.facts = @Cert.QkvSampleIdeal.k0_part3 F _ Cert.QkvSampleIdeal.Gen.facts := rfl
theorem part4_eq : @Cert.QkvSample.k0_part4 F _ Cert.QkvSample.Gen.facts = @Cert.QkvSampleIdeal.k0_part4 F _ Cert.QkvSampleIdeal.Gen.facts := rfl
set_option maxHeartbeats 8000000 in
theorem step_eq : @Cert.QkvSample.cc0_norm_proj F _ Cert.QkvSample.Gen.facts = @Cert.QkvSampleIdeal.cc0_norm_proj F _ Cert.QkvSampleIdeal.Gen.facts := by
  unfold Cert.QkvSample.cc0_norm_proj Cert.QkvSampleIdeal.cc0_norm_proj
  simp only [part1_eq, part2_eq, part3_eq, part4_eq]
  rfl
set_option maxHeartbeats 8000000 in
theorem steps_eq : @Cert.QkvSample.defs₀ F _ Cert.QkvSample.Gen.facts = @Cert.QkvSampleIdeal.defs₀ F _ Cert.QkvSampleIdeal.Gen.facts := by
  unfold Cert.QkvSample.defs₀ Cert.QkvSampleIdeal.defs₀
  rw [step_eq]
  refine congrArg Defs.onTc (funext fun x => funext fun y => ?_)
  match x, y with
  | ⟨0, _⟩, (t, s) => rfl
  | ⟨n + 1, h⟩, _ => exact absurd h (Nat.not_lt.2 (Nat.le_add_left _ _))
set_option maxHeartbeats 8000000 in
theorem defs_eq : @Cert.QkvSample.defs F _ Cert.QkvSample.Gen.facts = @Cert.QkvSampleIdeal.defs F _ Cert.QkvSampleIdeal.Gen.facts := by
  show Pipeline.defs (@Cert.QkvSampleIdeal.pcfgs F Cert.QkvSampleIdeal.Gen.facts) (@Cert.QkvSample.defs₀ F _ Cert.QkvSample.Gen.facts) = Pipeline.defs (@Cert.QkvSampleIdeal.pcfgs F Cert.QkvSampleIdeal.Gen.facts) (@Cert.QkvSampleIdeal.defs₀ F _ Cert.QkvSampleIdeal.Gen.facts)
  exact congrArg (Pipeline.defs (@Cert.QkvSampleIdeal.pcfgs F Cert.QkvSampleIdeal.Gen.facts)) steps_eq

end Cert.QsP

end
-- ==== Proof.QsTop.lean ====
module

public import proofs.«01_k».proof.Proof.QsSpec
public import proofs.«01_k».proof.Proof.QsRef
public import proofs.«01_k».proof.Proof.QsSame
public import proofs.«01_k».proof.Defs

@[expose] public section

set_option maxRecDepth 16384

/-! # The sample tokens' projection call: the claims -/

noncomputable section

namespace Cert.QsP

open Idealize.ShloMosaic Idealize.ShloMosaic.TcCoe Idealize.SL.Sem

variable {F : FTy → Type} [FloatOps F]

set_option maxHeartbeats 4000000 in
/-- The projection call ends, its arguments unchanged and its counters at zero, over words. -/
theorem frame_bits : quiescent_QkvSample (hQkvSample := Cert.QkvSample.Gen.facts) :=
  fun m g _ => by
    have f := Cert.QsK.frame_any (F := Bits) m g
    rw [← defs_eq] at f
    exact f

/-- The same over the extended reals. -/
theorem frame_ideal : quiescent_QkvSampleIdeal (hQkvSampleIdeal := Cert.QkvSampleIdeal.Gen.facts) :=
  fun m g _ => Cert.QsK.frame_any (F := Ideal) m g

/-- The reference ends, its arguments unchanged and its counters at zero. -/
theorem frame_ref : quiescent_QkvSampleRefIdeal (hQkvSampleRefIdeal := Cert.QkvSampleRefIdeal.Gen.facts) :=
  fun m g _ => (θ_run (Cert.QkvSampleRefIdeal.defs (F := Ideal)) _ _).mono
    (fun r h => ⟨fun c => (h c).2.2.2, sem_eq_zero_of_no_sems (by decide) r.2⟩) (Cert.QkvSampleRefIdeal.Value.run m g)

set_option maxHeartbeats 4000000 in
/-- The projection call: kernel and reference give the same arrays. -/
theorem algebraic_qkv : algebraic_QkvSampleIdeal_QkvSampleRefIdeal
    (hQkvSampleIdeal := Cert.QkvSampleIdeal.Gen.facts) (hQkvSampleRefIdeal := Cert.QkvSampleRefIdeal.Gen.facts) := by
  intro m g m' g' _ hm
  refine ⟨fun c => (Cert.QsK.dats m 0 c).arrAt 8 Cert.QkvSampleIdeal.cfg0.N, fun c => (Cert.QsK.dats m 0 c).arrAt 9 Cert.QkvSampleIdeal.cfg0.N,
    fun c => (Cert.QsK.dats m 0 c).arrAt 10 Cert.QkvSampleIdeal.cfg0.N, ?_, ?_⟩
  · refine (θ_run _ _ _).mono (fun r h c => ?_) (θ_run_and (Cert.QsK.run_post m g) (Cert.QsK.frame_any m g))
    obtain ⟨h0, h1, h2⟩ := h.1 c
    exact ⟨h0, h1, h2, h.2.1 c⟩
  · refine (θ_run _ _ _).mono (fun r h c => ?_) (θ_run_and (Cert.QsR.run_named m' g') (Cert.QkvSampleRefIdeal.Value.run m' g'))
    obtain ⟨v0, v1, v2⟩ := h.1 c
    obtain ⟨e0, e1, e2, e3, e4⟩ := hm c
    refine ⟨v0.trans ?_, v1.trans ?_, v2.trans ?_, (h.2 c).2.2.2⟩
    · rw [e0, e1, e2, e3]
      exact (Cert.QsR.rQ_eq _ _ _ _).trans (Cert.QsV.arr_q m c).symm
    · rw [e0, e1, e2, e4]
      exact (Cert.QsR.rK_eq _ _ _ _).trans (Cert.QsV.arr_k m c).symm
    · exact ((congr (congr (congrArg Cert.QsR.rV e0) e1) e2).trans (Cert.QsR.rV_eq _ _ _)).trans (Cert.QsV.arr_v m c).symm

end Cert.QsP

end
-- ==== Proof.lean ====
module

public import proofs.«01_k».proof.Proof.Gen.DilSampleIdeal.Value
public import proofs.«01_k».proof.Proof.Gen.DilSampleRefIdeal.Run
public import proofs.«01_k».proof.Defs
public import proofs.«01_k».proof.Proof.Gen.DilSample
public import proofs.«01_k».proof.Proof.Gen.DilSample.Skeleton
public import proofs.«01_k».proof.Proof.Gen.DilSample.Launch
public import proofs.«01_k».proof.Proof.Gen.DilSample.Points
public import proofs.«01_k».proof.Proof.Gen.DilSample.Frame
public import proofs.«01_k».proof.Proof.Gen.DilSampleIdeal
public import proofs.«01_k».proof.Proof.Gen.DilSampleIdeal.Skeleton
public import proofs.«01_k».proof.Proof.Gen.DilSampleIdeal.Launch
public import proofs.«01_k».proof.Proof.Gen.DilSampleIdeal.Points
public import proofs.«01_k».proof.Proof.Gen.DilSampleIdeal.Frame
public import proofs.«01_k».proof.Proof.Gen.DilSampleRefIdeal
public import proofs.«01_k».proof.Proof.Gen.Pre_ds_finite
public import proofs.«01_k».proof.Proof.DsArr
public import proofs.«01_k».proof.Proof.Gen.DenseFfn.Frame
public import proofs.«01_k».proof.Proof.Gen.DenseFfnIdeal.Frame
public import proofs.«01_k».proof.Proof.Gen.DenseFfnIdeal.Value
public import proofs.«01_k».proof.Proof.Gen.DenseFfnRefIdeal.Run
public import proofs.«01_k».proof.Proof.FfRef
public import proofs.«01_k».proof.Proof.MgPre
public import proofs.«01_k».proof.Proof.MgRef
public import proofs.«01_k».proof.Proof.MdPre
public import proofs.«01_k».proof.Proof.MdRef
public import proofs.«01_k».proof.Proof.Gen.MoeGu.Skeleton
public import proofs.«01_k».proof.Proof.Gen.MoeGu.Launch
public import proofs.«01_k».proof.Proof.Gen.MoeGuIdeal.Skeleton
public import proofs.«01_k».proof.Proof.Gen.MoeGuIdeal.Launch
public import proofs.«01_k».proof.Proof.Gen.MoeGuRefIdeal.Run
public import proofs.«01_k».proof.Proof.Gen.Pre_moe_gu_tiles
public import proofs.«01_k».proof.Proof.Gen.MoeDown.Skeleton
public import proofs.«01_k».proof.Proof.Gen.MoeDown.Launch
public import proofs.«01_k».proof.Proof.Gen.MoeDownIdeal.Skeleton
public import proofs.«01_k».proof.Proof.Gen.MoeDownIdeal.Launch
public import proofs.«01_k».proof.Proof.Gen.MoeDownRefIdeal.Run
public import proofs.«01_k».proof.Proof.Gen.Pre_moe_down_tiles
public import proofs.«01_k».proof.Proof.QsTop
public import proofs.«01_k».proof.Proof.Gen.QkvSample.Launch
public import proofs.«01_k».proof.Proof.Gen.QkvSampleIdeal.Skeleton
public import proofs.«01_k».proof.Proof.Gen.QkvSampleIdeal.Frame
public import proofs.«01_k».proof.Proof.Gen.QkvSampleIdeal.Points
public import proofs.«01_k».proof.Proof.Gen.QkvSampleRefIdeal.Run
public import Idealize.ShloMosaic.Adequacy
public import Idealize.ShloMosaic.Init

@[expose] public section

noncomputable section

namespace Cert.Proof

open Idealize.ShloMosaic Idealize.SL.Sem Cert.DilSample

/-- The dilated attention's reference ends, its arguments unchanged and its counters at zero. -/
theorem frame_ds_ref : quiescent_DilSampleRefIdeal (hDilSampleRefIdeal := Cert.DilSampleRefIdeal.Gen.facts) :=
  fun m g _ => (θ_run (Cert.DilSampleRefIdeal.defs (F := Ideal)) _ _).mono
    (fun r h => ⟨fun c => (h c).2, sem_eq_zero_of_no_sems (by decide) r.2⟩) (Cert.DilSampleRefIdeal.Value.run m g)

/-- The dilated attention: kernel and reference give the same array from real inputs. -/
theorem algebraic_ds : algebraic_DilSampleIdeal_DilSampleRefIdeal_pre_ds_finite
    (hDilSampleIdeal := Cert.DilSampleIdeal.Gen.facts) (hDilSampleRefIdeal := Cert.DilSampleRefIdeal.Gen.facts) (hPre_ds_finite := Cert.Pre_ds_finite.Gen.facts) := by
  intro m g m' g' hpre hm
  refine ⟨fun c => (Cert.DilSampleIdeal.Gen.dats m 0 c).arrAt 5 Cert.DilSampleIdeal.cfg0.N, Cert.DilSampleIdeal.Value.run_blocks m g, ?_⟩
  refine (θ_run _ _ _).mono (fun r h c => ?_) (Cert.DsTop.ref_run m' g')
  obtain ⟨hv, k0, k1, k2, k3, k4⟩ := h c
  obtain ⟨e0, e1, e2, e3, e4⟩ := hm c
  have hf := Cert.DsTop.fin5 _ _ _ _ _ (hpre c)
  refine ⟨?_, k0, k1, k2, k3, k4⟩
  rw [hv, e0, e1, e2, e3, e4]
  exact (Cert.DsTop.refA_eq _ _ _ _ _ hf).trans (Cert.DsTop.kernel_arr m c hf).symm

/-- The dense feed-forward layer's reference ends, its arguments unchanged and its counters at zero. -/
theorem frame_ffn_ref : quiescent_DenseFfnRefIdeal (hDenseFfnRefIdeal := Cert.DenseFfnRefIdeal.Gen.facts) :=
  fun m g _ => (θ_run (Cert.DenseFfnRefIdeal.defs (F := Ideal)) _ _).mono
    (fun r h => ⟨fun c => (h c).2, sem_eq_zero_of_no_sems (by decide) r.2⟩) (Cert.DenseFfnRefIdeal.Value.run m g)

/-- The dense feed-forward layer: kernel and reference give the same array. -/
theorem algebraic_ffn : algebraic_DenseFfnIdeal_DenseFfnRefIdeal
    (hDenseFfnIdeal := Cert.DenseFfnIdeal.Gen.facts) (hDenseFfnRefIdeal := Cert.DenseFfnRefIdeal.Gen.facts) := by
  intro m g m' g' _ hm
  refine ⟨fun c => (Cert.DenseFfnIdeal.Gen.dats m 0 c).arrAt 5 Cert.DenseFfnIdeal.cfg0.N, Cert.DenseFfnIdeal.Value.run_blocks m g, ?_⟩
  refine (θ_run _ _ _).mono (fun r h c => ?_) (Cert.DenseFfnRefIdeal.Value.run m' g')
  obtain ⟨hv, k0, k1, k2, k3⟩ := h c
  obtain ⟨e0, e1, e2, e3⟩ := hm c
  refine ⟨hv.trans ?_, k0, k1, k2, k3⟩
  rw [e0, e1, e2, e3]
  exact (Cert.FfR.ref_eq _ _ _ _).trans (Cert.FfK.kernel_arr m c).symm

/-- The experts' gate and up reference ends, its arguments unchanged and its counters at zero. -/
theorem frame_gu_ref : quiescent_MoeGuRefIdeal (hMoeGuRefIdeal := Cert.MoeGuRefIdeal.Gen.facts) :=
  fun m g _ => (θ_run (Cert.MoeGuRefIdeal.defs (F := Ideal)) _ _).mono
    (fun r h => ⟨fun c => (h c).2, sem_eq_zero_of_no_sems (by decide) r.2⟩) (Cert.MoeGuRefIdeal.Value.run m g)

/-- The experts' gate and up call: kernel and reference give the same array. -/
theorem algebraic_gu : algebraic_MoeGuIdeal_MoeGuRefIdeal
    (hMoeGuIdeal := Cert.MoeGuIdeal.Gen.facts) (hMoeGuRefIdeal := Cert.MoeGuRefIdeal.Gen.facts) (hPre_moe_gu_tiles := Cert.Pre_moe_gu_tiles.Gen.facts) := by
  intro m g m' g' hpre hm
  have hG := Cert.MgP.good m hpre
  have hO := Cert.MgK.ok_of_good m hG
  refine ⟨fun c => (Cert.MgK.dats m hO 0 c).arrAt 3 (Cert.MgK.cfgM m hO).N,
    (θ_run _ _ _).mono (fun r h c => h.1 c) (Cert.MgK.run_post m g hO hG), ?_⟩
  refine (θ_run _ _ _).mono (fun r h c => ?_) (Cert.MoeGuRefIdeal.Value.run m' g')
  obtain ⟨hv, k0, k1, k2, k3⟩ := h c
  obtain ⟨e0, e1, e2, e3⟩ := hm c
  obtain rfl : c = 0 := Subsingleton.elim _ _
  refine ⟨hv.trans ?_, k0, k1, k2, k3⟩
  rw [e0, e1, e2, e3]
  exact (Cert.MgR.ref_eq _ _ _ _ hG.e).trans (Cert.MgV.kernel_arr m 0 hO hG).symm

/-- The experts' down reference ends, its arguments unchanged and its counters at zero. -/
theorem frame_down_ref : quiescent_MoeDownRefIdeal (hMoeDownRefIdeal := Cert.MoeDownRefIdeal.Gen.facts) :=
  fun m g _ => (θ_run (Cert.MoeDownRefIdeal.defs (F := Ideal)) _ _).mono
    (fun r h => ⟨fun c => (h c).2, sem_eq_zero_of_no_sems (by decide) r.2⟩) (Cert.MoeDownRefIdeal.Value.run m g)

/-- The experts' down call: kernel and reference give the same array. -/
theorem algebraic_down : algebraic_MoeDownIdeal_MoeDownRefIdeal
    (hMoeDownIdeal := Cert.MoeDownIdeal.Gen.facts) (hMoeDownRefIdeal := Cert.MoeDownRefIdeal.Gen.facts) (hPre_moe_down_tiles := Cert.Pre_moe_down_tiles.Gen.facts) := by
  intro m g m' g' hpre hm
  have hG := Cert.MdP.good m hpre
  have hO := Cert.MdK.ok_of_good m hG
  refine ⟨fun c => (Cert.MdK.dats m hO 0 c).arrAt 2 (Cert.MdK.cfgM m hO).N,
    (θ_run _ _ _).mono (fun r h c => h.1 c) (Cert.MdK.run_post m g hO hG), ?_⟩
  refine (θ_run _ _ _).mono (fun r h c => ?_) (Cert.MoeDownRefIdeal.Value.run m' g')
  obtain ⟨hv, k0, k1, k2, k3⟩ := h c
  obtain ⟨e0, e1, e2, e3⟩ := hm c
  obtain rfl : c = 0 := Subsingleton.elim _ _
  refine ⟨hv.trans ?_, k0, k1, k2, k3⟩
  rw [e0, e1, e2, e3]
  exact (Cert.MdR.ref_eq _ _ _ _ hG.e).trans (Cert.MdV.kernel_arr m 0 hO hG).symm

theorem claim : Cert.Claim := ⟨Cert.DilSample.Gen.facts, Cert.DilSampleIdeal.Gen.facts, Cert.DilSampleRefIdeal.Gen.facts, Cert.DenseFfn.Gen.facts, Cert.DenseFfnIdeal.Gen.facts, Cert.DenseFfnRefIdeal.Gen.facts, Cert.MoeGu.Gen.facts, Cert.MoeGuIdeal.Gen.facts, Cert.MoeGuRefIdeal.Gen.facts, Cert.MoeDown.Gen.facts, Cert.MoeDownIdeal.Gen.facts, Cert.MoeDownRefIdeal.Gen.facts,
  Cert.QkvSample.Gen.facts, Cert.QkvSampleIdeal.Gen.facts, Cert.QkvSampleRefIdeal.Gen.facts,
  Cert.Pre_ds_finite.Gen.facts, Cert.Pre_moe_gu_tiles.Gen.facts, Cert.Pre_moe_down_tiles.Gen.facts,
  fun m ρ _ => Cert.DilSample.Gen.frame m ρ,
  fun m ρ _ => Cert.DilSampleIdeal.Gen.frame m ρ,
  fun m ρ _ => Cert.DilSampleIdeal.Gen.frame m ρ,
  frame_ds_ref,
  fun m ρ _ => frame_ds_ref m ρ trivial,
  fun m ρ _ => Cert.DenseFfn.Gen.frame m ρ,
  fun m ρ _ => Cert.DenseFfnIdeal.Gen.frame m ρ,
  frame_ffn_ref,
  Cert.MgP.frame_bits,
  Cert.MgP.frame_ideal,
  frame_gu_ref,
  fun m ρ _ => frame_gu_ref m ρ trivial,
  Cert.MdP.frame_bits,
  Cert.MdP.frame_ideal,
  frame_down_ref,
  fun m ρ _ => frame_down_ref m ρ trivial,
  Cert.QsP.frame_bits,
  Cert.QsP.frame_ideal,
  Cert.QsP.frame_ref,
  trivial, algebraic_ds, trivial, algebraic_ffn, trivial, algebraic_gu, trivial, algebraic_down, trivial, Cert.QsP.algebraic_qkv⟩

end Cert.Proof

end
